-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range_KernelIdeal [hPre_finite_and_in_range_KernelIdeal : Cert.Pre_finite_and_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range_ReferenceIdeal [hPre_finite_and_in_range_ReferenceIdeal : Cert.Pre_finite_and_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_and_in_range_KernelIdeal [hKernelIdeal : Cert.KernelIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_and_in_range_ReferenceIdeal [hReferenceIdeal : Cert.ReferenceIdeal.Facts] [hPre_finite_and_in_range_ReferenceIdeal : Cert.Pre_finite_and_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_and_in_range_KernelIdeal [hKernelIdeal : Cert.KernelIdeal.Facts] [hReferenceIdeal : Cert.ReferenceIdeal.Facts] [hPre_finite_and_in_range_KernelIdeal : Cert.Pre_finite_and_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v72) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_and_in_range_KernelIdeal : Cert.Pre_finite_and_in_range_KernelIdeal.Facts) (hPre_finite_and_in_range_ReferenceIdeal : Cert.Pre_finite_and_in_range_ReferenceIdeal.Facts),
    quiescent_Kernel (hKernel := hKernel)
    ∧ quiescent_KernelIdeal (hKernelIdeal := hKernelIdeal)
    ∧ quiescent_KernelIdeal_pre_finite_and_in_range_KernelIdeal (hKernelIdeal := hKernelIdeal) (hPre_finite_and_in_range_KernelIdeal := hPre_finite_and_in_range_KernelIdeal)
    ∧ quiescent_ReferenceIdeal (hReferenceIdeal := hReferenceIdeal)
    ∧ quiescent_ReferenceIdeal_pre_finite_and_in_range_ReferenceIdeal (hReferenceIdeal := hReferenceIdeal) (hPre_finite_and_in_range_ReferenceIdeal := hPre_finite_and_in_range_ReferenceIdeal)
    ∧ preserves_Kernel_KernelIdeal
    ∧ algebraic_KernelIdeal_ReferenceIdeal_pre_finite_and_in_range_KernelIdeal (hKernelIdeal := hKernelIdeal) (hReferenceIdeal := hReferenceIdeal) (hPre_finite_and_in_range_KernelIdeal := hPre_finite_and_in_range_KernelIdeal)
-- ==== Pre_finite_and_in_range_KernelIdeal.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x512 .bf16) (main_arg1 : FVec F S512x32 .bf16) (main_arg2 : IVec S2048x2 32) (main_arg3 : FVec F S4x512x1024 .bf16) : IVec S_ 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 1 := constantI S_ 1 1#1
  let main_v11 : IVec S_ 1 := (fun x v => Host.reduce IntOp.andi x v reducesTo_S2048x2_S_d0_1 h_S_) main_v10 main_c_3
  let main_v12 : IVec S_ 1 := andi main_v8 main_v11
  let main_c_4 : IVec S_ 32 := constantI S_ 32 32#32
  let main_v13 : IVec S2048x2 32 := broadcastInDim S2048x2 ![] bcast_S_S2048x2 main_c_4
  let main_v14 : IVec S2048x2 1 := cmpi .slt main_arg2 main_v13
  let main_c_5 : IVec S_ 1 := constantI S_ 1 1#1
  let main_v15 : IVec S_ 1 := (fun x v => Host.reduce IntOp.andi x v reducesTo_S2048x2_S_d0_1 h_S_) main_v14 main_c_5
  fn_part1 (F := F) main_v12 main_v15
-- ==== Pre_finite_and_in_range_ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x512 .bf16) (main_arg1 : FVec F S512x32 .bf16) (main_arg2 : IVec S2048x2 32) (main_arg3 : FVec F S32x512x1024 .bf16) : IVec S_ 1 :=
  let main_v0 : FVec F S2048x512 .bf16 := Host.absf main_arg0
  let main_cst : FVec F S_ .bf16 := constant S_ .bf16 0x7F80#16
  let main_v1 : FVec F S2048x512 .bf16 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x32 .bf16 := Host.absf main_arg1
  let main_cst_0 : FVec F S_ .bf16 := constant S_ .bf16 0x7F80#16
  let main_v5 : FVec F S512x32 .bf16 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_c_2 : IVec S_ 32 := constantI S_ 32 0#32
  let main_v9 : IVec S2048x2 32 := broadcastInDim S2048x2 ![] bcast_S_S2048x2 main_c_2
  let main_v10 : IVec S2048x2 1 := cmpi .sge main_arg2 main_v9
  let main_c_3 : IVec S_ 1 := constantI S_ 1 1#1
  let main_v11 : IVec S_ 1 := (fun x v => Host.reduce IntOp.andi x v reducesTo_S2048x2_S_d0_1 h_S_) main_v10 main_c_3
  let main_v12 : IVec S_ 1 := andi main_v8 main_v11
  let main_c_4 : IVec S_ 32 := constantI S_ 32 32#32
  let main_v13 : IVec S2048x2 32 := broadcastInDim S2048x2 ![] bcast_S_S2048x2 main_c_4
  let main_v14 : IVec S2048x2 1 := cmpi .slt main_arg2 main_v13
  let main_c_5 : IVec S_ 1 := constantI S_ 1 1#1
  let main_v15 : IVec S_ 1 := (fun x v => Host.reduce IntOp.andi x v reducesTo_S2048x2_S_d0_1 h_S_) main_v14 main_c_5
  fn_part1 (F := F) main_v12 main_v15
-- ==== Kernel.lean ====
abbrev S2048x512 : Shape := ⟨2, ![2048, 512]⟩
abbrev S512x32 : Shape := ⟨2, ![512, 32]⟩
abbrev S2048x2 : Shape := ⟨2, ![2048, 2]⟩
abbrev S4x512x1024 : Shape := ⟨3, ![4, 512, 1024]⟩
abbrev S2048x1024 : Shape := ⟨2, ![2048, 1024]⟩
abbrev S2048x32 : Shape := ⟨2, ![2048, 32]⟩
abbrev S512x1024 : Shape := ⟨2, ![512, 1024]⟩
abbrev S4x4x128x1024 : Shape := ⟨4, ![4, 4, 128, 1024]⟩
abbrev S2x128x1024 : Shape := ⟨3, ![2, 128, 1024]⟩
abbrev S4x4 : Shape := ⟨2, ![4, 4]⟩
abbrev S2 : Shape := ⟨1, ![2]⟩
abbrev S4x3 : Shape := ⟨2, ![4, 3]⟩
abbrev S_ : Shape := ⟨0, ![]⟩
abbrev S256x32 : Shape := ⟨2, ![256, 32]⟩
abbrev S256x2 : Shape := ⟨2, ![256, 2]⟩
abbrev S256x1 : Shape := ⟨2, ![256, 1]⟩
abbrev S256 : Shape := ⟨1, ![256]⟩
abbrev S256x512 : Shape := ⟨2, ![256, 512]⟩
abbrev S256x2048 : Shape := ⟨2, ![256, 2048]⟩
abbrev S256x1024 : Shape := ⟨2, ![256, 1024]⟩
abbrev S128x1024 : Shape := ⟨2, ![128, 1024]⟩
abbrev S1x1x128x1024 : Shape := ⟨4, ![1, 1, 128, 1024]⟩
abbrev S1x1 : Shape := ⟨2, ![1, 1]⟩
abbrev S1 : Shape := ⟨1, ![1]⟩
abbrev S1x128x1024 : Shape := ⟨3, ![1, 128, 1024]⟩

abbrev nBuf : Space → Nat
  | .hbm => 5
  | .vmem => 9
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S4x512x1024, .bf16⟩
  | .hbm, ⟨4, _⟩ => ⟨S2048x1024, .bf16⟩
  | .local _ .vmem, ⟨0, _⟩ => ⟨S2048x512, .bf16⟩
  | .local _ .vmem, ⟨1, _⟩ => ⟨S512x32, .bf16⟩
  | .local _ .vmem, ⟨2, _⟩ => ⟨S2048x2, .i32⟩
  | .local _ .vmem, ⟨3, _⟩ => ⟨S4x512x1024, .bf16⟩
  | .local _ .vmem, ⟨4, _⟩ => ⟨S2048x1024, .bf16⟩
  | .local _ .vmem, ⟨5, _⟩ => ⟨S2048x32, .f32⟩
  | .local _ .vmem, ⟨6, _⟩ => ⟨S512x1024, .bf16⟩
  | .local _ .vmem, ⟨7, _⟩ => ⟨S4x4x128x1024, .bf16⟩
  | .local _ .vmem, ⟨8, _⟩ => ⟨S2x128x1024, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 1 69 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_16 : BitVec 32 := 1#32
  let v33 : BitVec 32 := Scalar.muli v29 c1_i32_16
  let v34 : BitVec 32 := Scalar.addi c0_i32_17 v33
  v34.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_19 : BitVec 32 := 1#32
  let v35 : BitVec 32 := Scalar.muli v24 c1_i32_19
  let v36 : BitVec 32 := Scalar.addi c0_i32_20 v35
  v36.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v30 : BitVec 32 := Scalar.addi v2 c4_i32_13
  let c8_i32_14 : BitVec 32 := 8#32
  let v31 : BitVec 32 := Scalar.remsi v30 c8_i32_14
  let c1_i32_22 : BitVec 32 := 1#32
  let v37 : BitVec 32 := Scalar.muli v31 c1_i32_22
  let v38 : BitVec 32 := Scalar.addi c0_i32_23 v37
  v38.toNat
def k0_off1 (d0 : Dev nD) : Fin 2 → Nat :=
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v50 : BitVec 32 := Scalar.muli c2_i32 v20
  let c256_i32 : BitVec 32 := 256#32
  let v55 : BitVec 32 := Scalar.muli v50 c256_i32
  let v56 : Index := Scalar.indexCast v55
  let c0_36 : Index := 0#32
  ![v56.toNat, 0]
def k0_off2 (d0 : Dev nD) : Fin 2 → Nat :=
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v50 : BitVec 32 := Scalar.muli c2_i32 v20
  let c256_i32 : BitVec 32 := 256#32
  let v55 : BitVec 32 := Scalar.muli v50 c256_i32
  let v58 : Index := Scalar.indexCast v55
  let c0_37 : Index := 0#32
  ![v58.toNat, 0]
def k0_off3 (d0 : Dev nD) : Fin 2 → Nat :=
  let c2_i32 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v50 : BitVec 32 := Scalar.muli c2_i32 v20
  let c256_i32 : BitVec 32 := 256#32
  let v55 : BitVec 32 := Scalar.muli v50 c256_i32
  let v85 : Index := Scalar.indexCast v55
  let c0_42 : Index := 0#32
  ![v85.toNat, 0]
def k0_dev4 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_68 : BitVec 32 := 1#32
  let v162 : BitVec 32 := Scalar.muli v24 c1_i32_68
  let v163 : BitVec 32 := Scalar.addi c0_i32_69 v162
  v163.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_86 : BitVec 32 := 1#32
  let v176 : BitVec 32 := Scalar.muli v24 c1_i32_86
  let v177 : BitVec 32 := Scalar.addi c0_i32_87 v176
  v177.toNat
def k0_off4 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_32 : BitVec 32 := 2#32
  let v51 : BitVec 32 := Scalar.addi v20 c2_i32_32
  let c4_i32_33 : BitVec 32 := 4#32
  let v52 : BitVec 32 := Scalar.remsi v51 c4_i32_33
  let v53 : BitVec 32 := Scalar.muli c2_i32_34 v52
  let c1_i32_35 : BitVec 32 := 1#32
  let v54 : BitVec 32 := Scalar.addi v53 c1_i32_35
  let c256_i32_92 : BitVec 32 := 256#32
  let v186 : BitVec 32 := Scalar.muli v54 c256_i32_92
  let v187 : Index := Scalar.indexCast v186
  let c0_93 : Index := 0#32
  ![v187.toNat, 0]
def k0_off5 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_32 : BitVec 32 := 2#32
  let v51 : BitVec 32 := Scalar.addi v20 c2_i32_32
  let c4_i32_33 : BitVec 32 := 4#32
  let v52 : BitVec 32 := Scalar.remsi v51 c4_i32_33
  let v53 : BitVec 32 := Scalar.muli c2_i32_34 v52
  let c1_i32_35 : BitVec 32 := 1#32
  let v54 : BitVec 32 := Scalar.addi v53 c1_i32_35
  let c256_i32_92 : BitVec 32 := 256#32
  let v186 : BitVec 32 := Scalar.muli v54 c256_i32_92
  let v189 : Index := Scalar.indexCast v186
  let c0_94 : Index := 0#32
  ![v189.toNat, 0]
def k0_off6 (d0 : Dev nD) : Fin 2 → Nat :=
  let c2_i32_34 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c2_i32_32 : BitVec 32 := 2#32
  let v51 : BitVec 32 := Scalar.addi v20 c2_i32_32
  let c4_i32_33 : BitVec 32 := 4#32
  let v52 : BitVec 32 := Scalar.remsi v51 c4_i32_33
  let v53 : BitVec 32 := Scalar.muli c2_i32_34 v52
  let c1_i32_35 : BitVec 32 := 1#32
  let v54 : BitVec 32 := Scalar.addi v53 c1_i32_35
  let c256_i32_92 : BitVec 32 := 256#32
  let v186 : BitVec 32 := Scalar.muli v54 c256_i32_92
  let v216 : Index := Scalar.indexCast v186
  let c0_99 : Index := 0#32
  ![v216.toNat, 0]
def k0_dev6 (d0 : Dev nD) : Nat :=
  let c0_i32_124 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_123 : BitVec 32 := 1#32
  let v293 : BitVec 32 := Scalar.muli v29 c1_i32_123
  let v294 : BitVec 32 := Scalar.addi c0_i32_124 v293
  v294.toNat
def k0_dev7 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_141 : BitVec 32 := 1#32
  let v307 : BitVec 32 := Scalar.muli v29 c1_i32_141
  let v308 : BitVec 32 := Scalar.addi c0_i32_142 v307
  v308.toNat
def k0_off7 (d0 : Dev nD) (c0_i32_148 : BitVec 32) : Fin 2 → Nat :=
  let c2_i32_151 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c4_i32_147 : BitVec 32 := 4#32
  let v317 : BitVec 32 := Scalar.addi v20 c4_i32_147
  let v318 : BitVec 32 := Scalar.subi v317 c0_i32_148
  let c1_i32_149 : BitVec 32 := 1#32
  let v319 : BitVec 32 := Scalar.subi v318 c1_i32_149
  let c4_i32_150 : BitVec 32 := 4#32
  let v320 : BitVec 32 := Scalar.remsi v319 c4_i32_150
  let v321 : BitVec 32 := Scalar.muli c2_i32_151 v320
  let c256_i32_152 : BitVec 32 := 256#32
  let v322 : BitVec 32 := Scalar.muli v321 c256_i32_152
  let v323 : Index := Scalar.indexCast v322
  let c0_153 : Index := 0#32
  ![v323.toNat, 0]
def k0_off8 (d0 : Dev nD) (c0_i32_148 : BitVec 32) : Fin 2 → Nat :=
  let c2_i32_151 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c4_i32_147 : BitVec 32 := 4#32
  let v317 : BitVec 32 := Scalar.addi v20 c4_i32_147
  let v318 : BitVec 32 := Scalar.subi v317 c0_i32_148
  let c1_i32_149 : BitVec 32 := 1#32
  let v319 : BitVec 32 := Scalar.subi v318 c1_i32_149
  let c4_i32_150 : BitVec 32 := 4#32
  let v320 : BitVec 32 := Scalar.remsi v319 c4_i32_150
  let v321 : BitVec 32 := Scalar.muli c2_i32_151 v320
  let c256_i32_152 : BitVec 32 := 256#32
  let v322 : BitVec 32 := Scalar.muli v321 c256_i32_152
  let v325 : Index := Scalar.indexCast v322
  let c0_154 : Index := 0#32
  ![v325.toNat, 0]
def k0_off9 (d0 : Dev nD) (c0_i32_148 : BitVec 32) : Fin 2 → Nat :=
  let c2_i32_151 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c4_i32_147 : BitVec 32 := 4#32
  let v317 : BitVec 32 := Scalar.addi v20 c4_i32_147
  let v318 : BitVec 32 := Scalar.subi v317 c0_i32_148
  let c1_i32_149 : BitVec 32 := 1#32
  let v319 : BitVec 32 := Scalar.subi v318 c1_i32_149
  let c4_i32_150 : BitVec 32 := 4#32
  let v320 : BitVec 32 := Scalar.remsi v319 c4_i32_150
  let v321 : BitVec 32 := Scalar.muli c2_i32_151 v320
  let c256_i32_152 : BitVec 32 := 256#32
  let v322 : BitVec 32 := Scalar.muli v321 c256_i32_152
  let v352 : Index := Scalar.indexCast v322
  let c0_159 : Index := 0#32
  ![v352.toNat, 0]
def k0_off10 (d0 : Dev nD) (c0_i32_171 : BitVec 32) : Fin 2 → Nat :=
  let c2_i32_174 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v425 : BitVec 32 := Scalar.addi v20 c0_i32_171
  let c3_i32_172 : BitVec 32 := 3#32
  let v426 : BitVec 32 := Scalar.addi v425 c3_i32_172
  let c4_i32_173 : BitVec 32 := 4#32
  let v427 : BitVec 32 := Scalar.remsi v426 c4_i32_173
  let v428 : BitVec 32 := Scalar.muli c2_i32_174 v427
  let c1_i32_175 : BitVec 32 := 1#32
  let v429 : BitVec 32 := Scalar.addi v428 c1_i32_175
  let c256_i32_176 : BitVec 32 := 256#32
  let v430 : BitVec 32 := Scalar.muli v429 c256_i32_176
  let v431 : Index := Scalar.indexCast v430
  let c0_177 : Index := 0#32
  ![v431.toNat, 0]
def k0_off11 (d0 : Dev nD) (c0_i32_171 : BitVec 32) : Fin 2 → Nat :=
  let c2_i32_174 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v425 : BitVec 32 := Scalar.addi v20 c0_i32_171
  let c3_i32_172 : BitVec 32 := 3#32
  let v426 : BitVec 32 := Scalar.addi v425 c3_i32_172
  let c4_i32_173 : BitVec 32 := 4#32
  let v427 : BitVec 32 := Scalar.remsi v426 c4_i32_173
  let v428 : BitVec 32 := Scalar.muli c2_i32_174 v427
  let c1_i32_175 : BitVec 32 := 1#32
  let v429 : BitVec 32 := Scalar.addi v428 c1_i32_175
  let c256_i32_176 : BitVec 32 := 256#32
  let v430 : BitVec 32 := Scalar.muli v429 c256_i32_176
  let v433 : Index := Scalar.indexCast v430
  let c0_178 : Index := 0#32
  ![v433.toNat, 0]
def k0_off12 (d0 : Dev nD) (c0_i32_171 : BitVec 32) : Fin 2 → Nat :=
  let c2_i32_174 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v425 : BitVec 32 := Scalar.addi v20 c0_i32_171
  let c3_i32_172 : BitVec 32 := 3#32
  let v426 : BitVec 32 := Scalar.addi v425 c3_i32_172
  let c4_i32_173 : BitVec 32 := 4#32
  let v427 : BitVec 32 := Scalar.remsi v426 c4_i32_173
  let v428 : BitVec 32 := Scalar.muli c2_i32_174 v427
  let c1_i32_175 : BitVec 32 := 1#32
  let v429 : BitVec 32 := Scalar.addi v428 c1_i32_175
  let c256_i32_176 : BitVec 32 := 256#32
  let v430 : BitVec 32 := Scalar.muli v429 c256_i32_176
  let v460 : Index := Scalar.indexCast v430
  let c0_183 : Index := 0#32
  ![v460.toNat, 0]
def k0_dev8 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_232 : BitVec 32 := 1#32
  let v555 : BitVec 32 := Scalar.muli v24 c1_i32_232
  let v556 : BitVec 32 := Scalar.addi c0_i32_233 v555
  v556.toNat
def k0_dev9 (d0 : Dev nD) : Nat :=
  let c0_i32_271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_270 : BitVec 32 := 1#32
  let v580 : BitVec 32 := Scalar.muli v29 c1_i32_270
  let v581 : BitVec 32 := Scalar.addi c0_i32_271 v580
  v581.toNat
def k0_dev10 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_308 : BitVec 32 := 1#32
  let v605 : BitVec 32 := Scalar.muli v24 c1_i32_308
  let v606 : BitVec 32 := Scalar.addi c0_i32_309 v605
  v606.toNat
def k0_dev11 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_346 : BitVec 32 := 1#32
  let v630 : BitVec 32 := Scalar.muli v29 c1_i32_346
  let v631 : BitVec 32 := Scalar.addi c0_i32_347 v630
  v631.toNat
def k0_dev12 (d0 : Dev nD) : Nat :=
  let c0_i32_433 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_432 : BitVec 32 := 1#32
  let v871 : BitVec 32 := Scalar.muli v24 c1_i32_432
  let v872 : BitVec 32 := Scalar.addi c0_i32_433 v871
  v872.toNat
def k0_dev13 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_470 : BitVec 32 := 1#32
  let v896 : BitVec 32 := Scalar.muli v29 c1_i32_470
  let v897 : BitVec 32 := Scalar.addi c0_i32_471 v896
  v897.toNat
def k0_dev14 (d0 : Dev nD) : Nat :=
  let c0_i32_509 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_508 : BitVec 32 := 1#32
  let v921 : BitVec 32 := Scalar.muli v24 c1_i32_508
  let v922 : BitVec 32 := Scalar.addi c0_i32_509 v921
  v922.toNat
def k0_dev15 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_546 : BitVec 32 := 1#32
  let v946 : BitVec 32 := Scalar.muli v29 c1_i32_546
  let v947 : BitVec 32 := Scalar.addi c0_i32_547 v946
  v947.toNat
def k0_off13 (d0 : Dev nD) (c0_i32_649 : BitVec 32) : Fin 4 → Nat :=
  let c1_i32_648 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1202 : BitVec 32 := Scalar.subi c1_i32_648 v19
  let v1203 : BitVec 32 := Scalar.addi v1202 c0_i32_649
  let c3_i32_650 : BitVec 32 := 3#32
  let c0_i32_658 : BitVec 32 := 0#32
  let c0_i32_659 : BitVec 32 := 0#32
  ![v1203.toNat, 3, 0, 0]
def k0_dev16 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v30 : BitVec 32 := Scalar.addi v2 c4_i32_13
  let c8_i32_14 : BitVec 32 := 8#32
  let v31 : BitVec 32 := Scalar.remsi v30 c8_i32_14
  let c1_i32_654 : BitVec 32 := 1#32
  let v1204 : BitVec 32 := Scalar.muli v31 c1_i32_654
  let v1205 : BitVec 32 := Scalar.addi c0_i32_655 v1204
  v1205.toNat
def k0_dev17 (d0 : Dev nD) : Nat :=
  let c0_i32_715 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v30 : BitVec 32 := Scalar.addi v2 c4_i32_13
  let c8_i32_14 : BitVec 32 := 8#32
  let v31 : BitVec 32 := Scalar.remsi v30 c8_i32_14
  let c1_i32_714 : BitVec 32 := 1#32
  let v1246 : BitVec 32 := Scalar.muli v31 c1_i32_714
  let v1247 : BitVec 32 := Scalar.addi c0_i32_715 v1246
  v1247.toNat
def k0_off14 (d0 : Dev nD) (c0_i32_732 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1266 : BitVec 32 := Scalar.addi v19 c0_i32_732
  let v1267 : Index := Scalar.indexCast v1266
  let c3_733 : Index := 3#32
  let c0_734 : Index := 0#32
  let c0_735 : Index := 0#32
  ![v1267.toNat, 3, 0, 0]
def k0_off15 (d0 : Dev nD) (c0_i32_740 : BitVec 32) : Fin 2 → Nat :=
  let c2_i32_197 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c1_i32_195 : BitVec 32 := 1#32
  let v533 : BitVec 32 := Scalar.addi v20 c1_i32_195
  let c4_i32_196 : BitVec 32 := 4#32
  let v534 : BitVec 32 := Scalar.remsi v533 c4_i32_196
  let v535 : BitVec 32 := Scalar.muli c2_i32_197 v534
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v536 : BitVec 32 := Scalar.addi v535 v19
  let c256_i32_739 : BitVec 32 := 256#32
  let v1273 : BitVec 32 := Scalar.muli v536 c256_i32_739
  let v1274 : BitVec 32 := Scalar.addi v1273 c0_i32_740
  let v1275 : Index := Scalar.indexCast v1274
  let c0_741 : Index := 0#32
  ![v1275.toNat, 0]
def k0_off16 (d0 : Dev nD) (c0_i32_745 : BitVec 32) : Fin 2 → Nat :=
  let c2_i32_197 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c1_i32_195 : BitVec 32 := 1#32
  let v533 : BitVec 32 := Scalar.addi v20 c1_i32_195
  let c4_i32_196 : BitVec 32 := 4#32
  let v534 : BitVec 32 := Scalar.remsi v533 c4_i32_196
  let v535 : BitVec 32 := Scalar.muli c2_i32_197 v534
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v536 : BitVec 32 := Scalar.addi v535 v19
  let c256_i32_744 : BitVec 32 := 256#32
  let v1279 : BitVec 32 := Scalar.muli v536 c256_i32_744
  let v1280 : BitVec 32 := Scalar.addi v1279 c0_i32_745
  let c0_i32_750 : BitVec 32 := 0#32
  ![v1280.toNat, 0]
def k0_dev18 (d0 : Dev nD) : Nat :=
  let c0_i32_749 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v30 : BitVec 32 := Scalar.addi v2 c4_i32_13
  let c8_i32_14 : BitVec 32 := 8#32
  let v31 : BitVec 32 := Scalar.remsi v30 c8_i32_14
  let c1_i32_748 : BitVec 32 := 1#32
  let v1281 : BitVec 32 := Scalar.muli v31 c1_i32_748
  let v1282 : BitVec 32 := Scalar.addi c0_i32_749 v1281
  v1282.toNat
def k0_dev19 (d0 : Dev nD) : Nat :=
  let c0_i32_780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v30 : BitVec 32 := Scalar.addi v2 c4_i32_13
  let c8_i32_14 : BitVec 32 := 8#32
  let v31 : BitVec 32 := Scalar.remsi v30 c8_i32_14
  let c1_i32_779 : BitVec 32 := 1#32
  let v1314 : BitVec 32 := Scalar.muli v31 c1_i32_779
  let v1315 : BitVec 32 := Scalar.addi c0_i32_780 v1314
  v1315.toNat
def k0_off17 (d0 : Dev nD) (c0_i32_786 : BitVec 32) : Fin 2 → Nat :=
  let c2_i32_198 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c1_i32_195 : BitVec 32 := 1#32
  let v533 : BitVec 32 := Scalar.addi v20 c1_i32_195
  let c4_i32_196 : BitVec 32 := 4#32
  let v534 : BitVec 32 := Scalar.remsi v533 c4_i32_196
  let v537 : BitVec 32 := Scalar.muli c2_i32_198 v534
  let c1_i32_199 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v538 : BitVec 32 := Scalar.subi c1_i32_199 v19
  let v539 : BitVec 32 := Scalar.addi v537 v538
  let c256_i32_785 : BitVec 32 := 256#32
  let v1324 : BitVec 32 := Scalar.muli v539 c256_i32_785
  let v1325 : BitVec 32 := Scalar.addi v1324 c0_i32_786
  let c0_i32_791 : BitVec 32 := 0#32
  ![v1325.toNat, 0]
def k0_off18 (d0 : Dev nD) (c0_i32_795 : BitVec 32) (c0_i32_799 : BitVec 32) : Fin 2 → Nat :=
  let c2_i32_797 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c4_i32_793 : BitVec 32 := 4#32
  let v1332 : BitVec 32 := Scalar.addi v20 c4_i32_793
  let c1_i32_794 : BitVec 32 := 1#32
  let v1333 : BitVec 32 := Scalar.addi v1332 c1_i32_794
  let v1334 : BitVec 32 := Scalar.subi v1333 c0_i32_795
  let c4_i32_796 : BitVec 32 := 4#32
  let v1335 : BitVec 32 := Scalar.remsi v1334 c4_i32_796
  let v1336 : BitVec 32 := Scalar.muli c2_i32_797 v1335
  let c256_i32_798 : BitVec 32 := 256#32
  let v1337 : BitVec 32 := Scalar.muli v1336 c256_i32_798
  let v1338 : BitVec 32 := Scalar.addi v1337 c0_i32_799
  let c0_i32_806 : BitVec 32 := 0#32
  ![v1338.toNat, 0]
def k0_dev20 (d0 : Dev nD) : Nat :=
  let c0_i32_805 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_804 : BitVec 32 := 1#32
  let v1339 : BitVec 32 := Scalar.muli v24 c1_i32_804
  let v1340 : BitVec 32 := Scalar.addi c0_i32_805 v1339
  v1340.toNat
def k0_off19 (d0 : Dev nD) (c1_i32_808 : BitVec 32) (c0_i32_809 : BitVec 32) (c0_i32_814 : BitVec 32) : Fin 2 → Nat :=
  let c2_i32_811 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let v1347 : BitVec 32 := Scalar.addi v20 c1_i32_808
  let v1348 : BitVec 32 := Scalar.addi v1347 c0_i32_809
  let c4_i32_810 : BitVec 32 := 4#32
  let v1349 : BitVec 32 := Scalar.remsi v1348 c4_i32_810
  let v1350 : BitVec 32 := Scalar.muli c2_i32_811 v1349
  let c1_i32_812 : BitVec 32 := 1#32
  let v1351 : BitVec 32 := Scalar.addi v1350 c1_i32_812
  let c256_i32_813 : BitVec 32 := 256#32
  let v1352 : BitVec 32 := Scalar.muli v1351 c256_i32_813
  let v1353 : BitVec 32 := Scalar.addi v1352 c0_i32_814
  let c0_i32_821 : BitVec 32 := 0#32
  ![v1353.toNat, 0]
def k0_dev21 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_819 : BitVec 32 := 1#32
  let v1354 : BitVec 32 := Scalar.muli v29 c1_i32_819
  let v1355 : BitVec 32 := Scalar.addi c0_i32_820 v1354
  v1355.toNat
def k0_dev22 (d0 : Dev nD) : Nat :=
  let c0_i32_845 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_844 : BitVec 32 := 1#32
  let v1379 : BitVec 32 := Scalar.muli v24 c1_i32_844
  let v1380 : BitVec 32 := Scalar.addi c0_i32_845 v1379
  v1380.toNat
def k0_dev23 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_859 : BitVec 32 := 1#32
  let v1394 : BitVec 32 := Scalar.muli v29 c1_i32_859
  let v1395 : BitVec 32 := Scalar.addi c0_i32_860 v1394
  v1395.toNat
def k0_off20 (d0 : Dev nD) (c0_i32_864 : BitVec 32) (c0_i32_868 : BitVec 32) : Fin 2 → Nat :=
  let c2_i32_866 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c4_i32_863 : BitVec 32 := 4#32
  let v1402 : BitVec 32 := Scalar.addi v20 c4_i32_863
  let v1403 : BitVec 32 := Scalar.subi v1402 c0_i32_864
  let c4_i32_865 : BitVec 32 := 4#32
  let v1404 : BitVec 32 := Scalar.remsi v1403 c4_i32_865
  let v1405 : BitVec 32 := Scalar.muli c2_i32_866 v1404
  let c256_i32_867 : BitVec 32 := 256#32
  let v1406 : BitVec 32 := Scalar.muli v1405 c256_i32_867
  let v1407 : BitVec 32 := Scalar.addi v1406 c0_i32_868
  let c0_i32_875 : BitVec 32 := 0#32
  ![v1407.toNat, 0]
def k0_dev24 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_888 : BitVec 32 := 1#32
  let v1421 : BitVec 32 := Scalar.muli v24 c1_i32_888
  let v1422 : BitVec 32 := Scalar.addi c0_i32_889 v1421
  v1422.toNat
def k0_dev25 (d0 : Dev nD) : Nat :=
  let c0_i32_919 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_918 : BitVec 32 := 1#32
  let v1449 : BitVec 32 := Scalar.muli v29 c1_i32_918
  let v1450 : BitVec 32 := Scalar.addi c0_i32_919 v1449
  v1450.toNat
def k0_dev26 (d0 : Dev nD) : Nat :=
  let c0_i32_948 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_947 : BitVec 32 := 1#32
  let v1476 : BitVec 32 := Scalar.muli v24 c1_i32_947
  let v1477 : BitVec 32 := Scalar.addi c0_i32_948 v1476
  v1477.toNat
def k0_dev27 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_977 : BitVec 32 := 1#32
  let v1504 : BitVec 32 := Scalar.muli v29 c1_i32_977
  let v1505 : BitVec 32 := Scalar.addi c0_i32_978 v1504
  v1505.toNat
def k0_dev28 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1006 : BitVec 32 := 1#32
  let v1531 : BitVec 32 := Scalar.muli v24 c1_i32_1006
  let v1532 : BitVec 32 := Scalar.addi c0_i32_1007 v1531
  v1532.toNat
def k0_dev29 (d0 : Dev nD) : Nat :=
  let c0_i32_1037 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_1036 : BitVec 32 := 1#32
  let v1559 : BitVec 32 := Scalar.muli v29 c1_i32_1036
  let v1560 : BitVec 32 := Scalar.addi c0_i32_1037 v1559
  v1560.toNat
def k0_dev30 (d0 : Dev nD) : Nat :=
  let c0_i32_1066 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_1065 : BitVec 32 := 1#32
  let v1586 : BitVec 32 := Scalar.muli v24 c1_i32_1065
  let v1587 : BitVec 32 := Scalar.addi c0_i32_1066 v1586
  v1587.toNat
def k0_dev31 (d0 : Dev nD) : Nat :=
  let c0_i32_1096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c4_i32_10 : BitVec 32 := 4#32
  let v26 : BitVec 32 := Scalar.addi v20 c4_i32_10
  let c1_i32_11 : BitVec 32 := 1#32
  let v27 : BitVec 32 := Scalar.subi v26 c1_i32_11
  let c4_i32_12 : BitVec 32 := 4#32
  let v28 : BitVec 32 := Scalar.remsi v27 c4_i32_12
  let v29 : BitVec 32 := Scalar.addi v25 v28
  let c1_i32_1095 : BitVec 32 := 1#32
  let v1614 : BitVec 32 := Scalar.muli v29 c1_i32_1095
  let v1615 : BitVec 32 := Scalar.addi c0_i32_1096 v1614
  v1615.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x32 : Shape := ⟨2, ![512, 32]⟩
abbrev S2048x2 : Shape := ⟨2, ![2048, 2]⟩
abbrev S32x512x1024 : Shape := ⟨3, ![32, 512, 1024]⟩
abbrev S2048x32 : Shape := ⟨2, ![2048, 32]⟩
abbrev S_ : Shape := ⟨0, ![]⟩
abbrev S2048 : Shape := ⟨1, ![2048]⟩
abbrev S2048x1 : Shape := ⟨2, ![2048, 1]⟩
abbrev S2048x512x1024 : Shape := ⟨3, ![2048, 512, 1024]⟩
abbrev S2048x1024 : Shape := ⟨2, ![2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S512x32, .bf16⟩
  | .hbm, ⟨2, _⟩ => ⟨S2048x2, .i32⟩
  | .hbm, ⟨3, _⟩ => ⟨S32x512x1024, .bf16⟩
  | .hbm, ⟨4, _⟩ => ⟨S2048x512, .f32⟩
  | .hbm, ⟨5, _⟩ => ⟨S512x32, .f32⟩
  | .hbm, ⟨6, _⟩ => ⟨S2048x32, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x32, .f32⟩
  | .hbm, ⟨11, _⟩ => ⟨S2048x32, .f32⟩
  | .hbm, ⟨12, _⟩ => ⟨S2048x32, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S2048x32, .f32⟩
  | .hbm, ⟨17, _⟩ => ⟨S2048x32, .f32⟩
  | .hbm, ⟨18, _⟩ => ⟨S32x512x1024, .f32⟩
  | .hbm, ⟨19, _⟩ => ⟨S2048x1, .i32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S_, .i32⟩
  | .hbm, ⟨32, _⟩ => ⟨S2048, .i32⟩
  | .hbm, ⟨33, _⟩ => ⟨S2048, .i1⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S2048, .i32⟩
  | .hbm, ⟨38, _⟩ => ⟨S2048x1, .i32⟩
  | .hbm, ⟨39, _⟩ => ⟨S2048x1, .i32⟩
  | .hbm, ⟨40, _⟩ => ⟨S2048x2, .i32⟩
  | .hbm, ⟨41, _⟩ => ⟨S2048, .f32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i32⟩
  | .hbm, ⟨48, _⟩ => ⟨S2048, .i32⟩
  | .hbm, ⟨49, _⟩ => ⟨S_, .i32⟩
  | .hbm, ⟨50, _⟩ => ⟨S2048, .i32⟩
  | .hbm, ⟨51, _⟩ => ⟨S2048, .i1⟩
  | .hbm, ⟨52, _⟩ => ⟨S_, .i32⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048x1, .i32⟩
  | .hbm, ⟨57, _⟩ => ⟨S2048x1, .i32⟩
  | .hbm, ⟨58, _⟩ => ⟨S2048x2, .i32⟩
  | .hbm, ⟨59, _⟩ => ⟨S2048, .f32⟩
  | .hbm, ⟨60, _⟩ => ⟨S2048, .f32⟩
  | .hbm, ⟨61, _⟩ => ⟨S_, .i32⟩
  | .hbm, ⟨62, _⟩ => ⟨S2048, .i32⟩
  | .hbm, ⟨63, _⟩ => ⟨S2048, .i1⟩
  | .hbm, ⟨64, _⟩ => ⟨S_, .i32⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048x1, .i32⟩
  | .hbm, ⟨69, _⟩ => ⟨S2048x512x1024, .f32⟩
  | .hbm, ⟨70, _⟩ => ⟨S2048x1024, .f32⟩
  | .hbm, ⟨71, _⟩ => ⟨S_, .i32⟩
  | .hbm, ⟨72, _⟩ => ⟨S2048, .i32⟩
  | .hbm, ⟨73, _⟩ => ⟨S2048, .i1⟩
  | .hbm, ⟨74, _⟩ => ⟨S_, .i32⟩
  | .hbm, ⟨75, _⟩ => ⟨S2048, .i32⟩
  | .hbm, ⟨76, _⟩ => ⟨S2048, .i32⟩
  | .hbm, ⟨77, _⟩ => ⟨S2048, .i32⟩
  | .hbm, ⟨78, _⟩ => ⟨S2048x1, .i32⟩
  | .hbm, ⟨79, _⟩ => ⟨S2048x512x1024, .f32⟩
  | .hbm, ⟨80, _⟩ => ⟨S2048x1024, .f32⟩
  | .hbm, ⟨81, _⟩ => ⟨S2048, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_4 : Ref sig .tc := ⟨.hbm, 42, rfl⟩
abbrev main_v32 : Ref sig .tc := ⟨.hbm, 43, rfl⟩
abbrev main_v33 : Ref sig .tc := ⟨.hbm, 44, rfl⟩
abbrev main_c_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_c_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.Arith.lean ====
/-
Extended reals: the facts the two programs' values are compared by. No program is mentioned here.
-/
module

public import Idealize.ShloMosaic.Lib.Pointwise
public import Idealize.ShloMosaic.Lib.IdealHost

@[expose] public section

noncomputable section

namespace Cert.Run

open Idealize.ShloMosaic

/-- A factor that is a real number, not negative, goes into a sum of extended reals. -/
theorem mul_sum_of_nonneg {ι : Type} (S : Finset ι) (f : ι → EReal) (a : ℝ) (ha : 0 ≤ a) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (by exact_mod_cast ha) (EReal.coe_ne_top a), ih]

/-- The experts' products, each with the weight its two indicators give it, add up to the two chosen ones' products
    times the two weights. -/
theorem sum_gated {n m : ℕ} (a b : ℝ) (ha : 0 ≤ a) (hb : 0 ≤ b) (i j : Fin n) (x : Fin m → EReal) (W : Fin n → Fin m → EReal) :
    ∑ e, ∑ d, x d * ((a : EReal) * (if i = e then 1 else 0) + (b : EReal) * (if j = e then 1 else 0)) * W e d
      = (a : EReal) * (∑ d, x d * W i d) + (b : EReal) * (∑ d, x d * W j d) := by
  have h1 : ∀ (p q y : EReal), 0 ≤ p → 0 ≤ q → (p + q) * y = p * y + q * y := fun p q y hp hq => EReal.right_distrib_of_nonneg hp hq
  have hite : ∀ (p : Prop) [Decidable p], (0 : EReal) ≤ if p then 1 else 0 := fun p _ => by split <;> simp
  have ha' : (0 : EReal) ≤ (a : EReal) := by exact_mod_cast ha
  have hb' : (0 : EReal) ≤ (b : EReal) := by exact_mod_cast hb
  have key : ∀ e d, x d * ((a : EReal) * (if i = e then 1 else 0) + (b : EReal) * (if j = e then 1 else 0)) * W e d
      = (if i = e then (a : EReal) * (x d * W e d) else 0) + (if j = e then (b : EReal) * (x d * W e d) else 0) := by
    intro e d
    rw [mul_comm (x d), mul_assoc, h1 _ _ _ (mul_nonneg ha' (hite _)) (mul_nonneg hb' (hite _))]
    congr 1 <;> split <;> simp
  simp only [key, Finset.sum_add_distrib]
  have pull : ∀ (c : ℝ) (hc : 0 ≤ c) (k : Fin n), ∑ e, ∑ d, (if k = e then (c : EReal) * (x d * W e d) else 0) = (c : EReal) * ∑ d, x d * W k d := by
    intro c hc k
    rw [Finset.sum_comm, mul_sum_of_nonneg _ _ _ hc]
    exact Finset.sum_congr rfl fun d _ => by rw [Finset.sum_ite_eq]; simp
  rw [pull a ha, pull b hb]

/-- A sum over a number is the sum over its quotient and its remainder. -/
theorem sum_quot_rem {M : Type} [AddCommMonoid M] (n k : ℕ) (f : Fin (n * k) → M) :
    ∑ e, f e = ∑ c : Fin n, ∑ r : Fin k, f (finProdFinEquiv (c, r)) := by
  rw [← Fintype.sum_prod_type', Equiv.sum_comp finProdFinEquiv]

/-- A sum of real numbers is the real number. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert i S hi ih => rw [Finset.sum_insert hi, Finset.sum_insert hi, ih, EReal.coe_add]

/-- The score of expert `e` for token `t`: the token's row times the router's column. -/
def score (X : FVec Ideal (⟨2, ![2048, 512]⟩ : Shape) .bf16) (R : FVec Ideal (⟨2, ![512, 32]⟩ : Shape) .bf16) (t : Fin 2048) (e : Fin 32) : EReal :=
  ∑ d : Fin 512, X (ix2 t d) * R (ix2 d e)

/-- Where the tokens and the router's matrix hold real numbers, the scores are real numbers. -/
theorem score_real (X : FVec Ideal (⟨2, ![2048, 512]⟩ : Shape) .bf16) (R : FVec Ideal (⟨2, ![512, 32]⟩ : Shape) .bf16)
    (hX : ∀ j, ∃ r : ℝ, X j = (r : EReal)) (hR : ∀ j, ∃ r : ℝ, R j = (r : EReal)) (t : Fin 2048) : ∃ s : Fin 32 → ℝ, ∀ e, score X R t e = (s e : EReal) := by
  choose x hx using hX
  choose r hr using hR
  refine ⟨fun e => ∑ d : Fin 512, x (ix2 t d) * r (ix2 d e), fun e => ?_⟩
  unfold score
  simp only [hx, hr, ← EReal.coe_mul]
  rw [coe_sum]

/-- A quotient of real numbers, the divisor not zero. -/
theorem div_real (a b : ℝ) (hb : b ≠ 0) : Ideal.div (a : EReal) (b : EReal) = ((a / b : ℝ) : EReal) := by
  rw [Ideal.div_coe hb, ← EReal.coe_mul]
  congr 1
  rw [mul_one_div]

/-- The exponential of a real number. -/
theorem exp_real (a : ℝ) : Ideal.exp (a : EReal) = ((Real.exp a : ℝ) : EReal) := rfl

/-- The share of `a` between `a` and `b`: its exponential over the sum of the two. -/
def share (a b : ℝ) : ℝ := Real.exp a / (Real.exp a + Real.exp b)
/-- A share is not negative. -/
theorem share_nonneg (a b : ℝ) : 0 ≤ share a b := by unfold share; positivity

/-- The kernel's weight: both scores taken less any real number `M`. -/
theorem share_shift (a b M : ℝ) :
    Ideal.div (Ideal.exp ((a : EReal) - (M : EReal))) (Ideal.exp ((a : EReal) - (M : EReal)) + Ideal.exp ((b : EReal) - (M : EReal))) = ((share a b : ℝ) : EReal) := by
  simp only [← EReal.coe_sub, exp_real, ← EReal.coe_add]
  rw [div_real _ _ (by positivity)]
  congr 1
  unfold share
  rw [Real.exp_sub, Real.exp_sub]
  field_simp

/-- The reference's weight: both exponentials divided by a positive number `Z` first. -/
theorem share_normed (a b M Z : ℝ) (hZ : 0 < Z) :
    Ideal.div (Ideal.div (Ideal.exp ((a : EReal) - (M : EReal))) (Z : EReal))
      (Ideal.div (Ideal.exp ((a : EReal) - (M : EReal))) (Z : EReal) + Ideal.div (Ideal.exp ((b : EReal) - (M : EReal))) (Z : EReal)) = ((share a b : ℝ) : EReal) := by
  simp only [← EReal.coe_sub, exp_real]
  simp only [div_real _ _ hZ.ne', ← EReal.coe_add]
  rw [div_real _ _ (by positivity)]
  congr 1
  unfold share
  rw [Real.exp_sub, Real.exp_sub]
  field_simp

/-- The largest of finitely many real numbers, `-∞` put beside them, is one of them. -/
theorem fold_max_real {n : ℕ} (f : Fin (n + 1) → ℝ) : ∃ M : ℝ, Finset.univ.fold max (⊥ : EReal) (fun k => (f k : EReal)) = (M : EReal) := by
  have h : ∀ S : Finset (Fin (n + 1)), S.Nonempty → ∃ M : ℝ, S.fold max (⊥ : EReal) (fun k => (f k : EReal)) = (M : EReal) := by
    intro S hS
    induction hS using Finset.Nonempty.cons_induction with
    | singleton i => exact ⟨f i, by rw [Finset.fold_singleton]; exact max_eq_left bot_le⟩
    | cons i S hi _ ih =>
      obtain ⟨M, hM⟩ := ih
      refine ⟨max (f i) M, ?_⟩
      rw [Finset.fold_cons, hM]
      exact (EReal.coe_strictMono.monotone.map_max (a := f i) (b := M)).symm
  exact h _ Finset.univ_nonempty

end Cert.Run

end
-- ==== Proof.Common.lean ====
/-
The names shared by all the modules of the run: the mesh, the transfers, their semaphores, the blocks of memory they
read and write, and what each of them carries.

The eight devices form two rings of four. Device `c = 4 p + q` sends partial sums to its right or left neighbour in
its ring, and finished pieces to its mirror in the other ring.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The mesh -/

/-- The neighbour of a device in each of the three directions: right (0), left (1), mirror (2). -/
def nb (j : Fin 3) (c : Dev nD) : Dev nD := match j with
  | 0 => ⟨4 * (c.val / 4) + (c.val % 4 + 1) % 4, by have := c.isLt; simp only [nD] at *; omega⟩
  | 1 => ⟨4 * (c.val / 4) + (c.val % 4 + 3) % 4, by have := c.isLt; simp only [nD] at *; omega⟩
  | 2 => ⟨(c.val + 4) % 8, Nat.mod_lt _ (by decide)⟩

/-- The device whose neighbour in direction `j` is `c`. -/
def pb (j : Fin 3) (c : Dev nD) : Dev nD := match j with
  | 0 => nb 1 c
  | 1 => nb 0 c
  | 2 => nb 2 c

/-- One step in a direction and one back lead to where one was. -/
theorem pb_nb (j : Fin 3) (c : Dev nD) : pb j (nb j c) = c := by revert j c; decide
/-- One step back in a direction and one forth lead to where one was. -/
theorem nb_pb (j : Fin 3) (c : Dev nD) : nb j (pb j c) = c := by revert j c; decide

/-- A direction as a permutation of the devices. -/
def nbE (j : Fin 3) : Dev nD ≃ Dev nD := ⟨nb j, pb j, pb_nb j, nb_pb j⟩

/-! ## The transfers -/

/-- The transfers a device makes: the three hops of each of the four reduce-scatter streams, the exchange of the
    two partial sums with the mirror, the exchange of the two finished pieces with the mirror, and the three hops
    of each of the four all-gather streams. -/
inductive X
  | rs (i : Fin 4) (s : Fin 3)
  | z1 (h : Fin 2)
  | z2 (h : Fin 2)
  | ag (i : Fin 4) (s : Fin 3)
  deriving DecidableEq

/-- The transfers in the order the program starts them. -/
def order : List X :=
  [.rs 0 0, .rs 2 0, .rs 1 0, .rs 3 0, .rs 0 1, .rs 1 1, .rs 2 1, .rs 3 1, .rs 0 2, .rs 1 2, .rs 2 2, .rs 3 2,
   .z1 0, .z1 1, .z2 0, .z2 1,
   .ag 0 0, .ag 1 0, .ag 2 0, .ag 3 0, .ag 0 1, .ag 1 1, .ag 2 1, .ag 3 1, .ag 0 2, .ag 1 2, .ag 2 2, .ag 3 2]

/-- The program starts no transfer twice. -/
theorem order_nodup : order.Nodup := by decide
/-- The program starts every transfer. -/
theorem mem_order (x : X) : x ∈ order := by
  rcases x with ⟨i, s⟩ | ⟨h⟩ | ⟨h⟩ | ⟨i, s⟩
  · revert i s; decide
  · revert h; decide
  · revert h; decide
  · revert i s; decide

instance : Fintype X := ⟨order.toFinset, fun x => List.mem_toFinset.mpr (mem_order x)⟩

/-- The direction a stream runs in: even streams to the right, odd ones to the left. -/
def dOf (i : Fin 4) : Fin 3 := if i.val % 2 = 0 then 0 else 1
/-- The half of a chunk a stream carries. -/
def hOf (i : Fin 4) : Fin 2 := ⟨i.val / 2, by omega⟩

/-- The direction of a transfer. -/
def dir : X → Fin 3
  | .rs i _ => dOf i
  | .z1 _ => 2
  | .z2 _ => 2
  | .ag i _ => dOf i

/-- The device a transfer of `c` goes to, and the one a transfer into `c` comes from. -/
def tgt (c : Dev nD) (x : X) : Dev nD := nb (dir x) c
def org (c : Dev nD) (x : X) : Dev nD := pb (dir x) c
/-- The transfer that arrives at the target of a transfer comes from its sender. -/
theorem org_tgt (c : Dev nD) (x : X) : org (tgt c x) x = c := pb_nb _ _
/-- The origin of a transfer into a device sends it to that device. -/
theorem tgt_org (c : Dev nD) (x : X) : tgt (org c x) x = c := nb_pb _ _

/-! ## The semaphores -/

/-- The semaphore a transfer signals on its sender. -/
def sendSem : X → DmaSem sig
  | .rs i s => ⟨5 + 4 * i.val + s.val, by have : i.val < 4 := i.isLt; have : s.val < 3 := s.isLt; show _ < 69; omega⟩
  | .z1 h => ⟨37 + h.val, by have : h.val < 2 := h.isLt; show _ < 69; omega⟩
  | .z2 h => ⟨41 + h.val, by have : h.val < 2 := h.isLt; show _ < 69; omega⟩
  | .ag i s => ⟨45 + 3 * i.val + s.val, by have : i.val < 4 := i.isLt; have : s.val < 3 := s.isLt; show _ < 69; omega⟩
/-- The semaphore a transfer signals on its receiver. -/
def recvSem : X → DmaSem sig
  | .rs i s => ⟨21 + 4 * i.val + (s.val + 1), by have : i.val < 4 := i.isLt; have : s.val < 3 := s.isLt; show _ < 69; omega⟩
  | .z1 h => ⟨39 + h.val, by have : h.val < 2 := h.isLt; show _ < 69; omega⟩
  | .z2 h => ⟨43 + h.val, by have : h.val < 2 := h.isLt; show _ < 69; omega⟩
  | .ag i s => ⟨57 + 3 * i.val + s.val, by have : i.val < 4 := i.isLt; have : s.val < 3 := s.isLt; show _ < 69; omega⟩

/-- The two semaphores of a transfer: on its sender (`false`) and on its receiver (`true`). -/
def semOf (xb : X × Bool) : SemLoc sig := .dma (if xb.2 then recvSem xb.1 else sendSem xb.1)

set_option maxRecDepth 20000 in
/-- No two transfers share a semaphore. -/
theorem semOf_injective : Function.Injective semOf := by
  have h : ∀ a b : X × Bool, (if a.2 then recvSem a.1 else sendSem a.1) = (if b.2 then recvSem b.1 else sendSem b.1) → a = b := by decide +kernel
  intro a b hab
  exact h a b (by unfold semOf at hab; injection hab)

/-- The barrier semaphore on which the devices meet before the first transfer. -/
abbrev barArr : Sems sig S_ := SemArray.scalar (sig.barrier 0 rfl)
abbrev barS : Sem sig := barArr.sem

/-- No transfer's semaphore is the barrier's. -/
theorem semOf_ne_bar (xb : X × Bool) : semOf xb ≠ .reg barS := fun h => by unfold semOf at h; cases h

/-- Which transfer's semaphore this is, if any. -/
def roleOf (sm : SemLoc sig) : Option (X × Bool) :=
  open Classical in if h : ∃ xb, semOf xb = sm then some h.choose else none
/-- A transfer's semaphore is recognised as its own. -/
theorem roleOf_semOf (xb : X × Bool) : roleOf (semOf xb) = some xb := by
  unfold roleOf
  rw [dif_pos ⟨xb, rfl⟩]
  exact congrArg some (semOf_injective (Exists.choose_spec (⟨xb, rfl⟩ : ∃ xb', semOf xb' = semOf xb)))

abbrev barCell (c : Dev nD) : GSem nD τ sig := ((c : Thread nD τ), .reg barS)
abbrev cell (c : Dev nD) (x : X) (b : Bool) : GSem nD τ sig := ((c : Thread nD τ), semOf (x, b))

/-- A device's cells: the barrier's and two of each transfer. -/
abbrev CI : Type := Option (X × Bool)
def csem : CI → SemLoc sig
  | none => .reg barS
  | some xb => semOf xb
/-- A device's cells are distinct. -/
theorem csem_injective : Function.Injective csem := by
  rintro (_ | a) (_ | b) h
  · rfl
  · exact absurd h.symm (semOf_ne_bar b)
  · exact absurd h (semOf_ne_bar a)
  · exact congrArg some (semOf_injective h)
abbrev kcell (ck : Dev nD × CI) : GSem nD τ sig := ((ck.1 : Thread nD τ), csem ck.2)

/-! ## The blocks of memory -/

/-- A slot lies within the communication buffer. -/
theorem slot_inb (i s : Fin 4) : ∀ a, (![i.val, s.val, 0, 0] : Fin 4 → ℕ) a + S1x1x128x1024.size a ≤ S4x4x128x1024.size a := by
  revert i s; decide
/-- A half lies within the buffer for the mirror's sums. -/
theorem zb_inb (h : Fin 2) : ∀ a, (![h.val, 0, 0] : Fin 3 → ℕ) a + S1x128x1024.size a ≤ S2x128x1024.size a := by
  revert h; decide
/-- A piece lies within the result. -/
theorem piece_inb (r : Fin 16) : ∀ a, (![128 * r.val, 0] : Fin 2 → ℕ) a + S128x1024.size a ≤ S2048x1024.size a := by
  revert r; decide

abbrev slotR (i s : Fin 4) : Rect S4x4x128x1024 := Rect.unit (s := S4x4x128x1024) ![i.val, s.val, 0, 0] S1x1x128x1024.size (slot_inb i s)
abbrev zbR (h : Fin 2) : Rect S2x128x1024 := Rect.unit (s := S2x128x1024) ![h.val, 0, 0] S1x128x1024.size (zb_inb h)
abbrev pieceR (r : Fin 16) : Rect S2048x1024 := Rect.unit (s := S2048x1024) ![128 * r.val, 0] S128x1024.size (piece_inb r)

abbrev Mem2 : Type := Memref sig .tc .vmem S128x1024 .bf16

/-- Slot `s` of stream `i` in the communication buffer. -/
abbrev slotM (i s : Fin 4) : Mem2 :=
  ((Memref.whole cc0_scratch2).slice (slotR i s) (fun _ => rfl)).squeeze S128x1024 squeezes_S1x1x128x1024_S128x1024
/-- Half `h` of the buffer the mirror's partial sums land in. -/
abbrev zbM (h : Fin 2) : Mem2 :=
  ((Memref.whole cc0_scratch3).slice (zbR h) (fun _ => rfl)).squeeze S128x1024 squeezes_S1x128x1024_S128x1024
/-- Piece `r` of the result: rows `128 r` to `128 r + 127`. -/
abbrev pieceM (r : Fin 16) : Mem2 := (Memref.whole cc0_stg4_0).slice (pieceR r) (fun _ => rfl)

/-- The credit of one block. -/
abbrev N : ℕ := (slotM 0 0).view.dmaCredit
/-- A block has a positive credit. -/
theorem N_pos : 0 < N := View.dmaCredit_pos _ (by decide)

/-- The two coordinates of a device: which ring, and where in the ring. -/
def pOf (c : Dev nD) : ℕ := c.val / 4
def qOf (c : Dev nD) : ℕ := c.val % 4
/-- There are two rings. -/
theorem pOf_lt (c : Dev nD) : pOf c < 2 := by have : c.val < 8 := c.isLt; unfold pOf; omega
/-- There are four places in a ring. -/
theorem qOf_lt (c : Dev nD) : qOf c < 4 := Nat.mod_lt _ (by decide)

/-- The stream whose last slot is sent to the mirror, and the one whose last slot is kept. -/
def awayI (c : Dev nD) (h : Fin 2) : Fin 4 := ⟨2 * h.val + (1 - pOf c), by have := pOf_lt c; have : h.val < 2 := h.isLt; omega⟩
def keepI (c : Dev nD) (h : Fin 2) : Fin 4 := ⟨2 * h.val + pOf c, by have := pOf_lt c; have : h.val < 2 := h.isLt; omega⟩

/-- Piece `h` of the chunk a device finishes, and of the one its mirror finishes. -/
def ownR (c : Dev nD) (h : Fin 2) : Fin 16 := ⟨2 * (2 * ((qOf c + 1) % 4) + pOf c) + h.val, by have := pOf_lt c; have : h.val < 2 := h.isLt; omega⟩
def mirR (c : Dev nD) (h : Fin 2) : Fin 16 := ⟨2 * (2 * ((qOf c + 1) % 4) + (1 - pOf c)) + h.val, by have := pOf_lt c; have : h.val < 2 := h.isLt; omega⟩
/-- The piece a device passes on in hop `s` of all-gather stream `i`. -/
def agR (c : Dev nD) (i : Fin 4) (s : Fin 3) : Fin 16 :=
  if i.val % 2 = 0 then ⟨2 * (2 * ((qOf c + 5 - s.val) % 4)) + (hOf i).val, by have : (hOf i).val < 2 := (hOf i).isLt; omega⟩
  else ⟨2 * (2 * ((qOf c + 1 + s.val) % 4) + 1) + (hOf i).val, by have : (hOf i).val < 2 := (hOf i).isLt; omega⟩

/-- What transfer `x` of device `c` reads, and what it writes (on `tgt c x`). -/
def srcM (c : Dev nD) : X → Mem2
  | .rs i s => slotM i s.castSucc
  | .z1 h => slotM (awayI c h) 3
  | .z2 h => pieceM (ownR c h)
  | .ag i s => pieceM (agR c i s)
def dstM (c : Dev nD) : X → Mem2
  | .rs i s => slotM i s.succ
  | .z1 h => zbM h
  | .z2 h => pieceM (ownR c h)
  | .ag i s => pieceM (agR c i s)

/-- The source of every transfer has a block's credit. -/
theorem srcM_amount (c : Dev nD) (x : X) : (srcM c x).view.dmaCredit = N := by cases x <;> rfl
/-- The destination of every transfer has a block's credit. -/
theorem dstM_amount (c : Dev nD) (x : X) : (dstM c x).view.dmaCredit = N := by cases x <;> rfl

/-- The share of its source a transfer holds while it runs: a finished piece goes out twice at once, to the mirror
    and along the first hop of its stream, so each of the two holds one half. -/
def shr : X → PosShare TreeShare
  | .rs _ _ => fullShare
  | .z1 _ => fullShare
  | .z2 _ => fullShare.left
  | .ag _ s => if s = 0 then fullShare.right else fullShare

/-! ## What the transfers carry -/

variable (F) in
/-- A block of 128 rows, and a chunk of 256. -/
abbrev Blk : Type := S128x1024.Idx → Elt F .bf16
variable (F) in
abbrev Chk : Type := S256x1024.Idx → Elt F .bf16
variable (F) in
/-- For every device, its partial result for each of the eight chunks. -/
abbrev Parts : Type := Dev nD → Fin 8 → Chk F

/-- A half lies within its chunk. -/
theorem half_inb (h : Fin 2) : ∀ a, (![128 * h.val, 0] : Fin 2 → ℕ) a + S128x1024.size a ≤ S256x1024.size a := by
  revert h; decide
abbrev halfR (h : Fin 2) : Rect S256x1024 := Rect.unit (s := S256x1024) ![128 * h.val, 0] S128x1024.size (half_inb h)
/-- Half `h` of a chunk. -/
def half (h : Fin 2) (Y : Chk F) : Blk F := fun j => Y ((halfR h).emb j)

/-- The chunk with which a device starts a stream in direction `d`, and the one it adds after hop `s`. -/
def firstC (c : Dev nD) (d : Fin 3) : Fin 8 :=
  if d = 0 then ⟨2 * qOf c, by have := qOf_lt c; omega⟩ else ⟨2 * ((qOf c + 2) % 4) + 1, by omega⟩
def accC (c : Dev nD) (d : Fin 3) (s : ℕ) : Fin 8 :=
  if d = 0 then ⟨2 * ((qOf c + 3 - s) % 4), by omega⟩ else ⟨2 * ((qOf c + s + 3) % 4) + 1, by omega⟩

/-- The sum of two blocks. -/
abbrev addB (a b : Blk F) : Blk F := addf (φ := .bf16) (s := S128x1024) a b

variable (P : Parts F)

/-- The partial sum device `c` holds in slot `s` of stream `i` once it has added its own part. -/
def rsV (i : Fin 4) : ℕ → Dev nD → Blk F
  | 0, c => half (hOf i) (P c (firstC c (dOf i)))
  | s + 1, c => addB (rsV i s (pb (dOf i) c)) (half (hOf i) (P c (accC c (dOf i) s)))

/-- Piece `h` of the chunk device `c` finishes: its ring's sum and the other ring's. -/
def ownV (c : Dev nD) (h : Fin 2) : Blk F := addB (rsV P (keepI c h) 3 c) (rsV P (keepI c h) 3 (nb 2 c))

/-- The device that finishes piece `r`. -/
def ownerOf (r : Fin 16) : Dev nD := ⟨4 * (r.val / 2 % 2) + (r.val / 4 + 3) % 4, by show _ < 8; omega⟩
/-- What piece `r` of the result holds at the end. -/
def pieceV (r : Fin 16) : Blk F := ownV P (ownerOf r) ⟨r.val % 2, Nat.mod_lt _ (by decide)⟩

/-- A device is the owner of the pieces it finishes. -/
theorem ownerOf_ownR (c : Dev nD) (h : Fin 2) : ownerOf (ownR c h) = c := by revert c h; decide
/-- The half of a chunk that a device's piece is, by the piece's number. -/
theorem ownR_mod (c : Dev nD) (h : Fin 2) : (⟨(ownR c h).val % 2, Nat.mod_lt _ (by decide)⟩ : Fin 2) = h := by revert c h; decide
/-- A piece holds what its owner forms. -/
theorem pieceV_ownR (c : Dev nD) (h : Fin 2) : pieceV P (ownR c h) = ownV P c h := by
  unfold pieceV; rw [ownerOf_ownR, ownR_mod]

/-- What transfer `x` of device `c` carries. -/
def val (c : Dev nD) : X → Blk F
  | .rs i s => rsV P i s.val c
  | .z1 h => rsV P (awayI c h) 3 c
  | .z2 h => pieceV P (ownR c h)
  | .ag i s => pieceV P (agR c i s)

end Cert.Run

end
-- ==== Proof.Schedule.lean ====
/-
The protocol of the run: what each semaphore is worth to the one who waits for it, who pays for it, in which order
the waits are allowed, and the bundles of resources a device holds between two of its steps.
-/
module

public import proofs.«01_k».proof.Proof.Common

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The books of the rounds, and the resources of the whole proof. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## What the semaphores carry -/

/-- Block `M` of device `d`, holding `v`. -/
abbrev own2 (d : Dev nD) (M : Mem2) (q : PosShare TreeShare) (v : Blk F) : sProp 𝕄 :=
  owns (d : Thread nD τ) M q v

/-- The block transfer `x` of `c` writes, with whatever it holds. -/
def landing (c : Dev nD) (x : X) : sProp 𝕄 := iprop(∃ v : Blk F, own2 (tgt c x) (dstM c x) fullShare v)

/-- What the neighbour of `b` in direction `j` hands over when it arrives at the barrier: the blocks `b` writes there. -/
def barPay (b : Dev nD) (j : Fin 3) : sProp 𝕄 :=
  bigSep (Finset.univ.filter fun x : X => dir x = j) (fun x => landing (F := F) b x)

variable (P : Parts F)

/-- A finished transfer gives its sender the source back, and its receiver the block written. -/
def sendPay (c : Dev nD) (x : X) : sProp 𝕄 := own2 c (srcM c x) (shr x) (val P c x)
def recvPay (e : Dev nD) (x : X) : sProp 𝕄 := own2 e (dstM (org e x) x) fullShare (val P (org e x) x)

instance landing_storable (c : Dev nD) (x : X) : BI.Storable (upEmb : UEmb _ 𝕄) (landing (F := F) c x) := by
  unfold landing; infer_instance
instance barPay_storable (b : Dev nD) (j : Fin 3) : BI.Storable (upEmb : UEmb _ 𝕄) (barPay (F := F) b j) := by
  unfold barPay; infer_instance
instance sendPay_storable (c : Dev nD) (x : X) : BI.Storable (upEmb : UEmb _ 𝕄) (sendPay P c x) := by
  unfold sendPay; infer_instance
instance recvPay_storable (c : Dev nD) (x : X) : BI.Storable (upEmb : UEmb _ 𝕄) (recvPay P c x) := by
  unfold recvPay; infer_instance

/-- The payload of a transfer's semaphore. -/
def xferPay (e : Dev nD) : Option (X × Bool) → sProp 𝕄
  | none => iprop(emp)
  | some (x, false) => sendPay P e x
  | some (x, true) => recvPay P e x

instance xferPay_storable (e : Dev nD) (o : Option (X × Bool)) : BI.Storable (upEmb : UEmb _ 𝕄) (xferPay P e o) := by
  rcases o with _ | ⟨x, _ | _⟩ <;> unfold xferPay <;> infer_instance

/-- One round for every cell: three duties of one unit on a barrier cell, one duty of a block's credit on a
    transfer's cell. -/
def Rd : Rounds.Schedule (GSem nD τ sig) (Fin 3) 𝕄 where
  duties g r := if r = 0 ∧ g.1.2 = .tc then
      (if g.2 = .reg barS then Finset.univ else if (roleOf g.2).isSome then {0} else ∅) else ∅
  unitless _ := False
  amount g _ _ := if g.2 = .reg barS then 1 else N
  payload g _ d := if g.2 = .reg barS then barPay g.1.1 d else xferPay P g.1.1 (roleOf g.2)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd P).payload g r d) := by
  show BI.Storable upEmb (if g.2 = .reg barS then barPay g.1.1 d else xferPay P g.1.1 (roleOf g.2))
  split <;> infer_instance

section Sched
variable (c : Dev nD) (x : X) (b : Bool)

/-- The barrier has a duty for each of the three neighbours. -/
theorem duties_bar : (Rd P).duties (barCell c) 0 = Finset.univ := by
  dsimp only [Rd]; rw [if_pos ⟨rfl, rfl⟩, if_pos rfl]
/-- A transfer's semaphore has one duty. -/
theorem duties_cell : (Rd P).duties (cell c x b) 0 = {0} := by
  dsimp only [Rd]; rw [if_pos ⟨rfl, rfl⟩, if_neg (semOf_ne_bar _), roleOf_semOf]; rfl
/-- No cell has a duty after its first round. -/
theorem duties_later (g : GSem nD τ sig) : ∀ r, 0 + 1 ≤ r → (Rd P).duties g r = ∅ :=
  fun r hr => by dsimp only [Rd]; rw [if_neg fun h => by omega]
/-- A signal at the barrier is one unit. -/
theorem amount_bar (d : Fin 3) : (Rd P).amount (barCell c) 0 d = 1 := by dsimp only [Rd]; exact if_pos rfl
/-- A transfer brings a block's credit. -/
theorem amount_cell (d : Fin 3) : (Rd P).amount (cell c x b) 0 d = N := by
  dsimp only [Rd]; exact if_neg (semOf_ne_bar _)
/-- The barrier expects three units. -/
theorem expect_bar : (Rd P).expect (barCell c) 0 = 3 := by
  unfold Schedule.expect Schedule.amountOf
  rw [duties_bar, Finset.sum_congr rfl fun d _ => amount_bar P c d, Finset.sum_const, Finset.card_univ, Fintype.card_fin, smul_eq_mul]
/-- A transfer's semaphore expects a block's credit. -/
theorem expect_cell : (Rd P).expect (cell c x b) 0 = N := by
  unfold Schedule.expect Schedule.amountOf; rw [duties_cell, Finset.sum_singleton, amount_cell]
/-- What a signal at the barrier hands over. -/
theorem payload_bar (d : Fin 3) : (Rd P).payload (barCell c) 0 d = barPay c d := by dsimp only [Rd]; exact if_pos rfl
/-- What the completion of a send hands back. -/
theorem payload_send (d : Fin 3) : (Rd P).payload (cell c x false) 0 d = sendPay P c x := by
  dsimp only [Rd]; rw [if_neg (semOf_ne_bar _), roleOf_semOf]; rfl
/-- What a landing hands over. -/
theorem payload_recv (d : Fin 3) : (Rd P).payload (cell c x true) 0 d = recvPay P c x := by
  dsimp only [Rd]; rw [if_neg (semOf_ne_bar _), roleOf_semOf]; rfl
/-- All that the barrier hands over. -/
theorem rest_bar : bigSep ((Rd P).duties (barCell c) 0 \ ∅) (fun d => (Rd P).payload (barCell c) 0 d)
    = bigSep Finset.univ (fun d => barPay (F := F) c d) := by
  rw [Finset.sdiff_empty, duties_bar]; exact bigSep_congr fun d _ => payload_bar P c d
/-- All that a send semaphore hands over. -/
theorem rest_send : bigSep ((Rd P).duties (cell c x false) 0 \ ∅) (fun d => (Rd P).payload (cell c x false) 0 d) = sendPay P c x := by
  rw [Finset.sdiff_empty, duties_cell, bigSep_singleton, payload_send]
/-- All that a receive semaphore hands over. -/
theorem rest_recv : bigSep ((Rd P).duties (cell c x true) 0 \ ∅) (fun d => (Rd P).payload (cell c x true) 0 d) = recvPay P c x := by
  rw [Finset.sdiff_empty, duties_cell, bigSep_singleton, payload_recv]

end Sched

/-- The three payloads of a device's barrier are the landing blocks of all its transfers. -/
theorem barPay_all (c : Dev nD) : bigSep Finset.univ (fun d => barPay (F := F) c d) = bigSep Finset.univ (fun x => landing (F := F) c x) := by
  have h := bigSep_biUnion_eq (Finset.univ : Finset (Fin 3)) (fun j => Finset.univ.filter fun x : X => dir x = j) (fun x => landing (F := F) c x)
    (fun i _ j _ hij => Finset.disjoint_left.mpr fun x hx hy => hij ((Finset.mem_filter.mp hx).2.symm.trans (Finset.mem_filter.mp hy).2))
  have hu : (Finset.univ : Finset (Fin 3)).biUnion (fun j => Finset.univ.filter fun x : X => dir x = j) = Finset.univ :=
    Finset.eq_univ_iff_forall.mpr fun x => Finset.mem_biUnion.mpr ⟨dir x, Finset.mem_univ _, Finset.mem_filter.mpr ⟨Finset.mem_univ _, rfl⟩⟩
  rw [hu] at h
  exact h.symm

/-! ## What is owed, and the order of the waits -/

/-- What a device still has to pay: its three arrivals at barriers, and its transfers' landings. -/
abbrev Due : Type := Fin 3 ⊕ X
def dueCell (c : Dev nD) : Due → GSem nD τ sig
  | .inl j => barCell (pb j c)
  | .inr x => cell (tgt c x) x true
def dueAmt : Due → ℕ
  | .inl _ => 1
  | .inr _ => N
def ow (c : Dev nD) : List Due → CellTallies nD τ sig Unit
  | [] => 0
  | y :: l => ow c l + tallyAt (dueCell c y) () (dueAmt y)

/-- Everything a device owes at the start, in the order it pays. -/
def allDues : List Due := [.inl 0, .inl 1, .inl 2] ++ order.map .inr
/-- The signals in the order the program makes them. -/
def sigOrder : List (Fin 3) := [0, 1, 2]

def L (g : GSem nD τ sig) : Finset Unit := if g.1.2 = .tc then {()} else ∅
/-- Only a main core owes anything. -/
theorem L_of_ne (g : GSem nD τ sig) (h : g.1.2 ≠ .tc) : L g = ∅ := if_neg h
/-- A main core's cells all have a level. -/
theorem L_tc (c : Dev nD) (sm : SemLoc sig) : L ((c : Thread nD τ), sm) = {()} := if_pos rfl

/-- The level of a transfer's landing. -/
def lvX : X → ℕ
  | .rs _ s => 2 + s.val
  | .z1 _ => 5
  | .z2 _ => 6
  | .ag _ s => 7 + s.val
def lvO : Option (X × Bool) → ℕ
  | some (x, true) => lvX x
  | _ => 0
/-- The level of a cell: a device waits only for cells below all those it still owes. -/
def lv (g : GSem nD τ sig) (_ : Unit) : ℕ := if g.2 = .reg barS then 1 else lvO (roleOf g.2)
def lvD : Due → ℕ
  | .inl _ => 1
  | .inr x => lvX x

/-- The barrier's level. -/
theorem lv_bar (c : Dev nD) : lv (barCell c) () = 1 := if_pos rfl
/-- The level of a transfer's semaphore. -/
theorem lv_cell (c : Dev nD) (x : X) (b : Bool) : lv (cell c x b) () = lvO (some (x, b)) := by
  unfold lv; rw [if_neg (semOf_ne_bar _), roleOf_semOf]
/-- The level of the cell at which a due is paid. -/
theorem lv_due (c : Dev nD) (y : Due) : lv (dueCell c y) () = lvD y := by
  rcases y with j | x
  · exact lv_bar _
  · exact lv_cell _ _ _

/-- A due is paid at a cell that has a level. -/
theorem dueCell_tc (c : Dev nD) (y : Due) : L (dueCell c y) = {()} := by
  rcases y with j | x <;> exact L_tc _ _

/-- A cell still owed is the cell of one of the dues. -/
theorem ow_pos {c : Dev nD} : ∀ {l : List Due} {g : GSem nD τ sig} {u : Unit}, 0 < ow c l g u → ∃ y ∈ l, g = dueCell c y
  | [], g, u, h => absurd h (Nat.lt_irrefl 0)
  | y :: l, g, u, h => by
    unfold ow at h
    rw [Pi.add_apply, Finsupp.add_apply, tallyAt_apply] at h
    by_cases hg : g = dueCell c y
    · exact ⟨y, List.mem_cons_self, hg⟩
    · rw [if_neg (fun h' => hg h'.1), Nat.add_zero] at h
      obtain ⟨z, hz, h'⟩ := ow_pos h
      exact ⟨z, List.mem_cons_of_mem _ hz, h'⟩

/-- A wait is allowed below everything owed. -/
theorem mayWait_below (c : Dev nD) (sm : SemLoc sig) (n : ℕ) (hn : lv ((c : Thread nD τ), sm) () ≤ n) (l : List Due)
    (hl : ∀ y ∈ l, n < lvD y) : (levAts L lv : sProp 𝕄) ⊢ MayWait (c : Thread nD τ) sm () (ow c l) :=
  MayOwe.of_cut (L := L) (lev := lv) n (fun p hp => by rw [Finset.mem_singleton.mp hp, L_tc]; exact Finset.mem_singleton_self _)
    (fun g u hg => by obtain ⟨y, -, rfl⟩ := ow_pos hg; rw [dueCell_tc]; exact Finset.mem_singleton_self _)
    (fun p hp => by rw [Finset.mem_singleton.mp hp]; exact hn)
    (fun g u hg => by obtain ⟨y, hy, rfl⟩ := ow_pos hg; exact (hl y hy).trans_eq (lv_due c y).symm)

/-! ## Lists of resources -/

/-- The resources of a list, one after the other. -/
def stars {A : Type} (Φ : A → sProp 𝕄) : List A → sProp 𝕄
  | [] => iprop(emp)
  | a :: l => iprop(Φ a ∗ stars Φ l)

/-- A list's resources: the first and the others. -/
theorem stars_cons {A : Type} (Φ : A → sProp 𝕄) (a : A) (l : List A) : stars Φ (a :: l) = iprop(Φ a ∗ stars Φ l) := rfl

/-- The resources of a list without repetition are those of its set. -/
theorem stars_eq {A : Type} [DecidableEq A] (Φ : A → sProp 𝕄) : ∀ l : List A, l.Nodup → stars Φ l = bigSep l.toFinset Φ
  | [], _ => bigSep_empty.symm
  | a :: l, h => by
    rw [List.toFinset_cons, bigSep_insert (fun hm => (List.nodup_cons.mp h).1 (List.mem_toFinset.mp hm)), ← stars_eq Φ l (List.nodup_cons.mp h).2]
    rfl

/-- The transfers of the program are all the transfers. -/
theorem order_univ : order.toFinset = (Finset.univ : Finset X) := rfl

/-- The resources of a list that names everything once are those of the whole type. -/
theorem stars_perm {A : Type} [DecidableEq A] [Fintype A] (Φ : A → sProp 𝕄) (l : List A) (h : l.Nodup) (hu : ∀ a, a ∈ l) :
    stars Φ l = bigSep Finset.univ Φ := by
  rw [stars_eq Φ l h, Finset.eq_univ_iff_forall.mpr fun a => List.mem_toFinset.mpr (hu a)]

/-- What is left of a list after `k` members begins with the next one. -/
theorem drop_cons {A : Type} {l : List A} {k : ℕ} {a : A} (h : l[k]? = some a) : l.drop k = a :: l.drop (k + 1) := by
  obtain ⟨hk, rfl⟩ := List.getElem?_eq_some_iff.mp h
  exact List.drop_eq_getElem_cons hk
/-- One more member taken is the first of the reversed beginning. -/
theorem take_rev_cons {A : Type} {l : List A} {k : ℕ} {a : A} (h : l[k]? = some a) : (l.take (k + 1)).reverse = a :: (l.take k).reverse := by
  rw [List.take_succ, h]; simp

/-! ## The bundles -/

/-- The invariants of all cells, and that all of them have reached their only round. -/
def records (K : Dev nD × CI → ℕ) : sProp 𝕄 :=
  bigSep Finset.univ (fun ck => iprop(cellInv ER (Rd P) (K ck) (kcell ck) ∗ reached ER (kcell ck) 0))

instance records_persistent (K : Dev nD × CI → ℕ) : BI.Persistent (records P K) := by unfold records; infer_instance

/-- What every device knows throughout. -/
def ctx : sProp 𝕄 := iprop((∃ K, records P K) ∗ levAts L lv)

instance ctx_persistent : BI.Persistent (ctx P) := by unfold ctx; infer_instance

/-- What a device needs for a transfer besides the block it sends: its place at the sending semaphore, the two
    duties it pays; and once the barrier is passed, the block it writes. -/
def tokR (c : Dev nD) (x : X) : sProp 𝕄 :=
  iprop(atPos ER (cell c x false) 0 ∅ 0 ∗ dutyTok ER (cell c x false) 0 0 ∗ dutyTok ER (cell (tgt c x) x true) 0 0)
def sendR (c : Dev nD) (x : X) : sProp 𝕄 := iprop(tokR c x ∗ landing (F := F) c x)
/-- What it has after starting it, and what it has for a transfer it is to receive. -/
def sentR (c : Dev nD) (x : X) : sProp 𝕄 :=
  iprop(atPos ER (cell c x false) 0 ∅ 0 ∗ cred (tallyAt (cell c x false) () N))
def recvR (c : Dev nD) (x : X) : sProp 𝕄 :=
  iprop(atPos ER (cell c x true) 0 ∅ 0 ∗ cred (tallyAt (cell c x true) () N))
/-- A semaphore put back to zero. -/
def zeroR (c : Dev nD) (b : Bool) (x : X) : sProp 𝕄 := semVal (cell c x b) 0

/-- The transfers in the order the program waits for their arrival, and in the order it waits for its own. -/
def rorder : List X :=
  [.rs 0 0, .rs 1 0, .rs 2 0, .rs 3 0, .rs 0 1, .rs 1 1, .rs 2 1, .rs 3 1, .rs 0 2, .rs 1 2, .rs 2 2, .rs 3 2,
   .z1 0, .z1 1, .z2 0, .z2 1,
   .ag 0 0, .ag 1 0, .ag 2 0, .ag 3 0, .ag 0 1, .ag 1 1, .ag 2 1, .ag 3 1, .ag 0 2, .ag 1 2, .ag 2 2, .ag 3 2]
def worder : List X :=
  [.rs 0 0, .ag 0 0, .rs 0 1, .ag 0 1, .rs 0 2, .ag 0 2, .rs 1 0, .ag 1 0, .rs 1 1, .ag 1 1, .rs 1 2, .ag 1 2,
   .rs 2 0, .ag 2 0, .rs 2 1, .ag 2 1, .rs 2 2, .ag 2 2, .rs 3 0, .ag 3 0, .rs 3 1, .ag 3 1, .rs 3 2, .ag 3 2,
   .z1 0, .z2 0, .z1 1, .z2 1]

/-- Before the barrier, `n` of the three arrivals announced. -/
def Pre (c : Dev nD) (n : ℕ) : sProp 𝕄 :=
  iprop(ctx P ∗ (∃ W, owes (c : Thread nD τ) (ow c (allDues.drop n)) W)
    ∗ stars (fun j => dutyTok ER (barCell (pb j c)) 0 j) (sigOrder.drop n)
    ∗ atPos ER (barCell c) 0 ∅ 0 ∗ cred (tallyAt (barCell c) () 3)
    ∗ stars (tokR (F := F) c) order ∗ stars (recvR (F := F) c) rorder)

/-- After the barrier, `k` transfers started and `j` received. -/
def Eng (c : Dev nD) (k j : ℕ) : sProp 𝕄 :=
  iprop(ctx P ∗ semVal (barCell c) 0 ∗ (∃ W, owes (c : Thread nD τ) (ow c ((order.drop k).map .inr)) W)
    ∗ stars (sendR (F := F) c) (order.drop k) ∗ stars (sentR (F := F) c) (order.take k).reverse
    ∗ stars (recvR (F := F) c) (rorder.drop j) ∗ stars (zeroR (F := F) c true) (rorder.take j).reverse)

/-- At the end, `n` of its own transfers waited for. -/
def Fin_ (c : Dev nD) (n : ℕ) : sProp 𝕄 :=
  iprop(ctx P ∗ semVal (barCell c) 0 ∗ (∃ W, owes (c : Thread nD τ) 0 W)
    ∗ stars (sentR (F := F) c) (worder.drop n)
    ∗ stars (fun x => iprop(zeroR (F := F) c false x ∗ sendPay P c x)) (worder.take n).reverse
    ∗ stars (zeroR (F := F) c true) rorder.reverse)

end Cert.Run

end
-- ==== Proof.Effects.lean ====
/-
One lemma for each kind of step a device takes with its semaphores: an arrival announced at a neighbour's barrier,
the wait at its own barrier, a transfer started, a transfer received, and the wait for one of its own transfers.
-/
module

public import proofs.«01_k».proof.Proof.Schedule

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD)

/-- A program run by device `c` from here on, to end in `Q`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The invariant of one cell, and that it has reached its round, out of the records of all. -/
theorem inv_at (K : Dev nD × CI → ℕ) (d : Dev nD) (o : CI) :
    records P K ⊢ iprop(cellInv ER (Rd P) (K (d, o)) (kcell (d, o)) ∗ reached ER (kcell (d, o)) 0) :=
  bigSep_elim (Finset.mem_univ (d, o))

/-- Announcing the arrival at the barrier of the device whose neighbour in direction `j` this one is, handing over the
    blocks that device writes here. -/
theorem step_signal (n : ℕ) (j : Fin 3) (hj : sigOrder[n]? = some j) (hd : allDues[n]? = some (.inl j)) (d : Dev nD) (hn : d = pb j c)
    {α : Type} {Q : α → sProp 𝕄} {k : PUnit → Prog (TpuEff nD τ sig (Elt F) Λ₀ .tc) α} :
    iprop(Pre P c n ∗ barPay (F := F) (pb j c) j)
      ⊢ iprop((Pre P c (n + 1) -∗ WP c (k ⟨⟩) Q) -∗ WP c (.op (.semSignal (Dev.tc d : Thread nD τ) barS 1) k) Q) := by
  subst hn
  unfold Pre ctx
  rw [drop_cons hj, drop_cons hd]
  simp only [stars_cons]
  iintro ⟨⟨⟨⟨%K, #HR⟩, #Hlev⟩, ⟨%W, HO⟩, ⟨Ht, Hts⟩, Hrest⟩, Hpay⟩ Hk
  ihave ⟨#HI, #Hr⟩ := (inv_at P K (pb j c) none) $$ HR
  iapply (Rounds.wp_signal 𝒱₀ ER (Rd P) (c : Thread nD τ) none (dst := (pb j c : Thread nD τ)) (κ := K (pb j c, none))
      (d := j) (by rw [duties_bar]; exact Finset.mem_univ _) (amount_bar P (pb j c) j) () (ow c (allDues.drop (n + 1))) rfl)
    $$ [HO Ht Hpay]
  · isplitr; · iexact HI
    isplitl [HO]; · iexact HO
    isplitl [Ht]; · iexact Ht
    isplitl [Hpay]; · rw [payload_bar]; iexact Hpay
    iexact Hr
  iintro HO
  iapply Hk
  isplitr
  · isplitr; · iexists K; iexact HR
    iexact Hlev
  isplitl [HO]; · iexists W; iexact HO
  isplitl [Hts]; · iexact Hts
  iexact Hrest

/-- Waiting at its own barrier for all three: the blocks it is going to write are its own to write. -/
theorem step_barrier {α : Type} {Q : α → sProp 𝕄} {k : PUnit → Prog (TpuEff nD τ sig (Elt F) Λ₀ .tc) α} :
    Pre P c 3 ⊢ iprop((Eng P c 0 0 -∗ WP c (k ⟨⟩) Q) -∗ WP c (.op (.semWait barS 3) k) Q) := by
  unfold Pre ctx
  iintro ⟨⟨⟨%K, #HR⟩, #Hlev⟩, ⟨%W, HO⟩, -, Hat, Hc, Htok, Hrecv⟩ Hk
  ihave ⟨#HI, #Hr⟩ := (inv_at P K c none) $$ HR
  iapply (Rounds.wp_wait_rest_token 𝒱₀ ER (Rd P) (c : Thread nD τ) none (κ := K (c, none))
      (wpE_semWait_eq 𝒱₀ (c : Thread nD τ) none Set.univ) (Set.mem_univ _) () (O := ow c (allDues.drop 3)) (W := W) (R := 0) (m := 0) (T := ∅)
      (by rw [Nat.zero_add]; exact (expect_bar P c).symm)) $$ [Hc HO Hat]
  · isplitr; · iexact HI
    isplitl [Hc]; · iexact Hc
    isplitl [HO]; · iexact HO
    isplitr
    · iapply (mayWait_below c (.reg barS) 1 (le_of_eq (lv_bar c)) (allDues.drop 3) (by decide)); iexact Hlev
    iexact Hat
  iintro ⟨HO, Hat, -, Hpay⟩
  ihave Hland := (Entails.of_eq ((rest_bar P c).trans ((barPay_all c).trans (stars_perm (landing (F := F) c) order order_nodup mem_order).symm))) $$ Hpay
  imod (Rounds.cell_close ER (Rd P) (Set.mem_univ (K (c, none))) (fun h => h) (R := 0 + 1) (duties_later P (barCell c))) $$ [Hat] with Hz
  · isplitr; · iexact HI
    iexact Hat
  iapply Hk
  unfold Eng ctx
  isplitr
  · isplitr; · iexists K; iexact HR
    iexact Hlev
  isplitl [Hz]; · iexact Hz
  isplitl [HO]; · iexists _; iexact HO
  isplitl [Htok Hland]
  · ihave H := (Entails.of_eq (stars_perm (tokR (F := F) c) order order_nodup mem_order)) $$ Htok
    ihave H' := (Entails.of_eq (stars_perm (landing (F := F) c) order order_nodup mem_order)) $$ Hland
    rw [List.drop_zero, stars_perm (sendR (F := F) c) order order_nodup mem_order]
    unfold sendR
    iapply (Entails.of_eq (bigSep_sep' (Finset.univ : Finset X) (tokR (F := F) c) (landing (F := F) c)).symm)
    isplitl [H] <;> iassumption
  isplitr; · rw [List.take_zero]; unfold stars; iempintro
  isplitl [Hrecv]; · iexact Hrecv
  rw [List.take_zero]; unfold stars; iempintro

/-- Starting transfer `x`: the block it sends goes with it. -/
theorem step_send (k j : ℕ) (x : X) (hx : order[k]? = some x) (d : Dev nD) (hd : d = tgt c x) (src dst : Mem2) (hs : src = srcM c x)
    (ht : dst = dstM c x) (sS sR : DmaSem sig) (hS : sS = sendSem x) (hR : sR = recvSem x)
    {hsc : (dst : Memref sig (Dev.tc d : Thread nD τ).2.kind .vmem S128x1024 .bf16).view.ref.isScScratch = false}
    {hsrc : src.view.WordExact} {hdst : dst.view.WordExact}
    {hsem : DmaTarget.Typed .vmem (.dma sR) (.remote (Dev.tc d : Thread nD τ) dst (.dma sS) hsc)}
    {α : Type} {Q : α → sProp 𝕄} {k' : PUnit → Prog (TpuEff nD τ sig (Elt F) Λ₀ .tc) α} :
    iprop(Eng P c k j ∗ own2 c (srcM c x) (shr x) (val P c x))
      ⊢ iprop((Eng P c (k + 1) j -∗ WP c (k' ⟨⟩) Q)
          -∗ WP c (.op (.enqueueDma src (.remote (Dev.tc d : Thread nD τ) dst (.dma sS) hsc) (.dma sR) hsrc hdst hsem) k') Q) := by
  subst hd hs ht hS hR
  unfold Eng ctx
  rw [drop_cons hx, take_rev_cons hx]
  simp only [stars_cons]
  iintro ⟨⟨⟨⟨%K, #HR⟩, #Hlev⟩, Hz, ⟨%W, HO⟩, ⟨Hx, Hxs⟩, Hsent, Hrecv⟩, Hsrc⟩ Hk
  unfold sendR tokR landing own2 owns
  icases Hx with ⟨⟨Hat, HtS, HtR⟩, ⟨%v, %fd, %hv, Hdst⟩⟩
  icases Hsrc with ⟨%fs, %hfs, Hsrc⟩
  ihave ⟨#HI, #Hr⟩ := (inv_at P K c (some (x, false))) $$ HR
  ihave ⟨#HI', #Hr'⟩ := (inv_at P K (tgt c x) (some (x, true))) $$ HR
  iapply (Rounds.wp_send_pointsTo 𝒱₀ ER (Rd P) (c : Thread nD τ) none (κ₁ := K (c, some (x, false))) (κ₂ := K (tgt c x, some (x, true)))
    (c' := (tgt c x : Thread nD τ)) (src := srcM c x) (dst := (dstM c x : Memref sig (Dev.tc (tgt c x) : Thread nD τ).2.kind .vmem S128x1024 .bf16)) (sS := .dma (sendSem x)) (sem := .dma (recvSem x))
    (r₁ := 0) (r₂ := 0) (d₁ := 0) (d₂ := 0) (fd := fd)
    (by show _ ∈ (Rd P).duties (cell c x false) 0; rw [duties_cell]; exact Finset.mem_singleton_self _)
    (by show _ ∈ (Rd P).duties (cell (tgt c x) x true) 0; rw [duties_cell]; exact Finset.mem_singleton_self _)
    () () N (dstM_amount c x) (amount_cell P c x false 0) (amount_cell P (tgt c x) x true 0) (ow c ((order.drop (k + 1)).map .inr)) rfl (W := W)
    (by
      show _ ⊢ (Rd P).payload (cell c x false) 0 0
      rw [payload_send]; unfold sendPay own2
      rw [← hfs]; exact owns_intro (Ix := Unit) (Name := ℕ) (U := UU) (Lvl := ℕ) (c : Thread nD τ) (srcM c x) (shr x) fs)
    (by
      show _ ⊢ (Rd P).payload (cell (tgt c x) x true) 0 0
      rw [payload_recv]; unfold recvPay own2
      rw [org_tgt, ← hfs]
      refine (owns_intro (Ix := Unit) (Name := ℕ) (U := UU) (Lvl := ℕ) (tgt c x : Thread nD τ) (dstM c x) fullShare _).trans ?_
      rw [View.read_write_univ])) $$ [Hsrc Hdst HO HtS HtR]
  · isplitr; · iexact HI
    isplitr; · iexact HI'
    isplitl [Hsrc]; · iexact Hsrc
    isplitl [Hdst]; · iexact Hdst
    isplitl [HO]; · iexact HO
    isplitl [HtS]; · iexact HtS
    isplitr; · iexact Hr
    isplitl [HtR]; · iexact HtR
    iexact Hr'
  iintro ⟨Hc, HO⟩
  iapply Hk
  isplitr
  · isplitr; · iexists K; iexact HR
    iexact Hlev
  isplitl [Hz]; · iexact Hz
  isplitl [HO]; · iexists W; iexact HO
  isplitl [Hxs]; · iexact Hxs
  isplitl [Hat Hc Hsent]
  · isplitl [Hat Hc]
    · unfold sentR
      isplitl [Hat]; · iexact Hat
      iexact Hc
    iexact Hsent
  iexact Hrecv

/-- Receiving transfer `x`: the block its sender wrote. -/
theorem step_recv (k j : ℕ) (x : X) (hx : rorder[j]? = some x) (hl : ∀ y ∈ (order.drop k).map Sum.inr, lvX x < lvD y)
    (sR : DmaSem sig) (hR : sR = recvSem x) {sp : Space} {s : Shape} {e : EltTy} {src : Memref sig .tc sp s e} {dst : Memref sig .tc .vmem S128x1024 .bf16}
    {hsrc : src.view.WordExact} {hdst : dst.view.WordExact} (hN : dst.view.dmaCredit = N)
    {α : Type} {Q : α → sProp 𝕄} {k' : PUnit → Prog (TpuEff nD τ sig (Elt F) Λ₀ .tc) α} :
    Eng P c k j ⊢ iprop(((Eng P c k (j + 1) ∗ recvPay P c x) -∗ WP c (k' ⟨⟩) Q)
          -∗ WP c (.op (.waitDma2 sR src dst hsrc hdst) k') Q) := by
  subst hR
  unfold Eng ctx
  rw [drop_cons hx, take_rev_cons hx]
  simp only [stars_cons]
  iintro ⟨⟨⟨%K, #HR⟩, #Hlev⟩, Hz, ⟨%W, HO⟩, Hsend, Hsent, ⟨Hx, Hxs⟩, Hdone⟩ Hk
  unfold recvR
  icases Hx with ⟨Hat, Hc⟩
  ihave ⟨#HI, #Hr⟩ := (inv_at P K c (some (x, true))) $$ HR
  iapply (Rounds.wp_wait_rest_token 𝒱₀ ER (Rd P) (c : Thread nD τ) none (κ := K (c, some (x, true))) (sm := semOf (x, true)) (k' := N)
      (by intro Kt; rw [wpE_waitDma2_eq 𝒱₀ (c : Thread nD τ) none Set.univ, hN]; rfl) (Set.mem_univ _) () (O := ow c ((order.drop k).map .inr)) (W := W) (R := 0) (m := 0) (T := ∅)
      (by rw [Nat.zero_add]; exact (expect_cell P c x true).symm)) $$ [Hc HO Hat]
  · isplitr; · iexact HI
    isplitl [Hc]; · iexact Hc
    isplitl [HO]; · iexact HO
    isplitr
    · iapply (mayWait_below c (.dma (recvSem x)) (lvX x) (le_of_eq (lv_cell c x true)) _ hl); iexact Hlev
    iexact Hat
  iintro ⟨HO, Hat, -, Hpay⟩
  ihave Hpay' := (Entails.of_eq (rest_recv P c x)) $$ Hpay
  imod (Rounds.cell_close ER (Rd P) (Set.mem_univ (K (c, some (x, true)))) (fun h => h) (R := 0 + 1) (duties_later P (cell c x true))) $$ [Hat] with Hx
  · isplitr; · iexact HI
    iexact Hat
  iapply Hk
  isplitr [Hpay']
  · isplitr
    · isplitr; · iexists K; iexact HR
      iexact Hlev
    isplitl [Hz]; · iexact Hz
    isplitl [HO]; · iexists _; iexact HO
    isplitl [Hsend]; · iexact Hsend
    isplitl [Hsent]; · iexact Hsent
    isplitl [Hxs]; · iexact Hxs
    unfold zeroR
    isplitl [Hx] <;> iassumption
  iexact Hpay'

/-- All transfers started and received: what is left is to wait for its own. -/
theorem eng_done : Eng P c 28 28 ⊢ Fin_ P c 0 := by
  unfold Eng Fin_
  rw [show order.drop 28 = [] from rfl, show worder.drop 0 = worder from rfl, show (worder.take 0).reverse = [] from rfl, show rorder.drop 28 = [] from rfl,
    show rorder.take 28 = rorder from rfl, show order.take 28 = order from rfl,
    stars_perm (sentR (F := F) c) order.reverse (by decide) (fun x => List.mem_reverse.mpr (mem_order x)),
    ← stars_perm (sentR (F := F) c) worder (by decide) (by
      intro x
      rcases x with ⟨i, s⟩ | ⟨h⟩ | ⟨h⟩ | ⟨i, s⟩
      · revert i s; decide
      · revert h; decide
      · revert h; decide
      · revert i s; decide)]
  iintro ⟨Hctx, Hz, HO, -, Hs, -, Hd⟩
  isplitl [Hctx]; · iexact Hctx
  isplitl [Hz]; · iexact Hz
  isplitl [HO]; · iexact HO
  isplitl [Hs]; · iexact Hs
  isplitr; · unfold stars; iempintro
  iexact Hd

/-- Waiting for its own transfer `x`: the block it sent comes back. -/
theorem step_done (n : ℕ) (x : X) (hx : worder[n]? = some x)
    (sS : DmaSem sig) (hS : sS = sendSem x) {sp : Space} {s : Shape} {e : EltTy} {src : Memref sig .tc sp s e} {dst : Memref sig .tc .vmem S128x1024 .bf16}
    {hsrc : src.view.WordExact} {hdst : dst.view.WordExact} (hN : dst.view.dmaCredit = N)
    {α : Type} {Q : α → sProp 𝕄} {k' : PUnit → Prog (TpuEff nD τ sig (Elt F) Λ₀ .tc) α} :
    Fin_ P c n ⊢ iprop((Fin_ P c (n + 1) -∗ WP c (k' ⟨⟩) Q) -∗ WP c (.op (.waitDma2 sS src dst hsrc hdst) k') Q) := by
  subst hS
  unfold Fin_ ctx
  rw [drop_cons hx, take_rev_cons hx]
  simp only [stars_cons]
  iintro ⟨⟨⟨%K, #HR⟩, #Hlev⟩, Hz, ⟨%W, HO⟩, ⟨Hx, Hxs⟩, Hdone⟩ Hk
  unfold sentR
  icases Hx with ⟨Hat, Hc⟩
  ihave ⟨#HI, #Hr⟩ := (inv_at P K c (some (x, false))) $$ HR
  iapply (Rounds.wp_wait_rest_token 𝒱₀ ER (Rd P) (c : Thread nD τ) none (κ := K (c, some (x, false))) (sm := semOf (x, false)) (k' := N)
      (by intro Kt; rw [wpE_waitDma2_eq 𝒱₀ (c : Thread nD τ) none Set.univ, hN]; rfl) (Set.mem_univ _) () (O := 0) (W := W) (R := 0) (m := 0) (T := ∅)
      (by rw [Nat.zero_add]; exact (expect_cell P c x false).symm)) $$ [Hc HO Hat]
  · isplitr; · iexact HI
    isplitl [Hc]; · iexact Hc
    isplitl [HO]; · iexact HO
    isplitr
    · rw [MayWait_zero]; iempintro
    iexact Hat
  iintro ⟨HO, Hat, -, Hpay⟩
  ihave Hpay' := (Entails.of_eq (rest_send P c x)) $$ Hpay
  imod (Rounds.cell_close ER (Rd P) (Set.mem_univ (K (c, some (x, false)))) (fun h => h) (R := 0 + 1) (duties_later P (cell c x false))) $$ [Hat] with Hx
  · isplitr; · iexact HI
    iexact Hat
  iapply Hk
  isplitr
  · isplitr; · iexists K; iexact HR
    iexact Hlev
  isplitl [Hz]; · iexact Hz
  isplitl [HO]; · iexists _; iexact HO
  isplitl [Hxs]; · iexact Hxs
  icases Hdone with ⟨Hd, Hr⟩
  isplitl [Hx Hpay' Hd]
  · isplitl [Hx Hpay']
    · unfold zeroR
      isplitl [Hx] <;> iassumption
    iexact Hd
  iexact Hr

end Cert.Run

end
-- ==== Proof.Mem.lean ====
/-
One lemma for each kind of load and store of the program: of an input held whole, and of a block of a buffer held by
its blocks.
-/
module

public import proofs.«01_k».proof.Proof.Effects

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- A buffer of device `c` held whole. -/
abbrev pt (b : Ref sig .tc) (f : b.ty.Contents (Elt F)) : sProp 𝕄 := ((c : Thread nD τ).loc b) ↦{fullShare} f

/-- Two rectangles of the same sizes at the same place. -/
theorem rect_eq {s : Shape} {off off' size : Fin s.rank → ℕ} (h : off = off') (inb : ∀ a, off a + size a ≤ s.size a)
    (inb' : ∀ a, off' a + size a ≤ s.size a) : Rect.unit off size inb = Rect.unit off' size inb' := by subst h; rfl

/-! ## Whole buffers -/

/-- The part of a whole buffer a load at `off` reads. -/
abbrev part (b : Ref sig .tc) {size : Fin b.ty.shape.rank → ℕ} (off : Fin b.ty.shape.rank → ℕ) (inb : ∀ a, off a + size a ≤ b.ty.shape.size a)
    (f : b.ty.Contents (Elt F)) : (Rect.unit (s := b.ty.shape) off size inb).shape.Idx → Elt F b.ty.elt :=
  (Memref.whole b).view.readAt (Elt F) (Rect.unit (s := b.ty.shape) off size inb).toLoadRect f

/-- A buffer of a core's own memory. -/
abbrev vref (i : Fin (sig.nNear .tc .vmem)) (hκ : sig.names .tc .vmem i = true) : Ref sig .tc := ⟨.vmem, i, hκ⟩

/-- A load of some rows of a buffer held whole. -/
theorem load_rows {i : Fin (sig.nNear .tc .vmem)} {hκ : sig.names .tc .vmem i = true} {off off' size : Fin (vref i hκ).ty.shape.rank → ℕ} (inb : ∀ a, off a + size a ≤ (vref i hκ).ty.shape.size a)
    (inb' : ∀ a, off' a + size a ≤ (vref i hκ).ty.shape.size a) (h : off = off') (f : (vref i hκ).ty.Contents (Elt F))
    {hl : (Memref.whole (vref i hκ)).view.LoadsAt (Rect.unit (s := (vref i hκ).ty.shape) off size inb).toLoadRect} {α : Type} {Q : α → sProp 𝕄}
    {k : ((Rect.unit (s := (vref i hκ).ty.shape) off size inb).toLoadRect.shape.Idx → Elt F (vref i hκ).ty.elt) → Prog (TpuEff nD τ sig (Elt F) Λ₀ .tc) α} :
    (pt c (vref i hκ) f : sProp 𝕄)
      ⊢ iprop((pt c (vref i hκ) f -∗ WP c (k (part (vref i hκ) off' inb' f)) Q) -∗ WP c (.op (.load (Memref.whole (vref i hκ)) (Rect.unit (s := (vref i hκ).ty.shape) off size inb).toLoadRect hl) k) Q) := by
  subst h
  exact wp_load 𝒱₀ (c : Thread nD τ) none Set.univ (m := Memref.whole (vref i hκ)) (Finset.subset_univ _)

/-- A load of the whole of a buffer held whole. -/
theorem load_all {i : Fin (sig.nNear .tc .vmem)} {hκ : sig.names .tc .vmem i = true} {off : Fin (vref i hκ).ty.shape.rank → ℕ} (inb : ∀ a, off a + (vref i hκ).ty.shape.size a ≤ (vref i hκ).ty.shape.size a)
    (h : off = fun _ => 0) (f : (vref i hκ).ty.Contents (Elt F))
    {hl : (Memref.whole (vref i hκ)).view.LoadsAt (Rect.unit (s := (vref i hκ).ty.shape) off (vref i hκ).ty.shape.size inb).toLoadRect} {α : Type} {Q : α → sProp 𝕄}
    {k : ((Rect.unit (s := (vref i hκ).ty.shape) off (vref i hκ).ty.shape.size inb).toLoadRect.shape.Idx → Elt F (vref i hκ).ty.elt) → Prog (TpuEff nD τ sig (Elt F) Λ₀ .tc) α} :
    (pt c (vref i hκ) f : sProp 𝕄)
      ⊢ iprop((pt c (vref i hκ) f -∗ WP c (k f) Q) -∗ WP c (.op (.load (Memref.whole (vref i hκ)) (Rect.unit (s := (vref i hκ).ty.shape) off (vref i hκ).ty.shape.size inb).toLoadRect hl) k) Q) := by
  have e := Memref.readAt_unit_zero (Elt F) (vref i hκ) h inb f
  have w := load_rows c inb inb rfl f (hl := hl) (Q := Q) (k := k)
  rw [show part (vref i hκ) off inb f = f from e] at w
  exact w

/-- The store of the scores. -/
theorem store_scores {off : Fin 2 → ℕ} (inb : ∀ a, off a + S2048x32.size a ≤ S2048x32.size a)
    (h : off = fun _ => 0) (f w : Vec F S2048x32 .f32)
    {hx : ((Memref.whole cc0_scratch0).access (Rect.unit (s := S2048x32) off S2048x32.size inb)).Stores Finset.univ} {hm}
    {α : Type} {Q : α → sProp 𝕄} {k : PUnit → Prog (TpuEff nD τ sig (Elt F) Λ₀ .tc) α} :
    (pt c cc0_scratch0 f : sProp 𝕄)
      ⊢ iprop((pt c cc0_scratch0 w -∗ WP c (k ⟨⟩) Q)
          -∗ WP c (.op (.store (cs := .vmem) (Memref.whole cc0_scratch0) (Rect.unit (s := S2048x32) off S2048x32.size inb) w Finset.univ hx hm) k) Q) := by
  have e := Memref.write_access_unit_zero_univ (Elt F) cc0_scratch0 h inb f w
  iintro Hm Hk
  iapply (wp_store 𝒱₀ (c : Thread nD τ) none Set.univ (m := Memref.whole cc0_scratch0) (r := Rect.unit (s := S2048x32) off S2048x32.size inb)
    (f := f) (w := w) (Mk := Finset.univ) (S := Finset.univ) (Finset.subset_univ _)) $$ Hm
  iintro Hm
  iapply Hk
  iapply (Entails.of_eq (congrArg (pt c cc0_scratch0) e)) $$ Hm

/-! ## Blocks -/

/-- Loading a block held on its own. -/
theorem load_block {s : Shape} {e : EltTy} (m : Memref sig .tc .vmem s e) {off off' size : Fin s.rank → ℕ}
    (inb : ∀ a, off a + size a ≤ s.size a) (inb' : ∀ a, off' a + size a ≤ s.size a) (h : off = off') {q : PosShare TreeShare}
    (v : (Rect.unit off' size inb').shape.Idx → Elt F e) {hl : m.view.LoadsAt (Rect.unit off size inb).toLoadRect}
    {α : Type} {Q : α → sProp 𝕄} {k : ((Rect.unit off size inb).toLoadRect.shape.Idx → Elt F e) → Prog (TpuEff nD τ sig (Elt F) Λ₀ .tc) α} :
    (owns (c : Thread nD τ) (m.slice (Rect.unit off' size inb') (fun _ => rfl)) q v : sProp 𝕄)
      ⊢ iprop((owns (c : Thread nD τ) (m.slice (Rect.unit off' size inb') (fun _ => rfl)) q v -∗ WP c (k v) Q)
          -∗ WP c (.op (.load (cs := .vmem) m (Rect.unit off size inb).toLoadRect hl) k) Q) := by
  subst h
  unfold owns
  iintro ⟨%f, %hv, Hm⟩ Hk
  iapply (wp_load 𝒱₀ (c : Thread nD τ) none Set.univ (m := m) (r := (Rect.unit off size inb).toLoadRect)
    (subset_of_eq (View.set_slice (v := m.view) (r := Rect.unit off size inb)).symm)) $$ Hm
  iintro Hm
  rw [show m.view.readAt (Elt F) (Rect.unit off size inb).toLoadRect f = v from hv]
  iapply Hk
  iexists f
  isplitr; · ipureintro; exact hv
  iexact Hm

/-- Loading a part of a block held on its own. -/
theorem load_part {s : Shape} {e : EltTy} (m : Memref sig .tc .vmem s e) {off size off' size' : Fin s.rank → ℕ}
    (inb : ∀ a, off a + size a ≤ s.size a) (inb' : ∀ a, off' a + size' a ≤ s.size a) (h : ∀ a, off' a ≤ off a ∧ off a + size a ≤ off' a + size' a)
    {q : PosShare TreeShare}
    (v : (Rect.unit off' size' inb').shape.Idx → Elt F e) {hl : m.view.LoadsAt (Rect.unit off size inb).toLoadRect}
    (w : (Rect.unit off size inb).shape.Idx → Elt F e)
    (hw : ∀ j, ∃ i, (Rect.unit off' size' inb').emb i = (Rect.unit off size inb).emb j ∧ v i = w j)
    {α : Type} {Q : α → sProp 𝕄} {k : ((Rect.unit off size inb).toLoadRect.shape.Idx → Elt F e) → Prog (TpuEff nD τ sig (Elt F) Λ₀ .tc) α} :
    (owns (c : Thread nD τ) (m.slice (Rect.unit off' size' inb') (fun _ => rfl)) q v : sProp 𝕄)
      ⊢ iprop((owns (c : Thread nD τ) (m.slice (Rect.unit off' size' inb') (fun _ => rfl)) q v -∗ WP c (k w) Q)
          -∗ WP c (.op (.load (cs := .vmem) m (Rect.unit off size inb).toLoadRect hl) k) Q) := by
  unfold owns
  iintro ⟨%f, %hv, Hm⟩ Hk
  have hr : m.view.readAt (Elt F) (Rect.unit off size inb).toLoadRect f = w := by
    funext j
    obtain ⟨i, hi, hvi⟩ := hw j
    rw [← hvi, ← hv]
    show m.view.read (Elt F) f ((Rect.unit off size inb).emb j) = m.view.read (Elt F) f ((Rect.unit off' size' inb').emb i)
    rw [hi]
  iapply (wp_load 𝒱₀ (c : Thread nD τ) none Set.univ (m := m) (r := (Rect.unit off size inb).toLoadRect)
    (by
      refine Finset.Subset.trans ?_ (subset_of_eq (View.set_slice (v := m.view) (r := Rect.unit off' size' inb')).symm)
      refine Finset.map_subset_map.mpr fun i hi => ?_
      have hi' : i ∈ (Rect.unit off size inb).set := hi
      rw [Rect.mem_set_unit] at hi' ⊢
      exact fun a => ⟨(h a).1.trans (hi' a).1, (hi' a).2.trans_le (h a).2⟩)) $$ Hm
  iintro Hm
  rw [hr]
  iapply Hk
  iexists f
  isplitr; · ipureintro; exact hv
  iexact Hm

/-- A block held on its own, at the view an access of it goes through. -/
theorem owns_access {s : Shape} {e : EltTy} (m : Memref sig .tc .vmem s e) {off size : Fin s.rank → ℕ}
    (inb : ∀ a, off a + size a ≤ s.size a) (q : PosShare TreeShare) (v : (Rect.unit off size inb).shape.Idx → Elt F e) :
    (owns (c : Thread nD τ) (m.slice (Rect.unit off size inb) (fun _ => rfl)) q v : sProp 𝕄)
      = iprop(∃ f, ⌜(m.access (Rect.unit off size inb)).read (Elt F) f = v⌝
          ∗ ((m.access (Rect.unit off size inb)).loc (c : Thread nD τ) ↦[(m.access (Rect.unit off size inb)).set]{q} f)) := rfl

/-- Storing over a block held on its own. -/
theorem store_block {s : Shape} {e : EltTy} (m : Memref sig .tc .vmem s e) {off off' size : Fin s.rank → ℕ}
    (inb : ∀ a, off a + size a ≤ s.size a) (inb' : ∀ a, off' a + size a ≤ s.size a) (h : off = off')
    (v : (Rect.unit off' size inb').shape.Idx → Elt F e) (w : (Rect.unit off size inb).shape.Idx → Elt F e)
    {hx : (m.access (Rect.unit off size inb)).Stores Finset.univ} {hm}
    {α : Type} {Q : α → sProp 𝕄} {k : PUnit → Prog (TpuEff nD τ sig (Elt F) Λ₀ .tc) α} :
    (owns (c : Thread nD τ) (m.slice (Rect.unit off' size inb') (fun _ => rfl)) fullShare v : sProp 𝕄)
      ⊢ iprop((owns (c : Thread nD τ) (m.slice (Rect.unit off' size inb') (fun _ => rfl)) fullShare w -∗ WP c (k ⟨⟩) Q)
          -∗ WP c (.op (.store (cs := .vmem) m (Rect.unit off size inb) w Finset.univ hx hm) k) Q) := by
  subst h
  rw [owns_access, owns_access]
  iintro ⟨%f, %hv, Hm⟩ Hk
  iapply (wp_store 𝒱₀ (c : Thread nD τ) none Set.univ (m := m) (r := Rect.unit off size inb) (f := f) (w := w) (Mk := Finset.univ) (S := (m.access (Rect.unit off size inb)).set) (subset_of_eq (View.setOn_univ _))) $$ Hm
  iintro Hm
  iapply Hk
  iexists ((m.access (Rect.unit off size inb)).write (Elt F) f w Finset.univ)
  isplitr
  · ipureintro; exact View.read_write_univ f w
  iexact Hm

/-- Holding a squeezed block is holding the block, at the same values in the block's own shape. -/
theorem owns_squeeze {s s' : Shape} {e : EltTy} (m : Memref sig .tc .vmem s e) (h : s.Squeezes s') (h' : s'.ShapeCasts s) (q : PosShare TreeShare) (v : s'.Idx → Elt F e) :
    (owns (c : Thread nD τ) (m.squeeze s' h) q v : sProp 𝕄) = owns (c : Thread nD τ) m q (shapeCast s v h') := by
  unfold owns
  have hset : (m.squeeze s' h).view.set = m.view.set := View.set_reshape _ _
  have hiff : ∀ f : m.view.ty.Contents (Elt F), ((m.squeeze s' h).view.read (Elt F) f = v) = (m.view.read (Elt F) f = shapeCast s v h') := by
    intro f
    refine propext ⟨fun hv => ?_, fun hv => ?_⟩
    · rw [← hv]
      funext j
      show _ = m.view.read (Elt F) f (Shape.reshapeEquiv h.numel_eq (Shape.reshapeEquiv h' j))
      rw [Shape.reshapeEquiv_reshapeEquiv, Shape.reshapeEquiv_self]
    · funext j
      show m.view.read (Elt F) f (Shape.reshapeEquiv h.numel_eq j) = v j
      rw [hv]
      show v (Shape.reshapeEquiv h' (Shape.reshapeEquiv h.numel_eq j)) = v j
      rw [Shape.reshapeEquiv_reshapeEquiv, Shape.reshapeEquiv_self]
  refine congrArg _ (funext fun f => ?_)
  rw [show (m.squeeze s' h).view.set = m.view.set from hset, hiff f]

/-- Half `d` of the buffer the chunks are computed in. -/
theorem cb_inb (d : Fin 2) : ∀ a, (![256 * d.val, 0] : Fin 2 → ℕ) a + S256x1024.size a ≤ S512x1024.size a := by revert d; decide
abbrev cbM (d : Fin 2) : Memref sig .tc .vmem S256x1024 .bf16 :=
  (Memref.whole cc0_scratch1).slice (Rect.unit (s := S512x1024) ![256 * d.val, 0] S256x1024.size (cb_inb d)) (fun _ => rfl)
abbrev ownC (d : Fin 2) (Y : Chk F) : sProp 𝕄 := owns (c : Thread nD τ) (cbM d) fullShare Y

/-- A block in the shape it has in the buffer of slots, and back. -/
abbrev up (v : Blk F) : S1x1x128x1024.Idx → Elt F .bf16 := shapeCast S1x1x128x1024 v
abbrev upz (v : Blk F) : S1x128x1024.Idx → Elt F .bf16 := shapeCast S1x128x1024 v

/-- A block in a slot, in the shape it has in the buffer. -/
theorem slot_eq (i s : Fin 4) (q : PosShare TreeShare) (v : Blk F) :
    (own2 c (slotM i s) q v : sProp 𝕄) = owns (c : Thread nD τ) ((Memref.whole cc0_scratch2).slice (slotR i s) (fun _ => rfl)) q (up v) :=
  owns_squeeze c _ _ _ q v
/-- A block in the mirror's buffer, in the shape it has there. -/
theorem zb_eq (h : Fin 2) (q : PosShare TreeShare) (v : Blk F) :
    (own2 c (zbM h) q v : sProp 𝕄) = owns (c : Thread nD τ) ((Memref.whole cc0_scratch3).slice (zbR h) (fun _ => rfl)) q (upz v) :=
  owns_squeeze c _ _ _ q v

/-- Loading slot `s` of stream `i`. -/
theorem load_slot (i s : Fin 4) {off : Fin 4 → ℕ} (inb : ∀ a, off a + S1x1x128x1024.size a ≤ S4x4x128x1024.size a) (h : off = ![i.val, s.val, 0, 0])
    {q : PosShare TreeShare} (v : Blk F) {hl : (Memref.whole cc0_scratch2).view.LoadsAt (Rect.unit (s := S4x4x128x1024) off S1x1x128x1024.size inb).toLoadRect}
    {α : Type} {Q : α → sProp 𝕄} {k : (S1x1x128x1024.Idx → Elt F .bf16) → Prog (TpuEff nD τ sig (Elt F) Λ₀ .tc) α} :
    (own2 c (slotM i s) q v : sProp 𝕄)
      ⊢ iprop((own2 c (slotM i s) q v -∗ WP c (k (up v)) Q)
          -∗ WP c (.op (.load (cs := .vmem) (Memref.whole cc0_scratch2) (Rect.unit (s := S4x4x128x1024) off S1x1x128x1024.size inb).toLoadRect hl) k) Q) := by
  rw [slot_eq]
  exact load_block c (Memref.whole cc0_scratch2) inb (slot_inb i s) h (up v)

/-- Storing into slot `s` of stream `i`. -/
theorem store_slot (i s : Fin 4) {off : Fin 4 → ℕ} (inb : ∀ a, off a + S1x1x128x1024.size a ≤ S4x4x128x1024.size a) (h : off = ![i.val, s.val, 0, 0])
    (v w : Blk F) {hx : ((Memref.whole cc0_scratch2).access (Rect.unit (s := S4x4x128x1024) off S1x1x128x1024.size inb)).Stores Finset.univ} {hm}
    {α : Type} {Q : α → sProp 𝕄} {k : PUnit → Prog (TpuEff nD τ sig (Elt F) Λ₀ .tc) α} :
    (own2 c (slotM i s) fullShare v : sProp 𝕄)
      ⊢ iprop((own2 c (slotM i s) fullShare w -∗ WP c (k ⟨⟩) Q)
          -∗ WP c (.op (.store (cs := .vmem) (Memref.whole cc0_scratch2) (Rect.unit (s := S4x4x128x1024) off S1x1x128x1024.size inb) (up w) Finset.univ hx hm) k) Q) := by
  rw [slot_eq, slot_eq]
  exact store_block c (Memref.whole cc0_scratch2) inb (slot_inb i s) h (up v) (up w)

/-- Loading half `h` of the buffer for the mirror's partial sums. -/
theorem load_zb (h : Fin 2) {off : Fin 3 → ℕ} (inb : ∀ a, off a + S1x128x1024.size a ≤ S2x128x1024.size a) (ho : off = ![h.val, 0, 0])
    {q : PosShare TreeShare} (v : Blk F) {hl : (Memref.whole cc0_scratch3).view.LoadsAt (Rect.unit (s := S2x128x1024) off S1x128x1024.size inb).toLoadRect}
    {α : Type} {Q : α → sProp 𝕄} {k : (S1x128x1024.Idx → Elt F .bf16) → Prog (TpuEff nD τ sig (Elt F) Λ₀ .tc) α} :
    (own2 c (zbM h) q v : sProp 𝕄)
      ⊢ iprop((own2 c (zbM h) q v -∗ WP c (k (upz v)) Q)
          -∗ WP c (.op (.load (cs := .vmem) (Memref.whole cc0_scratch3) (Rect.unit (s := S2x128x1024) off S1x128x1024.size inb).toLoadRect hl) k) Q) := by
  rw [zb_eq]
  exact load_block c (Memref.whole cc0_scratch3) inb (zb_inb h) ho (upz v)

/-- Loading and storing piece `r` of the result. -/
theorem load_piece (r : Fin 16) {off : Fin 2 → ℕ} (inb : ∀ a, off a + S128x1024.size a ≤ S2048x1024.size a) (h : off = ![128 * r.val, 0])
    {q : PosShare TreeShare} (v : Blk F) {hl : (Memref.whole cc0_stg4_0).view.LoadsAt (Rect.unit (s := S2048x1024) off S128x1024.size inb).toLoadRect}
    {α : Type} {Q : α → sProp 𝕄} {k : (S128x1024.Idx → Elt F .bf16) → Prog (TpuEff nD τ sig (Elt F) Λ₀ .tc) α} :
    (own2 c (pieceM r) q v : sProp 𝕄)
      ⊢ iprop((own2 c (pieceM r) q v -∗ WP c (k v) Q)
          -∗ WP c (.op (.load (cs := .vmem) (Memref.whole cc0_stg4_0) (Rect.unit (s := S2048x1024) off S128x1024.size inb).toLoadRect hl) k) Q) :=
  load_block c (Memref.whole cc0_stg4_0) inb (piece_inb r) h v
/-- Storing a piece of the result. -/
theorem store_piece (r : Fin 16) {off : Fin 2 → ℕ} (inb : ∀ a, off a + S128x1024.size a ≤ S2048x1024.size a) (h : off = ![128 * r.val, 0])
    (v w : Blk F) {hx : ((Memref.whole cc0_stg4_0).access (Rect.unit (s := S2048x1024) off S128x1024.size inb)).Stores Finset.univ} {hm}
    {α : Type} {Q : α → sProp 𝕄} {k : PUnit → Prog (TpuEff nD τ sig (Elt F) Λ₀ .tc) α} :
    (own2 c (pieceM r) fullShare v : sProp 𝕄)
      ⊢ iprop((own2 c (pieceM r) fullShare w -∗ WP c (k ⟨⟩) Q)
          -∗ WP c (.op (.store (cs := .vmem) (Memref.whole cc0_stg4_0) (Rect.unit (s := S2048x1024) off S128x1024.size inb) w Finset.univ hx hm) k) Q) :=
  store_block c (Memref.whole cc0_stg4_0) inb (piece_inb r) h v w

/-- Loading and storing half `d` of the chunk buffer. -/
theorem load_cb (d : Fin 2) {off : Fin 2 → ℕ} (inb : ∀ a, off a + S256x1024.size a ≤ S512x1024.size a) (h : off = ![256 * d.val, 0]) (Y : Chk F) {hl : (Memref.whole cc0_scratch1).view.LoadsAt (Rect.unit (s := S512x1024) off S256x1024.size inb).toLoadRect}
    {α : Type} {Q : α → sProp 𝕄} {k : (S256x1024.Idx → Elt F .bf16) → Prog (TpuEff nD τ sig (Elt F) Λ₀ .tc) α} :
    (ownC c d Y : sProp 𝕄)
      ⊢ iprop((ownC c d Y -∗ WP c (k Y) Q)
          -∗ WP c (.op (.load (cs := .vmem) (Memref.whole cc0_scratch1) (Rect.unit (s := S512x1024) off S256x1024.size inb).toLoadRect hl) k) Q) :=
  load_block c (Memref.whole cc0_scratch1) inb (cb_inb d) h Y
/-- Storing half `d` of the chunk buffer. -/
theorem store_cb (d : Fin 2) {off : Fin 2 → ℕ} (inb : ∀ a, off a + S256x1024.size a ≤ S512x1024.size a) (h : off = ![256 * d.val, 0]) (Y w : Chk F) {hx : ((Memref.whole cc0_scratch1).access (Rect.unit (s := S512x1024) off S256x1024.size inb)).Stores Finset.univ} {hm}
    {α : Type} {Q : α → sProp 𝕄} {k : PUnit → Prog (TpuEff nD τ sig (Elt F) Λ₀ .tc) α} :
    (ownC c d Y : sProp 𝕄)
      ⊢ iprop((ownC c d w -∗ WP c (k ⟨⟩) Q)
          -∗ WP c (.op (.store (cs := .vmem) (Memref.whole cc0_scratch1) (Rect.unit (s := S512x1024) off S256x1024.size inb) w Finset.univ hx hm) k) Q) :=
  store_block c (Memref.whole cc0_scratch1) inb (cb_inb d) h Y w

/-- A half-chunk lies within its half of the chunk buffer. -/
theorem half_in (d h : Fin 2) : ∀ a : Fin 2, (![256 * d.val, 0] : Fin 2 → ℕ) a ≤ (![256 * d.val + 128 * h.val, 0] : Fin 2 → ℕ) a
    ∧ (![256 * d.val + 128 * h.val, 0] : Fin 2 → ℕ) a + S128x1024.size a ≤ (![256 * d.val, 0] : Fin 2 → ℕ) a + S256x1024.size a := by
  revert d h; decide

/-- Loading half `h` of the chunk in half `d` of the chunk buffer. -/
theorem load_half (d h : Fin 2) {off : Fin 2 → ℕ} (inb : ∀ a, off a + S128x1024.size a ≤ S512x1024.size a) (ho : off = ![256 * d.val + 128 * h.val, 0])
    (Y : Chk F) {hl : (Memref.whole cc0_scratch1).view.LoadsAt (Rect.unit (s := S512x1024) off S128x1024.size inb).toLoadRect}
    {α : Type} {Q : α → sProp 𝕄} {k : (S128x1024.Idx → Elt F .bf16) → Prog (TpuEff nD τ sig (Elt F) Λ₀ .tc) α} :
    (ownC c d Y : sProp 𝕄)
      ⊢ iprop((ownC c d Y -∗ WP c (k (half h Y)) Q)
          -∗ WP c (.op (.load (cs := .vmem) (Memref.whole cc0_scratch1) (Rect.unit (s := S512x1024) off S128x1024.size inb).toLoadRect hl) k) Q) := by
  subst ho
  refine load_part c (Memref.whole cc0_scratch1) inb (cb_inb d) (half_in d h) Y (half h Y) ?_
  · intro j
    refine ⟨(halfR h).emb j, ?_, rfl⟩
    funext a
    refine Fin.ext ?_
    fin_cases a
    · show 256 * d.val + 1 * (128 * h.val + 1 * (j 0).val) = 256 * d.val + 128 * h.val + 1 * (j 0).val
      omega
    · show 0 + 1 * (0 + 1 * (j 1).val) = 0 + 1 * (j 1).val
      omega

end Cert.Run

end
-- ==== Proof.Chunk.lean ====
/-
What one device computes of one chunk of 256 tokens: the router's scores of the two chosen experts turned into two
weights, the tokens scaled by the weight of each of the device's four experts, and the product with the four experts'
matrices stacked.
-/
module

public import proofs.«01_k».proof.Proof.Mem

@[expose] public section

noncomputable section

namespace Cert.Run

open Cert.KernelIdeal Cert.KernelIdeal.Gen

open Idealize.ShloMosaic
open Idealize.ShloMosaic.TcCoe

variable {F : FTy → Type} [FloatOps F]

/-- The number of device `c` as the program computes it. -/
abbrev wd (c : Dev nD) : BitVec 32 := Scalar.remsi (Scalar.divsi (Dev.word c) 1#32) 8#32

/-- The first and the second expert chosen for each token. -/
def e0 (ix : Vec F S256x2 .i32) : IVec S256x1 32 :=
  extractStridedSlice S256x1 ![0, 0] (shapeCast S256x2 ix shapeCasts_S256x2_S256x2 : IVec S256x2 32) slices_S256x2_o0_0_S256x1
def e1 (ix : Vec F S256x2 .i32) : IVec S256x1 32 :=
  extractStridedSlice S256x1 ![0, 1] (shapeCast S256x2 ix shapeCasts_S256x2_S256x2 : IVec S256x2 32) slices_S256x2_o0_1_S256x1

/-- Each token's score of the expert `e` names for it. -/
def pick (s : Vec F S256x32 .f32) (e : IVec S256x1 32) : FVec F S256x1 .f32 :=
  shapeCast S256x1 (multiReduction .add [1] S256
    (select (cmpi .eq (iota .tc S256x32 32 [1] iota_S256x32_d1_w32) (broadcastTo S256x32 e broadcasts_S256x1_S256x32)) s
      (broadcast S256x32 (Scalar.ofBits .f32 0x00000000#32) : FVec F S256x32 .f32) : Vec F S256x32 .f32)
    0x00000000#32 reduces_S256x32_S256 (.inl rfl) rfl : FVec F S256 .f32) shapeCasts_S256_S256x1

section
variable (s : Vec F S256x32 .f32) (ix : Vec F S256x2 .i32)

/-- The larger of the two scores, the exponentials of the two scores less it, and the two weights. -/
def top : FVec F S256x1 .f32 := maximumf (pick s (e0 ix)) (pick s (e1 ix))
def g0 : FVec F S256x1 .f32 := exp (subf (pick s (e0 ix)) (top s ix))
def g1 : FVec F S256x1 .f32 := exp (subf (pick s (e1 ix)) (top s ix))
def w0 : FVec F S256x1 .f32 := divf (g0 s ix) (addf (g0 s ix) (g1 s ix))
def w1 : FVec F S256x1 .f32 := divf (g1 s ix) (addf (g0 s ix) (g1 s ix))

/-- One where the token's expert is expert `k` of device `v`, zero elsewhere. -/
def hit (v k : BitVec 32) (e : IVec S256x1 32) : FVec F S256x1 .f32 :=
  sitofp .f32 (extui 32 (cmpi .eq e (broadcast S256x1 (Scalar.addi (Scalar.muli v 4#32) k))) natLt_1_32)

/-- The weight of expert `k` of device `v` for each token. -/
def gate (v k : BitVec 32) : FVec F S256x1 .f32 := addf (mulf (w0 s ix) (hit v k (e0 ix))) (mulf (w1 s ix) (hit v k (e1 ix)))

/-- The tokens scaled by that weight. -/
def scaled (v k : BitVec 32) (x : Vec F S256x512 .bf16) : FVec F S256x512 .bf16 :=
  mulf (shapeCast S256x512 x shapeCasts_S256x512_S256x512 : FVec F S256x512 .bf16)
    (broadcastTo S256x512 (truncf .bf16 (gate s ix v k) bitsLt_bf16_f32) broadcasts_S256x1_S256x512)

/-- The chunk's part on device `v`, whose experts' matrices are `w`. -/
def chunkV (v : BitVec 32) (w : Vec F S4x512x1024 .bf16) (x : Vec F S256x512 .bf16) : Chk F :=
  shapeCast S256x1024 (truncf .bf16 (matmul dot_S256x2048_S2048x1024_S256x1024_1_0_0_1_n_n none
    (concatenate S256x2048 1 [⟨S256x512, scaled s ix v 0#32 x⟩, ⟨S256x512, scaled s ix v 1#32 x⟩, ⟨S256x512, scaled s ix v 2#32 x⟩, ⟨S256x512, scaled s ix v 3#32 x⟩]
      concatenates_S256x512_S256x512_S256x512_S256x512_S256x2048_d1 : FVec F S256x2048 .bf16)
    (shapeCast S2048x1024 (shapeCast S4x512x1024 w shapeCasts_S4x512x1024_S4x512x1024 : FVec F S4x512x1024 .bf16) shapeCasts_S4x512x1024_S2048x1024 : FVec F S2048x1024 .bf16)
    (constant S256x1024 .f32 0x00000000#32) : FVec F S256x1024 .f32) bitsLt_bf16_f32 : FVec F S256x1024 .bf16) shapeCasts_S256x1024_S256x1024

end

/-- What every device is given: its tokens, the router's matrix, the two experts of each token, its experts' matrices. -/
structure Ins (F : FTy → Type) where
  x : Dev nD → Vec F S2048x512 .bf16
  r : Dev nD → Vec F S512x32 .bf16
  ix : Dev nD → Vec F S2048x2 .i32
  w : Dev nD → Vec F S4x512x1024 .bf16

/-- A chunk's rows lie within the scores. -/
theorem rowsS_inb (k : Fin 8) : ∀ a, (![256 * k.val, 0] : Fin 2 → ℕ) a + S256x32.size a ≤ S2048x32.size a := by revert k; decide
/-- A chunk's rows lie within the choices. -/
theorem rowsI_inb (k : Fin 8) : ∀ a, (![256 * k.val, 0] : Fin 2 → ℕ) a + S256x2.size a ≤ S2048x2.size a := by revert k; decide
/-- A chunk's rows lie within the tokens. -/
theorem rowsX_inb (k : Fin 8) : ∀ a, (![256 * k.val, 0] : Fin 2 → ℕ) a + S256x512.size a ≤ S2048x512.size a := by revert k; decide

/-- The rows of chunk `k` of the scores, of the choices, of the tokens. -/
abbrev rowsS (f : Vec F S2048x32 .f32) (k : Fin 8) : Vec F S256x32 .f32 := part cc0_scratch0 (size := S256x32.size) ![256 * k.val, 0] (rowsS_inb k) f
abbrev rowsI (f : Vec F S2048x2 .i32) (k : Fin 8) : Vec F S256x2 .i32 := part cc0_stg2_0 (size := S256x2.size) ![256 * k.val, 0] (rowsI_inb k) f
abbrev rowsX (f : Vec F S2048x512 .bf16) (k : Fin 8) : Vec F S256x512 .bf16 := part cc0_stg0_0 (size := S256x512.size) ![256 * k.val, 0] (rowsX_inb k) f

variable (I : Ins F)

/-- The scores device `c` computes. -/
def scores (c : Dev nD) : Vec F S2048x32 .f32 := k0_pay1 (I.x c) (I.r c)

/-- Every device's part of every chunk. -/
def parts : Parts F := fun c k => chunkV (rowsS (scores I c) k) (rowsI (I.ix c) k) (wd c) (I.w c) (rowsX (I.x c) k)

end Cert.Run

end
-- ==== Proof.Steps.lean ====
/-
The steps the parts of the program are made of: a load of an input, a chunk stored, a block copied into a slot, a
block received and added to.
-/
module

public import proofs.«01_k».proof.Proof.Chunk

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- What every part of the program takes first: its buffers and its semaphores. -/
abbrev Args (β : Type 1) : Type 1 :=
  (a0 : Memref sig .tc .vmem S2048x512 .bf16) → a0.IsWhole → (a1 : Memref sig .tc .vmem S512x32 .bf16) → a1.IsWhole
    → (a2 : Memref sig .tc .vmem S2048x2 .i32) → a2.IsWhole → (a3 : Memref sig .tc .vmem S4x512x1024 .bf16) → a3.IsWhole
    → (a4 : Memref sig .tc .vmem S2048x1024 .bf16) → a4.IsWhole → (a5 : Memref sig .tc .vmem S2048x32 .f32) → a5.IsWhole
    → (a6 : Memref sig .tc .vmem S512x1024 .bf16) → a6.IsWhole → (a7 : Memref sig .tc .vmem S4x4x128x1024 .bf16) → a7.IsWhole
    → (a8 : Memref sig .tc .vmem S2x128x1024 .bf16) → a8.IsWhole → DmaSems sig S4x4 → DmaSems sig S4x4 → DmaSems sig S2 → DmaSems sig S2
    → DmaSems sig S2 → DmaSems sig S2 → DmaSems sig S4x3 → DmaSems sig S4x3 → β
/-- A part of the program at the launch's buffers and semaphores. -/
abbrev app {β : Type 1} (f : Args β) : β :=
  f (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8 cc0_scratch9 cc0_scratch10 cc0_scratch11

variable (I : Ins F) (c : Dev nD)

/-- The inputs and the scores, held whole. -/
def Inp (f : Vec F S2048x32 .f32) : sProp 𝕄 :=
  iprop(pt c cc0_stg0_0 (I.x c) ∗ pt c cc0_stg1_0 (I.r c) ∗ pt c cc0_stg2_0 (I.ix c) ∗ pt c cc0_stg3_0 (I.w c) ∗ pt c cc0_scratch0 f)

/-- The same, spelt out. -/
theorem Inp_eq (f : Vec F S2048x32 .f32) : Inp I c f
    = iprop(pt c cc0_stg0_0 (I.x c) ∗ pt c cc0_stg1_0 (I.r c) ∗ pt c cc0_stg2_0 (I.ix c) ∗ pt c cc0_stg3_0 (I.w c) ∗ pt c cc0_scratch0 f) := rfl

/-- The offsets at the origin, in two axes. -/
theorem off2_zero : (![0, 0] : Fin 2 → ℕ) = fun _ => 0 := funext fun a => by fin_cases a <;> rfl
/-- The offsets at the origin, in three axes. -/
theorem off3_zero : (![0, 0, 0] : Fin 3 → ℕ) = fun _ => 0 := funext fun a => by fin_cases a <;> rfl

/-- Loading the rows of chunk `k` of the scores. -/
theorem in_s (g : Fin 8) {off : Fin 2 → ℕ} (inb : ∀ a, off a + S256x32.size a ≤ S2048x32.size a) (h : off = ![256 * g.val, 0]) (f : Vec F S2048x32 .f32)
    {hl : (Memref.whole cc0_scratch0).view.LoadsAt (Rect.unit (s := S2048x32) off S256x32.size inb).toLoadRect}
    {α : Type} {Q : α → sProp 𝕄} {k : (S256x32.Idx → Elt F .f32) → Prog (TpuEff nD τ sig (Elt F) Λ₀ .tc) α} :
    Inp I c f ⊢ iprop((Inp I c f -∗ WP c (k (rowsS f g)) Q)
      -∗ WP c (.op (.load (cs := .vmem) (Memref.whole cc0_scratch0) (Rect.unit (s := S2048x32) off S256x32.size inb).toLoadRect hl) k) Q) := by
  subst h
  unfold Inp
  iintro ⟨Hx, Hr, Hi, Hw, Hs⟩ Hk
  iapply (wp_load 𝒱₀ (c : Thread nD τ) none Set.univ (m := Memref.whole cc0_scratch0) (Finset.subset_univ _)) $$ Hs
  iintro Hs
  iapply Hk
  isplitl [Hx]; · iexact Hx
  isplitl [Hr]; · iexact Hr
  isplitl [Hi]; · iexact Hi
  isplitl [Hw]; · iexact Hw
  iexact Hs

/-- Loading the rows of chunk `k` of the choices. -/
theorem in_i (g : Fin 8) {off : Fin 2 → ℕ} (inb : ∀ a, off a + S256x2.size a ≤ S2048x2.size a) (h : off = ![256 * g.val, 0]) (f : Vec F S2048x32 .f32)
    {hl : (Memref.whole cc0_stg2_0).view.LoadsAt (Rect.unit (s := S2048x2) off S256x2.size inb).toLoadRect}
    {α : Type} {Q : α → sProp 𝕄} {k : (S256x2.Idx → Elt F .i32) → Prog (TpuEff nD τ sig (Elt F) Λ₀ .tc) α} :
    Inp I c f ⊢ iprop((Inp I c f -∗ WP c (k (rowsI (I.ix c) g)) Q)
      -∗ WP c (.op (.load (cs := .vmem) (Memref.whole cc0_stg2_0) (Rect.unit (s := S2048x2) off S256x2.size inb).toLoadRect hl) k) Q) := by
  subst h
  unfold Inp
  iintro ⟨Hx, Hr, Hi, Hw, Hs⟩ Hk
  iapply (wp_load 𝒱₀ (c : Thread nD τ) none Set.univ (m := Memref.whole cc0_stg2_0) (Finset.subset_univ _)) $$ Hi
  iintro Hi
  iapply Hk
  isplitl [Hx]; · iexact Hx
  isplitl [Hr]; · iexact Hr
  isplitl [Hi]; · iexact Hi
  isplitl [Hw]; · iexact Hw
  iexact Hs

/-- Loading the rows of chunk `k` of the tokens. -/
theorem in_x (g : Fin 8) {off : Fin 2 → ℕ} (inb : ∀ a, off a + S256x512.size a ≤ S2048x512.size a) (h : off = ![256 * g.val, 0]) (f : Vec F S2048x32 .f32)
    {hl : (Memref.whole cc0_stg0_0).view.LoadsAt (Rect.unit (s := S2048x512) off S256x512.size inb).toLoadRect}
    {α : Type} {Q : α → sProp 𝕄} {k : (S256x512.Idx → Elt F .bf16) → Prog (TpuEff nD τ sig (Elt F) Λ₀ .tc) α} :
    Inp I c f ⊢ iprop((Inp I c f -∗ WP c (k (rowsX (I.x c) g)) Q)
      -∗ WP c (.op (.load (cs := .vmem) (Memref.whole cc0_stg0_0) (Rect.unit (s := S2048x512) off S256x512.size inb).toLoadRect hl) k) Q) := by
  subst h
  unfold Inp
  iintro ⟨Hx, Hr, Hi, Hw, Hs⟩ Hk
  iapply (wp_load 𝒱₀ (c : Thread nD τ) none Set.univ (m := Memref.whole cc0_stg0_0) (Finset.subset_univ _)) $$ Hx
  iintro Hx
  iapply Hk
  isplitl [Hx]; · iexact Hx
  isplitl [Hr]; · iexact Hr
  isplitl [Hi]; · iexact Hi
  isplitl [Hw]; · iexact Hw
  iexact Hs

/-- A resource replaced by one it gives. -/
theorem chg (A : sProp 𝕄) {G : sProp 𝕄} : A ⊢ iprop((A -∗ G) -∗ G) := by
  iintro HA HG
  iapply HG $$ HA

/-- A block out of the buffer of slots, in its own shape. -/
abbrev down (v : S1x1x128x1024.Idx → Elt F .bf16) : Blk F := shapeCast S128x1024 v shapeCasts_S1x1x128x1024_S128x1024
/-- A block put into a slot's shape and taken out again is the block. -/
theorem down_up (v : Blk F) : down (up v) = v := by
  funext j
  show v (Shape.reshapeEquiv _ (Shape.reshapeEquiv _ j)) = v j
  rw [Shape.reshapeEquiv_reshapeEquiv, Shape.reshapeEquiv_self]
abbrev downz (v : S1x128x1024.Idx → Elt F .bf16) : Blk F := shapeCast S128x1024 v shapeCasts_S1x128x1024_S128x1024
/-- A block put into the shape of the mirror's buffer and taken out again is the block. -/
theorem downz_upz (v : Blk F) : downz (upz v) = v := by
  funext j
  show v (Shape.reshapeEquiv _ (Shape.reshapeEquiv _ j)) = v j
  rw [Shape.reshapeEquiv_reshapeEquiv, Shape.reshapeEquiv_self]

/-- A chunk stored in half `d` of the chunk buffer, what was there being read first and not used. -/
theorem step_chunk (d : Fin 2) {off : Fin 2 → ℕ} (inb inb' : ∀ a, off a + S256x1024.size a ≤ S512x1024.size a) (h : off = ![256 * d.val, 0]) (Y w : Chk F)
    {hl : (Memref.whole cc0_scratch1).view.LoadsAt (Rect.unit (s := S512x1024) off S256x1024.size inb).toLoadRect}
    {hx : ((Memref.whole cc0_scratch1).access (Rect.unit (s := S512x1024) off S256x1024.size inb')).Stores Finset.univ} {hm}
    {α : Type} {Q : α → sProp 𝕄} {k : PUnit → Prog (TpuEff nD τ sig (Elt F) Λ₀ .tc) α} :
    (ownC c d Y : sProp 𝕄)
      ⊢ iprop((ownC c d w -∗ WP c (k ⟨⟩) Q)
          -∗ WP c (.op (.load (cs := .vmem) (Memref.whole cc0_scratch1) (Rect.unit (s := S512x1024) off S256x1024.size inb).toLoadRect hl) fun _ =>
            .op (.store (cs := .vmem) (Memref.whole cc0_scratch1) (Rect.unit (s := S512x1024) off S256x1024.size inb') w Finset.univ hx hm) k) Q) := by
  iintro H Hk
  iapply (load_cb c d inb h Y) $$ H
  iintro H
  iapply (store_cb c d inb' h Y w) $$ H
  iintro H
  iapply Hk $$ H

/-- Half `h` of the chunk in half `d` of the chunk buffer copied into slot 0 of stream `i`. -/
theorem step_copy (i : Fin 4) (d h : Fin 2) {off : Fin 2 → ℕ} (inb : ∀ a, off a + S128x1024.size a ≤ S512x1024.size a) (ho : off = ![256 * d.val + 128 * h.val, 0])
    {off' : Fin 4 → ℕ} (inb₁ inb₂ : ∀ a, off' a + S1x1x128x1024.size a ≤ S4x4x128x1024.size a) (ho' : off' = ![i.val, 0, 0, 0]) (Y : Chk F)
    (pay : (S128x1024.Idx → Elt F .bf16) → S1x1x128x1024.Idx → Elt F .bf16) (hp : ∀ a, pay a = up a)
    {hl : (Memref.whole cc0_scratch1).view.LoadsAt (Rect.unit (s := S512x1024) off S128x1024.size inb).toLoadRect}
    {hl' : (Memref.whole cc0_scratch2).view.LoadsAt (Rect.unit (s := S4x4x128x1024) off' S1x1x128x1024.size inb₁).toLoadRect}
    {hx : ((Memref.whole cc0_scratch2).access (Rect.unit (s := S4x4x128x1024) off' S1x1x128x1024.size inb₂)).Stores Finset.univ} {hm}
    {α : Type} {Q : α → sProp 𝕄} {k : PUnit → Prog (TpuEff nD τ sig (Elt F) Λ₀ .tc) α} :
    iprop(ownC c d Y ∗ ∃ v : Blk F, own2 c (slotM i 0) fullShare v)
      ⊢ iprop(((ownC c d Y ∗ own2 c (slotM i 0) fullShare (half h Y)) -∗ WP c (k ⟨⟩) Q)
          -∗ WP c (.op (.load (cs := .vmem) (Memref.whole cc0_scratch1) (Rect.unit (s := S512x1024) off S128x1024.size inb).toLoadRect hl) fun a =>
            .op (.load (cs := .vmem) (Memref.whole cc0_scratch2) (Rect.unit (s := S4x4x128x1024) off' S1x1x128x1024.size inb₁).toLoadRect hl') fun _ =>
            .op (.store (cs := .vmem) (Memref.whole cc0_scratch2) (Rect.unit (s := S4x4x128x1024) off' S1x1x128x1024.size inb₂) (pay a) Finset.univ hx hm) k) Q) := by
  obtain rfl : pay = up := funext hp
  iintro ⟨H, ⟨%v, Hv⟩⟩ Hk
  iapply (load_half c d h inb ho Y) $$ H
  iintro H
  iapply (load_slot c i 0 inb₁ ho' v) $$ Hv
  iintro Hv
  iapply (store_slot c i 0 inb₂ ho' v (half h Y)) $$ Hv
  iintro Hv
  iapply Hk
  isplitl [H] <;> iassumption

/-- Half `h` of the chunk in half `d` of the chunk buffer added to what slot `s` of stream `i` holds. -/
theorem step_add (i s : Fin 4) (d h : Fin 2) {off : Fin 2 → ℕ} (inb : ∀ a, off a + S128x1024.size a ≤ S512x1024.size a) (ho : off = ![256 * d.val + 128 * h.val, 0])
    {off' : Fin 4 → ℕ} (inb₀ inb₁ inb₂ : ∀ a, off' a + S1x1x128x1024.size a ≤ S4x4x128x1024.size a) (ho' : off' = ![i.val, s.val, 0, 0]) (Y : Chk F) (v : Blk F)
    (pay : (S1x1x128x1024.Idx → Elt F .bf16) → (S128x1024.Idx → Elt F .bf16) → S1x1x128x1024.Idx → Elt F .bf16) (hp : ∀ a b, pay a b = up (addB (down a) b))
    {hl : (Memref.whole cc0_scratch1).view.LoadsAt (Rect.unit (s := S512x1024) off S128x1024.size inb).toLoadRect}
    {hl₀ : (Memref.whole cc0_scratch2).view.LoadsAt (Rect.unit (s := S4x4x128x1024) off' S1x1x128x1024.size inb₀).toLoadRect}
    {hl' : (Memref.whole cc0_scratch2).view.LoadsAt (Rect.unit (s := S4x4x128x1024) off' S1x1x128x1024.size inb₁).toLoadRect}
    {hx : ((Memref.whole cc0_scratch2).access (Rect.unit (s := S4x4x128x1024) off' S1x1x128x1024.size inb₂)).Stores Finset.univ} {hm}
    {α : Type} {Q : α → sProp 𝕄} {k : PUnit → Prog (TpuEff nD τ sig (Elt F) Λ₀ .tc) α} :
    iprop(ownC c d Y ∗ own2 c (slotM i s) fullShare v)
      ⊢ iprop(((ownC c d Y ∗ own2 c (slotM i s) fullShare (addB v (half h Y))) -∗ WP c (k ⟨⟩) Q)
          -∗ WP c (.op (.load (cs := .vmem) (Memref.whole cc0_scratch2) (Rect.unit (s := S4x4x128x1024) off' S1x1x128x1024.size inb₀).toLoadRect hl₀) fun a =>
            .op (.load (cs := .vmem) (Memref.whole cc0_scratch1) (Rect.unit (s := S512x1024) off S128x1024.size inb).toLoadRect hl) fun b =>
            .op (.load (cs := .vmem) (Memref.whole cc0_scratch2) (Rect.unit (s := S4x4x128x1024) off' S1x1x128x1024.size inb₁).toLoadRect hl') fun _ =>
            .op (.store (cs := .vmem) (Memref.whole cc0_scratch2) (Rect.unit (s := S4x4x128x1024) off' S1x1x128x1024.size inb₂) (pay a b) Finset.univ hx hm) k) Q) := by
  obtain rfl : pay = fun a b => up (addB (down a) b) := funext fun a => funext fun b => hp a b
  iintro ⟨H, Hv⟩ Hk
  iapply (load_slot c i s inb₀ ho' v) $$ Hv
  iintro Hv
  iapply (load_half c d h inb ho Y) $$ H
  iintro H
  iapply (load_slot c i s inb₁ ho' v) $$ Hv
  iintro Hv
  beta_reduce
  rw [down_up]
  iapply (store_slot c i s inb₂ ho' v (addB v (half h Y))) $$ Hv
  iintro Hv
  iapply Hk
  isplitl [H] <;> iassumption

/-- The blocks a transfer of the reduce-scatter brings, spelt out. -/
theorem recv_rs (P : Parts F) (i : Fin 4) (s : Fin 3) :
    recvPay P c (.rs i s) = own2 c (slotM i s.succ) fullShare (rsV P i s.val (pb (dOf i) c)) := rfl

/-- A block sent along a stream of the reduce-scatter. -/
theorem send_rs (P : Parts F) (k j : ℕ) (i : Fin 4) (s : Fin 3) (hx : order[k]? = some (.rs i s)) (d : Dev nD) (hd : d = tgt c (.rs i s)) (src dst : Mem2)
    (hs : src = slotM i s.castSucc) (ht : dst = slotM i s.succ) (sS sR : DmaSem sig) (hS : sS = sendSem (.rs i s)) (hR : sR = recvSem (.rs i s))
    {hsc : (dst : Memref sig (Dev.tc d : Thread nD τ).2.kind .vmem S128x1024 .bf16).view.ref.isScScratch = false}
    {hsrc : src.view.WordExact} {hdst : dst.view.WordExact}
    {hsem : DmaTarget.Typed .vmem (.dma sR) (.remote (Dev.tc d : Thread nD τ) dst (.dma sS) hsc)}
    {α : Type} {Q : α → sProp 𝕄} {k' : PUnit → Prog (TpuEff nD τ sig (Elt F) Λ₀ .tc) α} :
    iprop(Eng P c k j ∗ own2 c (slotM i s.castSucc) fullShare (rsV P i s.val c))
      ⊢ iprop((Eng P c (k + 1) j -∗ WP c (k' ⟨⟩) Q)
          -∗ WP c (.op (.enqueueDma src (.remote (Dev.tc d : Thread nD τ) dst (.dma sS) hsc) (.dma sR) hsrc hdst hsem) k') Q) :=
  step_send P c k j (.rs i s) hx d hd src dst hs ht sS sR hS hR

/-- A block of a stream received, and the device's own part added to it. -/
theorem step_wadd (P : Parts F) (k j : ℕ) (i : Fin 4) (s : Fin 3) (d : Fin 2) (hx : rorder[j]? = some (.rs i s))
    (hl : ∀ y ∈ (order.drop k).map Sum.inr, lvX (.rs i s) < lvD y)
    {off : Fin 2 → ℕ} (inb : ∀ a, off a + S128x1024.size a ≤ S512x1024.size a) (ho : off = ![256 * d.val + 128 * (hOf i).val, 0])
    {off' : Fin 4 → ℕ} (inb₀ inb₁ inb₂ : ∀ a, off' a + S1x1x128x1024.size a ≤ S4x4x128x1024.size a) (ho' : off' = ![i.val, s.succ.val, 0, 0])
    (pay : (S1x1x128x1024.Idx → Elt F .bf16) → (S128x1024.Idx → Elt F .bf16) → S1x1x128x1024.Idx → Elt F .bf16) (hp : ∀ a b, pay a b = up (addB (down a) b))
    (sR : DmaSem sig) (hR : sR = recvSem (.rs i s)) {sp : Space} {s' : Shape} {e : EltTy} {src : Memref sig .tc sp s' e} {dst : Memref sig .tc .vmem S128x1024 .bf16}
    {hsrc : src.view.WordExact} {hdst : dst.view.WordExact} (hN : dst.view.dmaCredit = N)
    {hl' : (Memref.whole cc0_scratch1).view.LoadsAt (Rect.unit (s := S512x1024) off S128x1024.size inb).toLoadRect}
    {hl₀ : (Memref.whole cc0_scratch2).view.LoadsAt (Rect.unit (s := S4x4x128x1024) off' S1x1x128x1024.size inb₀).toLoadRect}
    {hl₁ : (Memref.whole cc0_scratch2).view.LoadsAt (Rect.unit (s := S4x4x128x1024) off' S1x1x128x1024.size inb₁).toLoadRect}
    {hst : ((Memref.whole cc0_scratch2).access (Rect.unit (s := S4x4x128x1024) off' S1x1x128x1024.size inb₂)).Stores Finset.univ} {hm}
    {α : Type} {Q : α → sProp 𝕄} {k' : PUnit → Prog (TpuEff nD τ sig (Elt F) Λ₀ .tc) α} :
    iprop(Eng P c k j ∗ ownC c d (P c (accC c (dOf i) s.val)))
      ⊢ iprop(((Eng P c k (j + 1) ∗ ownC c d (P c (accC c (dOf i) s.val)) ∗ own2 c (slotM i s.succ) fullShare (rsV P i (s.val + 1) c)) -∗ WP c (k' ⟨⟩) Q)
          -∗ WP c (.op (.waitDma2 sR src dst hsrc hdst) fun _ =>
            .op (.load (cs := .vmem) (Memref.whole cc0_scratch2) (Rect.unit (s := S4x4x128x1024) off' S1x1x128x1024.size inb₀).toLoadRect hl₀) fun a =>
            .op (.load (cs := .vmem) (Memref.whole cc0_scratch1) (Rect.unit (s := S512x1024) off S128x1024.size inb).toLoadRect hl') fun b =>
            .op (.load (cs := .vmem) (Memref.whole cc0_scratch2) (Rect.unit (s := S4x4x128x1024) off' S1x1x128x1024.size inb₁).toLoadRect hl₁) fun _ =>
            .op (.store (cs := .vmem) (Memref.whole cc0_scratch2) (Rect.unit (s := S4x4x128x1024) off' S1x1x128x1024.size inb₂) (pay a b) Finset.univ hst hm) k') Q) := by
  iintro ⟨He, Hc⟩ Hk
  iapply (step_recv P c k j (.rs i s) hx hl sR hR hN) $$ He
  iintro ⟨He, Hv⟩
  ihave Hv := (Entails.of_eq (recv_rs c P i s)) $$ Hv
  iapply (step_add c i s.succ d (hOf i) inb ho inb₀ inb₁ inb₂ ho' (P c (accC c (dOf i) s.val)) (rsV P i s.val (pb (dOf i) c)) pay hp) $$ [Hc Hv]
  · isplitl [Hc] <;> iassumption
  iintro ⟨Hc, Hv⟩
  iapply Hk
  isplitl [He]; · iexact He
  isplitl [Hc]; · iexact Hc
  iexact Hv

/-- A block of the result, and of the buffer of slots, by its place. -/
theorem piece_of (r : Fin 16) {off : Fin 2 → ℕ} (inb : ∀ a, off a + S128x1024.size a ≤ S2048x1024.size a) (h : off = ![128 * r.val, 0]) (hs) :
    (Memref.whole cc0_stg4_0).slice (Rect.unit (s := S2048x1024) off S128x1024.size inb) hs = pieceM r :=
  Memref.slice_unit_congr _ h _ _ _ _
/-- A slot of the communication buffer, by its place. -/
theorem slot_of (i s : Fin 4) {off : Fin 4 → ℕ} (inb : ∀ a, off a + S1x1x128x1024.size a ≤ S4x4x128x1024.size a) (h : off = ![i.val, s.val, 0, 0]) (hs) :
    ((Memref.whole cc0_scratch2).slice (Rect.unit (s := S4x4x128x1024) off S1x1x128x1024.size inb) hs).squeeze S128x1024 squeezes_S1x1x128x1024_S128x1024 = slotM i s := by
  subst h; rfl

end Cert.Run

end
-- ==== Proof.Body1.lean ====
/-
The first part of a device's run: the meeting at the barrier, the router's scores, and the first chunk of each stream
computed and sent.
-/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

/-- The device that the program's signal goes to: the neighbour on the left. -/
theorem dev1_eq : ∀ c : Dev nD, (⟨k0_dev1 c, k0_dev1_lt c⟩ : Dev nD) = pb 0 c := by decide +kernel
/-- The device that the program's signal goes to: the neighbour on the right. -/
theorem dev2_eq : ∀ c : Dev nD, (⟨k0_dev2 c, k0_dev2_lt c⟩ : Dev nD) = pb 1 c := by decide +kernel
/-- The device that the program's signal goes to: the mirror. -/
theorem dev3_eq : ∀ c : Dev nD, (⟨k0_dev3 c, k0_dev3_lt c⟩ : Dev nD) = pb 2 c := by decide +kernel

/-- Where the rows of the two chunks a device starts with lie. -/
theorem off1_at : ∀ c : Dev nD, k0_off1 c = ![256 * (firstC c 0).val, 0] := by decide +kernel
/-- The first row that the program computes here, by the chunk's number. -/
theorem off2_at : ∀ c : Dev nD, k0_off2 c = ![256 * (firstC c 0).val, 0] := by decide +kernel
/-- The first row that the program computes here, by the chunk's number. -/
theorem off3_at : ∀ c : Dev nD, k0_off3 c = ![256 * (firstC c 0).val, 0] := by decide +kernel
/-- The first row that the program computes here, by the chunk's number. -/
theorem off4_at : ∀ c : Dev nD, k0_off4 c = ![256 * (firstC c 1).val, 0] := by decide +kernel
/-- The first row that the program computes here, by the chunk's number. -/
theorem off5_at : ∀ c : Dev nD, k0_off5 c = ![256 * (firstC c 1).val, 0] := by decide +kernel
/-- The first row that the program computes here, by the chunk's number. -/
theorem off6_at : ∀ c : Dev nD, k0_off6 c = ![256 * (firstC c 1).val, 0] := by decide +kernel

/-- The first arrival announced. -/
theorem part1 {Q : _ → sProp 𝕄} :
    iprop(Pre (parts I) c 0 ∗ barPay (F := F) (pb 0 c) 0)
      ⊢ iprop((∀ v19 v20 v24 v29 v31, Pre (parts I) c 1 -∗ Q ⟨c, wd c, v19, v20, v24, v29, v31, barArr⟩)
          -∗ WP c (app (k0_part1 (F := F))) Q) := by
  simp only [app, k0_part1_eq_skeleton]; unfold k0_part1_skel
  simp only [semSignalWord, Prog.lift, Prog.bind_op, Prog.bind_ret, Prog.pure_eq_ret, wp_deviceId]
  iintro H Hk
  iapply (step_signal (parts I) c 0 0 rfl rfl _ (dev1_eq c)) $$ H
  iintro H
  simp only [wp_ret]
  imodintro
  iapply Hk $$ H

/-- The other two arrivals announced, the wait at its own barrier, and the scores computed. -/
theorem part2 (v20 v24 v31 : BitVec 32) (f : Vec F S2048x32 .f32) {Q : _ → sProp 𝕄} :
    iprop(Pre (parts I) c 1 ∗ barPay (F := F) (pb 1 c) 1 ∗ barPay (F := F) (pb 2 c) 2 ∗ Inp I c f)
      ⊢ iprop((∀ v54 v55, Eng (parts I) c 0 0 ∗ Inp I c (scores I c)
            -∗ Q ⟨k0_pay2 (I.w c), v54, v55, rowsS (scores I c) (firstC c 0), k0_pay4 (rowsI (I.ix c) (firstC c 0)), k0_pay5 (rowsI (I.ix c) (firstC c 0)),
                iota .tc S256x32 32 [1] iota_S256x32_d1_w32, k0_pay6 (rowsI (I.ix c) (firstC c 0))⟩)
          -∗ WP c (app (k0_part2 (F := F)) c v20 v24 v31 barArr) Q) := by
  simp only [app, k0_part2_eq_skeleton]; unfold k0_part2_skel
  simp only [semSignalWord, semWaitWord, Prog.lift, Prog.bind_op, Prog.bind_ret, Prog.pure_eq_ret]
  iintro ⟨H, Hb1, Hb2, Hin⟩ Hk
  iapply (step_signal (parts I) c 1 1 rfl rfl _ (dev2_eq c)) $$ [H Hb1]
  · isplitl [H] <;> iassumption
  iintro H
  iapply (step_signal (parts I) c 2 2 rfl rfl _ (dev3_eq c)) $$ [H Hb2]
  · isplitl [H] <;> iassumption
  iintro H
  iapply (step_barrier (parts I) c) $$ H
  iintro H
  ihave ⟨Hx, Hr, Hi, Hw, Hs⟩ := (Entails.of_eq (Inp_eq I c f)) $$ Hin
  iapply (load_all c _ off2_zero (I.x c)) $$ Hx
  iintro Hx
  iapply (load_all c _ off2_zero (I.r c)) $$ Hr
  iintro Hr
  iapply (load_all c _ off2_zero f) $$ Hs
  iintro Hs
  iapply (store_scores c _ off2_zero f (scores I c)) $$ Hs
  iintro Hs
  iapply (load_all c _ off3_zero (I.w c)) $$ Hw
  iintro Hw
  iapply (chg (Inp I c (scores I c))) $$ [Hx Hr Hi Hw Hs]
  · unfold Inp
    isplitl [Hx]; · iassumption
    isplitl [Hr]; · iassumption
    isplitl [Hi]; · iassumption
    isplitl [Hw] <;> iassumption
  iintro Hin
  iapply (in_s I c (firstC c 0) _ (off1_at c) (scores I c)) $$ Hin
  iintro Hin
  iapply (in_i I c (firstC c 0) _ (off2_at c) (scores I c)) $$ Hin
  iintro Hin
  simp only [wp_ret]
  imodintro
  iapply Hk $$ [H Hin]
  isplitl [H] <;> iassumption

/-- The device that the program computes here is the target of transfer `.rs 0 0`. -/
theorem dev4_eq : ∀ c : Dev nD, (⟨k0_dev4 c, k0_dev4_lt c⟩ : Dev nD) = tgt c (.rs 0 0) := by decide +kernel

/-- The tokens of the first chunk. -/
theorem part3 (v55 : BitVec 32) (v57 v61 v62 v63 v65) {Q : _ → sProp 𝕄} :
    Inp I c (scores I c)
      ⊢ iprop((Inp I c (scores I c) -∗ Q ⟨k0_pay12 v57 v62 v63 v65, k0_pay13 v57 v62 v63 v65, k0_pay14 (rowsX (I.x c) (firstC c 0)),
              k0_pay15 (wd c) v57 v61 v62 v63 v65 (rowsX (I.x c) (firstC c 0)), k0_pay16 (wd c) v57 v61 v62 v63 v65⟩)
          -∗ WP c (app (k0_part3 (F := F)) c (wd c) v55 v57 v61 v62 v63 v65) Q) := by
  simp only [app, k0_part3_eq_skeleton]; unfold k0_part3_skel
  simp only [Prog.lift, Prog.bind_op, Prog.bind_ret, Prog.pure_eq_ret]
  iintro H Hk
  iapply (in_x I c (firstC c 0) _ (off3_at c) (scores I c)) $$ H
  iintro H
  simp only [wp_ret]
  imodintro
  iapply Hk $$ H

/-- The first chunk stored, and its first half copied into the slot it is sent from. -/
theorem part4 (v49 v61 v62 v82 v84 v87 v103 v116) (h : k0_pay17 (wd c) v49 v61 v62 v82 v84 v87 v103 v116 = parts I c (firstC c 0)) (Y : Chk F) {Q : _ → sProp 𝕄} :
    iprop(ownC c 0 Y ∗ ∃ v : Blk F, own2 c (slotM 0 0) fullShare v)
      ⊢ iprop(((ownC c 0 (parts I c (firstC c 0)) ∗ own2 c (slotM 0 0) fullShare (rsV (parts I) 0 0 c)) -∗ Q ⟨⟩)
          -∗ WP c (app (k0_part4 (F := F)) (wd c) v49 v61 v62 v82 v84 v87 v103 v116) Q) := by
  simp only [app, k0_part4_eq_skeleton]; unfold k0_part4_skel
  simp only [Prog.lift, Prog.bind_op, Prog.bind_ret, Prog.pure_eq_ret, h]
  iintro ⟨H, Hv⟩ Hk
  iapply (step_chunk c 0 _ _ rfl Y (parts I c (firstC c 0))) $$ H
  iintro H
  iapply (step_copy c 0 0 0 _ rfl _ _ rfl (parts I c (firstC c 0)) k0_pay18 fun _ => rfl) $$ [H Hv]
  · isplitl [H] <;> iassumption
  iintro H
  simp only [wp_ret]
  imodintro
  iapply Hk
  iexact H

/-- The first block sent to the right, the other half of the chunk copied. -/
theorem part5 (v24 : BitVec 32) {Q : _ → sProp 𝕄} :
    iprop(Eng (parts I) c 0 0 ∗ own2 c (slotM 0 0) fullShare (rsV (parts I) 0 0 c) ∗ ownC c 0 (parts I c (firstC c 0)) ∗ ∃ v : Blk F, own2 c (slotM 2 0) fullShare v)
      ⊢ iprop(((Eng (parts I) c 1 0 ∗ ownC c 0 (parts I c (firstC c 0)) ∗ own2 c (slotM 2 0) fullShare (rsV (parts I) 2 0 c)) -∗ Q ⟨⟩)
          -∗ WP c (app (k0_part5 (F := F)) c v24) Q) := by
  simp only [app, k0_part5_eq_skeleton]; unfold k0_part5_skel
  simp only [Prog.lift, Prog.bind_op, Prog.bind_ret, Prog.pure_eq_ret]
  iintro ⟨He, Hs, Hc, Hv⟩ Hk
  iapply (send_rs c (parts I) 0 0 0 0 rfl _ (dev4_eq c) _ _ ?_ ?_ _ _ ?_ ?_) $$ [He Hs]
  rfl; rfl; rfl; rfl
  · isplitl [He]; · iexact He
    iexact Hs
  iintro He
  iapply (step_copy c 2 0 1 _ rfl _ _ rfl (parts I c (firstC c 0)) k0_pay19 fun _ => rfl) $$ [Hc Hv]
  · isplitl [Hc] <;> iassumption
  iintro ⟨Hc, Hv⟩
  simp only [wp_ret]
  imodintro
  iapply Hk $$ [He Hc Hv]
  isplitl [He]; · iassumption
  isplitl [Hc]; · iexact Hc
  iexact Hv

/-- The device that the program computes here is the target of transfer `.rs 2 0`. -/
theorem dev5_eq : ∀ c : Dev nD, (⟨k0_dev5 c, k0_dev5_lt c⟩ : Dev nD) = tgt c (.rs 2 0) := by decide +kernel
/-- The device that the program computes here is the target of transfer `.rs 1 0`. -/
theorem dev6_eq : ∀ c : Dev nD, (⟨k0_dev6 c, k0_dev6_lt c⟩ : Dev nD) = tgt c (.rs 1 0) := by decide +kernel

/-- The second block sent to the right; the choices and tokens of the chunk that starts to the left. -/
theorem part6 (v54 : BitVec 32) {Q : _ → sProp 𝕄} :
    iprop(Eng (parts I) c 1 0 ∗ own2 c (slotM 2 0) fullShare (rsV (parts I) 2 0 c) ∗ Inp I c (scores I c))
      ⊢ iprop(((Eng (parts I) c 2 0 ∗ Inp I c (scores I c)) -∗ Q ⟨k0_pay21 (rowsI (I.ix c) (firstC c 1)), k0_pay22 (rowsI (I.ix c) (firstC c 1)),
              k0_pay28 (rowsS (scores I c) (firstC c 1)) (rowsI (I.ix c) (firstC c 1)), k0_pay29 (rowsS (scores I c) (firstC c 1)) (rowsI (I.ix c) (firstC c 1)), k0_pay30 (rowsX (I.x c) (firstC c 1)), k0_pay31 (wd c) (rowsS (scores I c) (firstC c 1)) (rowsI (I.ix c) (firstC c 1)) (rowsX (I.x c) (firstC c 1))⟩)
          -∗ WP c (app (k0_part6 (F := F)) c (wd c) v54) Q) := by
  simp only [app, k0_part6_eq_skeleton]; unfold k0_part6_skel
  simp only [Prog.lift, Prog.bind_op, Prog.bind_ret, Prog.pure_eq_ret]
  iintro ⟨He, Hs, Hin⟩ Hk
  iapply (send_rs c (parts I) 1 0 2 0 rfl _ (dev5_eq c) _ _ ?_ ?_ _ _ ?_ ?_) $$ [He Hs]
  rfl; rfl; rfl; rfl
  · isplitl [He]; · iexact He
    iexact Hs
  iintro He
  iapply (in_s I c (firstC c 1) _ (off4_at c) (scores I c)) $$ Hin
  iintro Hin
  iapply (in_i I c (firstC c 1) _ (off5_at c) (scores I c)) $$ Hin
  iintro Hin
  iapply (in_x I c (firstC c 1) _ (off6_at c) (scores I c)) $$ Hin
  iintro Hin
  simp only [wp_ret]
  imodintro
  iapply Hk
  isplitl [He] <;> iassumption

/-- The chunk that starts to the left, before it is stored. -/
theorem part7 (v49 v192 v193 v213 v215 v218 v234) {Q : _ → sProp 𝕄} :
    Q (k0_pay32 (wd c) v49 v192 v193 v213 v215 v218 v234) ⊢ WP c (app (k0_part7 (F := F)) (wd c) v49 v192 v193 v213 v215 v218 v234) Q := by
  simp only [app, k0_part7_eq_skeleton]; unfold k0_part7_skel
  simp only [Prog.pure_eq_ret, wp_ret]
  iintro H
  imodintro
  iexact H

/-- That chunk stored, its halves copied, the first of them sent to the left. -/
theorem part8 (v29 : BitVec 32) (v285 Y : Chk F) (h : k0_pay33 v285 = parts I c (firstC c 1)) {Q : _ → sProp 𝕄} :
    iprop(Eng (parts I) c 2 0 ∗ ownC c 1 Y ∗ (∃ v : Blk F, own2 c (slotM 1 0) fullShare v) ∗ (∃ v : Blk F, own2 c (slotM 3 0) fullShare v))
      ⊢ iprop(((Eng (parts I) c 3 0 ∗ ownC c 1 (parts I c (firstC c 1)) ∗ own2 c (slotM 3 0) fullShare (rsV (parts I) 3 0 c)) -∗ Q 1#32)
          -∗ WP c (app (k0_part8 (F := F)) c v29 v285) Q) := by
  simp only [app, k0_part8_eq_skeleton]; unfold k0_part8_skel
  simp only [Prog.lift, Prog.bind_op, Prog.bind_ret, Prog.pure_eq_ret, h]
  iintro ⟨He, Hc, Hu, Hv⟩ Hk
  iapply (step_chunk c 1 _ _ rfl Y (parts I c (firstC c 1))) $$ Hc
  iintro Hc
  iapply (step_copy c 1 1 0 _ rfl _ _ rfl (parts I c (firstC c 1)) k0_pay34 fun _ => rfl) $$ [Hc Hu]
  · isplitl [Hc] <;> iassumption
  iintro ⟨Hc, Hu⟩
  iapply (send_rs c (parts I) 2 0 1 0 rfl _ (dev6_eq c) _ _ ?_ ?_ _ _ ?_ ?_) $$ [He Hu]
  rfl; rfl; rfl; rfl
  · isplitl [He]; · iexact He
    iexact Hu
  iintro He
  iapply (step_copy c 3 1 1 _ rfl _ _ rfl (parts I c (firstC c 1)) k0_pay35 fun _ => rfl) $$ [Hc Hv]
  · isplitl [Hc] <;> iassumption
  iintro ⟨Hc, Hv⟩
  simp only [wp_ret]
  imodintro
  iapply Hk
  isplitl [He]; · iassumption
  isplitl [Hc]; · iexact Hc
  iexact Hv

end Cert.Run

end
-- ==== Proof.Body2.lean ====
/-
The chunks a device adds to what it receives: their scores, choices and tokens read, and the chunks stored.
-/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

/-- The first row that the program computes here, by the chunk's number. -/
theorem off7_at : ∀ (c : Dev nD) (r : Fin 3), k0_off7 c (BitVec.ofNat 32 r.val) = ![256 * (accC c 0 r.val).val, 0] := by decide +kernel
/-- The first row that the program computes here, by the chunk's number. -/
theorem off8_at : ∀ (c : Dev nD) (r : Fin 3), k0_off8 c (BitVec.ofNat 32 r.val) = ![256 * (accC c 0 r.val).val, 0] := by decide +kernel
/-- The first row that the program computes here, by the chunk's number. -/
theorem off9_at : ∀ (c : Dev nD) (r : Fin 3), k0_off9 c (BitVec.ofNat 32 r.val) = ![256 * (accC c 0 r.val).val, 0] := by decide +kernel
/-- The first row that the program computes here, by the chunk's number. -/
theorem off10_at : ∀ (c : Dev nD) (r : Fin 3), k0_off10 c (BitVec.ofNat 32 r.val) = ![256 * (accC c 1 r.val).val, 0] := by decide +kernel
/-- The first row that the program computes here, by the chunk's number. -/
theorem off11_at : ∀ (c : Dev nD) (r : Fin 3), k0_off11 c (BitVec.ofNat 32 r.val) = ![256 * (accC c 1 r.val).val, 0] := by decide +kernel
/-- The first row that the program computes here, by the chunk's number. -/
theorem off12_at : ∀ (c : Dev nD) (r : Fin 3), k0_off12 c (BitVec.ofNat 32 r.val) = ![256 * (accC c 1 r.val).val, 0] := by decide +kernel
/-- The device that the program computes here is the target of transfer `.rs 3 0`. -/
theorem dev7_eq : ∀ c : Dev nD, (⟨k0_dev7 c, k0_dev7_lt c⟩ : Dev nD) = tgt c (.rs 3 0) := by decide +kernel
/-- The device that the program computes here is the target of transfer `.rs 3 1`. -/
theorem dev11_eq : ∀ c : Dev nD, (⟨k0_dev11 c, k0_dev11_lt c⟩ : Dev nD) = tgt c (.rs 3 1) := by decide +kernel
/-- The device that the program computes here is the target of transfer `.rs 3 2`. -/
theorem dev15_eq : ∀ c : Dev nD, (⟨k0_dev15 c, k0_dev15_lt c⟩ : Dev nD) = tgt c (.rs 3 2) := by decide +kernel
/-- The second block sent to the left; the scores and choices of the first chunk added to the right. -/
theorem part9 (v20 v29 w : BitVec 32) {Q : _ → sProp 𝕄} :
    iprop(Eng (parts I) c 3 0 ∗ own2 c (slotM 3 0) fullShare (rsV (parts I) 3 0 c) ∗ Inp I c (scores I c))
      ⊢ iprop((∀ v322, (Eng (parts I) c 4 0 ∗ Inp I c (scores I c)) -∗ Q ⟨v322, k0_pay37 (rowsI (I.ix c) (accC c 0 0)), k0_pay38 (rowsI (I.ix c) (accC c 0 0)), k0_pay42 (rowsS (scores I c) (accC c 0 0)) (rowsI (I.ix c) (accC c 0 0)), k0_pay43 (rowsS (scores I c) (accC c 0 0)) (rowsI (I.ix c) (accC c 0 0)), k0_pay44 (rowsS (scores I c) (accC c 0 0)) (rowsI (I.ix c) (accC c 0 0))⟩)
          -∗ WP c (app (k0_part9 (F := F)) c v20 v29 w) Q) := by
  simp only [app, k0_part9_eq_skeleton]; unfold k0_part9_skel
  simp only [Prog.lift, Prog.bind_op, Prog.bind_ret, Prog.pure_eq_ret]
  iintro ⟨He, Hs, Hin⟩ Hk
  iapply (send_rs c (parts I) 3 0 3 0 rfl _ (dev7_eq c) _ _ ?_ ?_ _ _ ?_ ?_) $$ [He Hs]
  rfl; rfl; rfl; rfl
  · isplitl [He]; · iexact He
    iexact Hs
  iintro He
  iapply (in_s I c (accC c 0 0) _ ?_ (scores I c)) $$ Hin
  · exact off7_at c 0
  iintro Hin
  iapply (in_i I c (accC c 0 0) _ ?_ (scores I c)) $$ Hin
  · exact off8_at c 0
  iintro Hin
  simp only [wp_ret]
  imodintro
  iapply Hk
  isplitl [He] <;> iassumption

/-- The tokens of that chunk. -/
theorem part10 (v322 : BitVec 32) (v328 v329 v345 v347 v348) {Q : _ → sProp 𝕄} :
    Inp I c (scores I c)
      ⊢ iprop((Inp I c (scores I c) -∗ Q ⟨k0_pay45 v345 v348, k0_pay46 v345 v347, k0_pay47 (rowsX (I.x c) (accC c 0 0)), k0_pay48 (wd c) v328 v329 v345 v347 v348 (rowsX (I.x c) (accC c 0 0)), k0_pay49 (wd c) v328 v329 v345 v347 v348 (rowsX (I.x c) (accC c 0 0)), k0_pay50 (wd c) v328 v329 v345 v347 v348⟩)
          -∗ WP c (app (k0_part10 (F := F)) c (wd c) v322 v328 v329 v345 v347 v348) Q) := by
  simp only [app, k0_part10_eq_skeleton]; unfold k0_part10_skel
  simp only [Prog.lift, Prog.bind_op, Prog.bind_ret, Prog.pure_eq_ret]
  iintro Hin Hk
  iapply (in_x I c (accC c 0 0) _ ?_ (scores I c)) $$ Hin
  · exact off9_at c 0
  iintro Hin
  simp only [wp_ret]
  imodintro
  iapply Hk $$ Hin

/-- The chunk stored; the scores and choices of the one added to the left. -/
theorem part11 (v20 : BitVec 32) (v49 v328 v329 v349 v351 v354 v370 v386 v401) (h : k0_pay51 (wd c) v49 v328 v329 v349 v351 v354 v370 v386 v401 = parts I c (accC c 0 0)) (Y : Chk F) {Q : _ → sProp 𝕄} :
    iprop(ownC c 0 Y ∗ Inp I c (scores I c))
      ⊢ iprop((∀ v430, (ownC c 0 (parts I c (accC c 0 0)) ∗ Inp I c (scores I c)) -∗ Q ⟨v430, (rowsS (scores I c) (accC c 1 0)), k0_pay53 (rowsI (I.ix c) (accC c 1 0)), k0_pay54 (rowsI (I.ix c) (accC c 1 0)), iota .tc S256x32 32 [1] iota_S256x32_d1_w32, k0_pay55 (rowsS (scores I c) (accC c 1 0)) (rowsI (I.ix c) (accC c 1 0)), k0_pay56 (rowsI (I.ix c) (accC c 1 0))⟩)
          -∗ WP c (app (k0_part11 (F := F)) c (wd c) v20 v49 v328 v329 v349 v351 v354 v370 v386 v401) Q) := by
  simp only [app, k0_part11_eq_skeleton]; unfold k0_part11_skel
  simp only [Prog.lift, Prog.bind_op, Prog.bind_ret, Prog.pure_eq_ret, h]
  iintro ⟨H, Hin⟩ Hk
  iapply (step_chunk c 0 _ _ rfl Y (parts I c (accC c 0 0))) $$ H
  iintro H
  iapply (in_s I c (accC c 1 0) _ ?_ (scores I c)) $$ Hin
  · exact off10_at c 0
  iintro Hin
  iapply (in_i I c (accC c 1 0) _ ?_ (scores I c)) $$ Hin
  · exact off11_at c 0
  iintro Hin
  simp only [wp_ret]
  imodintro
  iapply Hk
  isplitl [H] <;> iassumption

/-- The tokens of that chunk. -/
theorem part12 (v430 : BitVec 32) (v432 v436 v437 v438 v444 v445) {Q : _ → sProp 𝕄} :
    Inp I c (scores I c)
      ⊢ iprop((Inp I c (scores I c) -∗ Q ⟨k0_pay61 v432 v438 v444 v445, k0_pay62 v432 v438 v444 v445, k0_pay63 (rowsX (I.x c) (accC c 1 0)), k0_pay64 (wd c) v432 v436 v437 v438 v444 v445 (rowsX (I.x c) (accC c 1 0)), k0_pay65 (wd c) v432 v436 v437 v438 v444 v445 (rowsX (I.x c) (accC c 1 0)), Scalar.addi (Scalar.muli (wd c) 4#32) 2#32⟩)
          -∗ WP c (app (k0_part12 (F := F)) c (wd c) v430 v432 v436 v437 v438 v444 v445) Q) := by
  simp only [app, k0_part12_eq_skeleton]; unfold k0_part12_skel
  simp only [Prog.lift, Prog.bind_op, Prog.bind_ret, Prog.pure_eq_ret]
  iintro Hin Hk
  iapply (in_x I c (accC c 1 0) _ ?_ (scores I c)) $$ Hin
  · exact off12_at c 0
  iintro Hin
  simp only [wp_ret]
  imodintro
  iapply Hk $$ Hin

/-- That chunk stored. -/
theorem part13 (v19 v20 : BitVec 32) (v49 v436 v437 v457 v459 v462 v478 v494 v496) (h : k0_pay66 (wd c) v49 v436 v437 v457 v459 v462 v478 v494 v496 = parts I c (accC c 1 0)) (Y : Chk F) {Q : _ → sProp 𝕄} :
    ownC c 1 Y
      ⊢ iprop((∀ v536 v539, ownC c 1 (parts I c (accC c 1 0)) -∗ Q ⟨v536, v539⟩)
          -∗ WP c (app (k0_part13 (F := F)) (wd c) v19 v20 v49 v436 v437 v457 v459 v462 v478 v494 v496) Q) := by
  simp only [app, k0_part13_eq_skeleton]; unfold k0_part13_skel
  simp only [Prog.lift, Prog.bind_op, Prog.bind_ret, Prog.pure_eq_ret, h]
  iintro H Hk
  iapply (step_chunk c 1 _ _ rfl Y (parts I c (accC c 1 0))) $$ H
  iintro H
  simp only [wp_ret]
  imodintro
  iapply Hk $$ H

/-- The second stream's next hop to the left; the scores and choices of the second chunk added to the right. -/
theorem part18 (v20 v29 : BitVec 32) {Q : _ → sProp 𝕄} :
    iprop(Eng (parts I) c 7 4 ∗ own2 c (slotM 3 1) fullShare (rsV (parts I) 3 1 c) ∗ Inp I c (scores I c))
      ⊢ iprop((∀ v645, (Eng (parts I) c 8 4 ∗ Inp I c (scores I c)) -∗ Q ⟨v645, k0_pay72 (rowsI (I.ix c) (accC c 0 1)), k0_pay73 (rowsI (I.ix c) (accC c 0 1)), k0_pay77 (rowsS (scores I c) (accC c 0 1)) (rowsI (I.ix c) (accC c 0 1)), k0_pay78 (rowsS (scores I c) (accC c 0 1)) (rowsI (I.ix c) (accC c 0 1))⟩)
          -∗ WP c (app (k0_part18 (F := F)) c v20 v29) Q) := by
  simp only [app, k0_part18_eq_skeleton]; unfold k0_part18_skel
  simp only [Prog.lift, Prog.bind_op, Prog.bind_ret, Prog.pure_eq_ret]
  iintro ⟨He, Hs, Hin⟩ Hk
  iapply (send_rs c (parts I) 7 4 3 1 rfl _ (dev11_eq c) _ _ ?_ ?_ _ _ ?_ ?_) $$ [He Hs]
  rfl; rfl; rfl; rfl
  · isplitl [He]; · iexact He
    iexact Hs
  iintro He
  iapply (in_s I c (accC c 0 1) _ ?_ (scores I c)) $$ Hin
  · exact off7_at c 1
  iintro Hin
  iapply (in_i I c (accC c 0 1) _ ?_ (scores I c)) $$ Hin
  · exact off8_at c 1
  iintro Hin
  simp only [wp_ret]
  imodintro
  iapply Hk
  isplitl [He] <;> iassumption

/-- The tokens of that chunk. -/
theorem part19 (v645 : BitVec 32) (v651 v652 v668 v669) {Q : _ → sProp 𝕄} :
    Inp I c (scores I c)
      ⊢ iprop((Inp I c (scores I c) -∗ Q ⟨k0_pay80 v668 v669, k0_pay81 v668 v669, k0_pay82 (rowsX (I.x c) (accC c 0 1)), k0_pay83 (wd c) v651 v652 v668 v669 (rowsX (I.x c) (accC c 0 1)), k0_pay84 (wd c) v651 v652 v668 v669 (rowsX (I.x c) (accC c 0 1)), k0_pay85 (wd c) v651 v652 v668 v669⟩)
          -∗ WP c (app (k0_part19 (F := F)) c (wd c) v645 v651 v652 v668 v669) Q) := by
  simp only [app, k0_part19_eq_skeleton]; unfold k0_part19_skel
  simp only [Prog.lift, Prog.bind_op, Prog.bind_ret, Prog.pure_eq_ret]
  iintro Hin Hk
  iapply (in_x I c (accC c 0 1) _ ?_ (scores I c)) $$ Hin
  · exact off9_at c 1
  iintro Hin
  simp only [wp_ret]
  imodintro
  iapply Hk $$ Hin

/-- The chunk stored; the scores and choices of the one added to the left. -/
theorem part20 (v20 : BitVec 32) (v49 v651 v652 v672 v674 v677 v693 v709 v722) (h : k0_pay86 (wd c) v49 v651 v652 v672 v674 v677 v693 v709 v722 = parts I c (accC c 0 1)) (Y : Chk F) {Q : _ → sProp 𝕄} :
    iprop(ownC c 0 Y ∗ Inp I c (scores I c))
      ⊢ iprop((∀ v753, (ownC c 0 (parts I c (accC c 0 1)) ∗ Inp I c (scores I c)) -∗ Q ⟨v753, (rowsS (scores I c) (accC c 1 1)), k0_pay88 (rowsI (I.ix c) (accC c 1 1)), k0_pay89 (rowsI (I.ix c) (accC c 1 1)), iota .tc S256x32 32 [1] iota_S256x32_d1_w32, k0_pay90 (rowsS (scores I c) (accC c 1 1)) (rowsI (I.ix c) (accC c 1 1))⟩)
          -∗ WP c (app (k0_part20 (F := F)) c (wd c) v20 v49 v651 v652 v672 v674 v677 v693 v709 v722) Q) := by
  simp only [app, k0_part20_eq_skeleton]; unfold k0_part20_skel
  simp only [Prog.lift, Prog.bind_op, Prog.bind_ret, Prog.pure_eq_ret, h]
  iintro ⟨H, Hin⟩ Hk
  iapply (step_chunk c 0 _ _ rfl Y (parts I c (accC c 0 1))) $$ H
  iintro H
  iapply (in_s I c (accC c 1 1) _ ?_ (scores I c)) $$ Hin
  · exact off10_at c 1
  iintro Hin
  iapply (in_i I c (accC c 1 1) _ ?_ (scores I c)) $$ Hin
  · exact off11_at c 1
  iintro Hin
  simp only [wp_ret]
  imodintro
  iapply Hk
  isplitl [H] <;> iassumption

/-- The tokens of that chunk. -/
theorem part21 (v753 : BitVec 32) (v755 v759 v760 v761 v766) {Q : _ → sProp 𝕄} :
    Inp I c (scores I c)
      ⊢ iprop((Inp I c (scores I c) -∗ Q ⟨k0_pay96 v755 v760 v761 v766, k0_pay97 v755 v760 v761 v766, k0_pay98 (rowsX (I.x c) (accC c 1 1)), k0_pay99 (wd c) v755 v759 v760 v761 v766 (rowsX (I.x c) (accC c 1 1)), k0_pay100 (wd c) v755 v759 v760 v761 v766 (rowsX (I.x c) (accC c 1 1)), Scalar.muli (wd c) 4#32⟩)
          -∗ WP c (app (k0_part21 (F := F)) c (wd c) v753 v755 v759 v760 v761 v766) Q) := by
  simp only [app, k0_part21_eq_skeleton]; unfold k0_part21_skel
  simp only [Prog.lift, Prog.bind_op, Prog.bind_ret, Prog.pure_eq_ret]
  iintro Hin Hk
  iapply (in_x I c (accC c 1 1) _ ?_ (scores I c)) $$ Hin
  · exact off12_at c 1
  iintro Hin
  simp only [wp_ret]
  imodintro
  iapply Hk $$ Hin

/-- That chunk stored. -/
theorem part22 (v24 : BitVec 32) (v49 v759 v760 v780 v782 v785 v801 v817 v818) (h : k0_pay101 (wd c) v49 v759 v760 v780 v782 v785 v801 v817 v818 = parts I c (accC c 1 1)) (Y : Chk F) {Q : _ → sProp 𝕄} :
    ownC c 1 Y
      ⊢ iprop((ownC c 1 (parts I c (accC c 1 1)) -∗ Q ⟨⟩)
          -∗ WP c (app (k0_part22 (F := F)) (wd c) v24 v49 v759 v760 v780 v782 v785 v801 v817 v818) Q) := by
  simp only [app, k0_part22_eq_skeleton]; unfold k0_part22_skel
  simp only [Prog.lift, Prog.bind_op, Prog.bind_ret, Prog.pure_eq_ret, h]
  iintro H Hk
  iapply (step_chunk c 1 _ _ rfl Y (parts I c (accC c 1 1))) $$ H
  iintro H
  simp only [wp_ret]
  imodintro
  iapply Hk $$ H

/-- The last hop to the left; the scores, choices and tokens of the third chunk added to the right. -/
theorem part27 (v20 : BitVec 32) {Q : _ → sProp 𝕄} :
    iprop(Eng (parts I) c 11 8 ∗ own2 c (slotM 3 2) fullShare (rsV (parts I) 3 2 c) ∗ Inp I c (scores I c))
      ⊢ iprop(((Eng (parts I) c 12 8 ∗ Inp I c (scores I c)) -∗ Q ⟨k0_pay107 (rowsI (I.ix c) (accC c 0 2)), k0_pay108 (rowsI (I.ix c) (accC c 0 2)), k0_pay114 (rowsS (scores I c) (accC c 0 2)) (rowsI (I.ix c) (accC c 0 2)), k0_pay115 (rowsS (scores I c) (accC c 0 2)) (rowsI (I.ix c) (accC c 0 2)), k0_pay116 (rowsX (I.x c) (accC c 0 2)), 4#32⟩)
          -∗ WP c (app (k0_part27 (F := F)) c v20) Q) := by
  simp only [app, k0_part27_eq_skeleton]; unfold k0_part27_skel
  simp only [Prog.lift, Prog.bind_op, Prog.bind_ret, Prog.pure_eq_ret]
  iintro ⟨He, Hs, Hin⟩ Hk
  iapply (send_rs c (parts I) 11 8 3 2 rfl _ (dev15_eq c) _ _ ?_ ?_ _ _ ?_ ?_) $$ [He Hs]
  rfl; rfl; rfl; rfl
  · isplitl [He]; · iexact He
    iexact Hs
  iintro He
  iapply (in_s I c (accC c 0 2) _ ?_ (scores I c)) $$ Hin
  · exact off7_at c 2
  iintro Hin
  iapply (in_i I c (accC c 0 2) _ ?_ (scores I c)) $$ Hin
  · exact off8_at c 2
  iintro Hin
  iapply (in_x I c (accC c 0 2) _ ?_ (scores I c)) $$ Hin
  · exact off9_at c 2
  iintro Hin
  simp only [wp_ret]
  imodintro
  iapply Hk
  isplitl [He] <;> iassumption

/-- Three of the four scaled copies of its tokens. -/
theorem part28 (v967 v968 v988 v990 v993) (w : BitVec 32) {Q : _ → sProp 𝕄} :
    Q ⟨k0_pay117 (wd c) v967 v968 v988 v990 v993 w, k0_pay118 (wd c) v967 v968 v988 v990 v993, k0_pay119 (wd c) v967 v968 v988 v990 v993, Scalar.addi (Scalar.muli (wd c) 4#32) 3#32, k0_pay120 (wd c) v967⟩
      ⊢ WP c (app (k0_part28 (F := F)) (wd c) v967 v968 v988 v990 v993 w) Q := by
  simp only [app, k0_part28_eq_skeleton]; unfold k0_part28_skel
  simp only [Prog.pure_eq_ret, wp_ret]
  iintro H
  imodintro
  iexact H

/-- The chunk stored; the scores and choices of the one added to the left. -/
theorem part29 (v20 : BitVec 32) (v49 v968 v988 v990 v993 v1009 v1025 v1041 v1043 v1046) (h : k0_pay121 v49 v968 v988 v990 v993 v1009 v1025 v1041 v1043 v1046 = parts I c (accC c 0 2)) (Y : Chk F) {Q : _ → sProp 𝕄} :
    iprop(ownC c 0 Y ∗ Inp I c (scores I c))
      ⊢ iprop((∀ v1069, (ownC c 0 (parts I c (accC c 0 2)) ∗ Inp I c (scores I c)) -∗ Q ⟨v1069, k0_pay123 (rowsI (I.ix c) (accC c 1 2)), k0_pay124 (rowsI (I.ix c) (accC c 1 2)), k0_pay125 (rowsS (scores I c) (accC c 1 2)) (rowsI (I.ix c) (accC c 1 2)), k0_pay126 (rowsS (scores I c) (accC c 1 2)) (rowsI (I.ix c) (accC c 1 2)), k0_pay127 (rowsS (scores I c) (accC c 1 2)) (rowsI (I.ix c) (accC c 1 2))⟩)
          -∗ WP c (app (k0_part29 (F := F)) c v20 v49 v968 v988 v990 v993 v1009 v1025 v1041 v1043 v1046) Q) := by
  simp only [app, k0_part29_eq_skeleton]; unfold k0_part29_skel
  simp only [Prog.lift, Prog.bind_op, Prog.bind_ret, Prog.pure_eq_ret, h]
  iintro ⟨H, Hin⟩ Hk
  iapply (step_chunk c 0 _ _ rfl Y (parts I c (accC c 0 2))) $$ H
  iintro H
  iapply (in_s I c (accC c 1 2) _ ?_ (scores I c)) $$ Hin
  · exact off10_at c 2
  iintro Hin
  iapply (in_i I c (accC c 1 2) _ ?_ (scores I c)) $$ Hin
  · exact off11_at c 2
  iintro Hin
  simp only [wp_ret]
  imodintro
  iapply Hk
  isplitl [H] <;> iassumption

/-- The tokens of that chunk. -/
theorem part30 (v1069 : BitVec 32) (v1075 v1076 v1083 v1089 v1090) {Q : _ → sProp 𝕄} :
    Inp I c (scores I c)
      ⊢ iprop((Inp I c (scores I c) -∗ Q ⟨k0_pay130 v1083 v1089 v1090, k0_pay131 v1083 v1089 v1090, k0_pay132 (rowsX (I.x c) (accC c 1 2)), k0_pay133 (wd c) v1075 v1076 v1083 v1089 v1090 (rowsX (I.x c) (accC c 1 2)), k0_pay134 (wd c) v1075 v1076 v1083 v1089 v1090 (rowsX (I.x c) (accC c 1 2)), k0_pay135 (wd c) v1075 v1083 v1089 v1090, k0_pay136 (wd c) v1076⟩)
          -∗ WP c (app (k0_part30 (F := F)) c (wd c) v1069 v1075 v1076 v1083 v1089 v1090) Q) := by
  simp only [app, k0_part30_eq_skeleton]; unfold k0_part30_skel
  simp only [Prog.lift, Prog.bind_op, Prog.bind_ret, Prog.pure_eq_ret]
  iintro Hin Hk
  iapply (in_x I c (accC c 1 2) _ ?_ (scores I c)) $$ Hin
  · exact off12_at c 2
  iintro Hin
  simp only [wp_ret]
  imodintro
  iapply Hk $$ Hin

/-- That chunk stored, and the last block from the left received. -/
theorem part31 (v24 : BitVec 32) (v49 v1075 v1076 v1096 v1098 v1101 v1117 v1133 v1140 v1143) (h : k0_pay137 (wd c) v49 v1075 v1076 v1096 v1098 v1101 v1117 v1133 v1140 v1143 = parts I c (accC c 1 2)) (Y : Chk F) {Q : _ → sProp 𝕄} :
    iprop(Eng (parts I) c 12 8 ∗ ownC c 1 Y)
      ⊢ iprop(((Eng (parts I) c 12 9 ∗ ownC c 1 (parts I c (accC c 1 2)) ∗ own2 c (slotM 0 3) fullShare (rsV (parts I) 0 2 (pb 0 c))) -∗ Q ⟨⟩)
          -∗ WP c (app (k0_part31 (F := F)) (wd c) v24 v49 v1075 v1076 v1096 v1098 v1101 v1117 v1133 v1140 v1143) Q) := by
  simp only [app, k0_part31_eq_skeleton]; unfold k0_part31_skel
  simp only [Prog.lift, Prog.bind_op, Prog.bind_ret, Prog.pure_eq_ret, h]
  iintro ⟨He, H⟩ Hk
  iapply (step_chunk c 1 _ _ rfl Y (parts I c (accC c 1 2))) $$ H
  iintro H
  iapply (step_recv (parts I) c 12 8 (.rs 0 2) rfl (by decide) _ ?_ ?_) $$ He
  rfl; rfl
  iintro ⟨He, Hv⟩
  simp only [wp_ret]
  imodintro
  iapply Hk
  isplitl [He]; · iexact He
  isplitl [H]; · iexact H
  iapply (Entails.of_eq (show recvPay (parts I) c (.rs 0 2) = own2 c (slotM 0 3) fullShare (rsV (parts I) 0 2 (pb 0 c)) from rfl)) $$ Hv

end Cert.Run

end
-- ==== Proof.Body3.lean ====
/-
The hops of the reduce-scatter: a block received, the device's own part added, the sum sent on.
-/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD)

/-- The device that the program computes here is the target of transfer `.rs 0 1`. -/
theorem dev8_eq : ∀ c : Dev nD, (⟨k0_dev8 c, k0_dev8_lt c⟩ : Dev nD) = tgt c (.rs 0 1) := by decide +kernel
/-- The device that the program computes here is the target of transfer `.rs 1 1`. -/
theorem dev9_eq : ∀ c : Dev nD, (⟨k0_dev9 c, k0_dev9_lt c⟩ : Dev nD) = tgt c (.rs 1 1) := by decide +kernel
/-- The device that the program computes here is the target of transfer `.rs 2 1`. -/
theorem dev10_eq : ∀ c : Dev nD, (⟨k0_dev10 c, k0_dev10_lt c⟩ : Dev nD) = tgt c (.rs 2 1) := by decide +kernel
/-- The device that the program computes here is the target of transfer `.rs 0 2`. -/
theorem dev12_eq : ∀ c : Dev nD, (⟨k0_dev12 c, k0_dev12_lt c⟩ : Dev nD) = tgt c (.rs 0 2) := by decide +kernel
/-- The device that the program computes here is the target of transfer `.rs 1 2`. -/
theorem dev13_eq : ∀ c : Dev nD, (⟨k0_dev13 c, k0_dev13_lt c⟩ : Dev nD) = tgt c (.rs 1 2) := by decide +kernel
/-- The device that the program computes here is the target of transfer `.rs 2 2`. -/
theorem dev14_eq : ∀ c : Dev nD, (⟨k0_dev14 c, k0_dev14_lt c⟩ : Dev nD) = tgt c (.rs 2 2) := by decide +kernel
/-- The first stream's second hop. -/
theorem part14 (v24 : BitVec 32) {Q : _ → sProp 𝕄} :
    iprop(Eng P c 4 0 ∗ ownC c 0 (P c (accC c 0 0)))
      ⊢ iprop(((Eng P c 5 1 ∗ ownC c 0 (P c (accC c 0 0))) -∗ Q ⟨⟩)
          -∗ WP c (app (k0_part14 (F := F)) c v24) Q) := by
  simp only [app, k0_part14_eq_skeleton]; unfold k0_part14_skel
  simp only [Prog.lift, Prog.bind_op, Prog.bind_ret, Prog.pure_eq_ret]
  iintro ⟨He, Hc⟩ Hk
  iapply (step_wadd c P 4 0 0 0 0 rfl (by decide) _ ?_ _ _ _ ?_ k0_pay67 (fun _ _ => rfl) _ ?_ ?_) $$ [He Hc]
  rfl; rfl; rfl; rfl
  · isplitl [He]; · iexact He
    iexact Hc
  iintro ⟨He, Hc, Hs⟩
  iapply (send_rs c P 4 1 0 1 rfl _ (dev8_eq c) _ _ ?_ ?_ _ _ ?_ ?_) $$ [He Hs]
  rfl; rfl; rfl; rfl
  · isplitl [He]; · iexact He
    iexact Hs
  iintro He
  simp only [wp_ret]
  imodintro
  iapply Hk
  isplitl [He]; · iexact He
  iexact Hc

/-- The second stream's first block received. -/
theorem part15 (v29 : BitVec 32) {Q : _ → sProp 𝕄} :
    iprop(Eng P c 5 1 ∗ ownC c 1 (P c (accC c 1 0)))
      ⊢ iprop(((Eng P c 5 2 ∗ ownC c 1 (P c (accC c 1 0)) ∗ own2 c (slotM 1 1) fullShare (rsV P 1 1 c)) -∗ Q ⟨⟩)
          -∗ WP c (app (k0_part15 (F := F)) v29) Q) := by
  simp only [app, k0_part15_eq_skeleton]; unfold k0_part15_skel
  simp only [Prog.lift, Prog.bind_op, Prog.bind_ret, Prog.pure_eq_ret]
  iintro ⟨He, Hc⟩ Hk
  iapply (step_wadd c P 5 1 1 0 1 rfl (by decide) _ ?_ _ _ _ ?_ k0_pay68 (fun _ _ => rfl) _ ?_ ?_) $$ [He Hc]
  rfl; rfl; rfl; rfl
  · isplitl [He]; · iexact He
    iexact Hc
  iintro ⟨He, Hc, Hs⟩
  simp only [wp_ret]
  imodintro
  iapply Hk
  isplitl [He]; · iexact He
  isplitl [Hc]; · iexact Hc
  iexact Hs

/-- The second stream's second hop; the third stream's first block received. -/
theorem part16 (v24 : BitVec 32) {Q : _ → sProp 𝕄} :
    iprop(Eng P c 5 2 ∗ own2 c (slotM 1 1) fullShare (rsV P 1 1 c) ∗ ownC c 0 (P c (accC c 0 0)))
      ⊢ iprop(((Eng P c 6 3 ∗ ownC c 0 (P c (accC c 0 0)) ∗ own2 c (slotM 2 1) fullShare (rsV P 2 1 c)) -∗ Q ⟨⟩)
          -∗ WP c (app (k0_part16 (F := F)) c v24) Q) := by
  simp only [app, k0_part16_eq_skeleton]; unfold k0_part16_skel
  simp only [Prog.lift, Prog.bind_op, Prog.bind_ret, Prog.pure_eq_ret]
  iintro ⟨He, Hu, Hc⟩ Hk
  iapply (send_rs c P 5 2 1 1 rfl _ (dev9_eq c) _ _ ?_ ?_ _ _ ?_ ?_) $$ [He Hu]
  rfl; rfl; rfl; rfl
  · isplitl [He]; · iexact He
    iexact Hu
  iintro He
  iapply (step_wadd c P 6 2 2 0 0 rfl (by decide) _ ?_ _ _ _ ?_ k0_pay69 (fun _ _ => rfl) _ ?_ ?_) $$ [He Hc]
  rfl; rfl; rfl; rfl
  · isplitl [He]; · iexact He
    iexact Hc
  iintro ⟨He, Hc, Hs⟩
  simp only [wp_ret]
  imodintro
  iapply Hk
  isplitl [He]; · iexact He
  isplitl [Hc]; · iexact Hc
  iexact Hs

/-- The third stream's second hop; the fourth stream's first block received. -/
theorem part17 (v29 : BitVec 32) {Q : _ → sProp 𝕄} :
    iprop(Eng P c 6 3 ∗ own2 c (slotM 2 1) fullShare (rsV P 2 1 c) ∗ ownC c 1 (P c (accC c 1 0)))
      ⊢ iprop(((Eng P c 7 4 ∗ ownC c 1 (P c (accC c 1 0)) ∗ own2 c (slotM 3 1) fullShare (rsV P 3 1 c)) -∗ Q ⟨⟩)
          -∗ WP c (app (k0_part17 (F := F)) c v29) Q) := by
  simp only [app, k0_part17_eq_skeleton]; unfold k0_part17_skel
  simp only [Prog.lift, Prog.bind_op, Prog.bind_ret, Prog.pure_eq_ret]
  iintro ⟨He, Hu, Hc⟩ Hk
  iapply (send_rs c P 6 3 2 1 rfl _ (dev10_eq c) _ _ ?_ ?_ _ _ ?_ ?_) $$ [He Hu]
  rfl; rfl; rfl; rfl
  · isplitl [He]; · iexact He
    iexact Hu
  iintro He
  iapply (step_wadd c P 7 3 3 0 1 rfl (by decide) _ ?_ _ _ _ ?_ k0_pay70 (fun _ _ => rfl) _ ?_ ?_) $$ [He Hc]
  rfl; rfl; rfl; rfl
  · isplitl [He]; · iexact He
    iexact Hc
  iintro ⟨He, Hc, Hs⟩
  simp only [wp_ret]
  imodintro
  iapply Hk
  isplitl [He]; · iexact He
  isplitl [Hc]; · iexact Hc
  iexact Hs

/-- The first stream's last hop. -/
theorem part23 (v24 v29 : BitVec 32) {Q : _ → sProp 𝕄} :
    iprop(Eng P c 8 4 ∗ ownC c 0 (P c (accC c 0 1)))
      ⊢ iprop((∀ v881, (Eng P c 9 5 ∗ ownC c 0 (P c (accC c 0 1))) -∗ Q v881)
          -∗ WP c (app (k0_part23 (F := F)) c v24 v29) Q) := by
  simp only [app, k0_part23_eq_skeleton]; unfold k0_part23_skel
  simp only [Prog.lift, Prog.bind_op, Prog.bind_ret, Prog.pure_eq_ret]
  iintro ⟨He, Hc⟩ Hk
  iapply (step_wadd c P 8 4 0 1 0 rfl (by decide) _ ?_ _ _ _ ?_ k0_pay102 (fun _ _ => rfl) _ ?_ ?_) $$ [He Hc]
  rfl; rfl; rfl; rfl
  · isplitl [He]; · iexact He
    iexact Hc
  iintro ⟨He, Hc, Hs⟩
  iapply (send_rs c P 8 5 0 2 rfl _ (dev12_eq c) _ _ ?_ ?_ _ _ ?_ ?_) $$ [He Hs]
  rfl; rfl; rfl; rfl
  · isplitl [He]; · iexact He
    iexact Hs
  iintro He
  simp only [wp_ret]
  imodintro
  iapply Hk
  isplitl [He]; · iexact He
  iexact Hc

/-- The second stream's last hop. -/
theorem part24 (v29 v881 : BitVec 32) {Q : _ → sProp 𝕄} :
    iprop(Eng P c 9 5 ∗ ownC c 1 (P c (accC c 1 1)))
      ⊢ iprop(((Eng P c 10 6 ∗ ownC c 1 (P c (accC c 1 1))) -∗ Q ⟨⟩)
          -∗ WP c (app (k0_part24 (F := F)) c v29 v881) Q) := by
  simp only [app, k0_part24_eq_skeleton]; unfold k0_part24_skel
  simp only [Prog.lift, Prog.bind_op, Prog.bind_ret, Prog.pure_eq_ret]
  iintro ⟨He, Hc⟩ Hk
  iapply (step_wadd c P 9 5 1 1 1 rfl (by decide) _ ?_ _ _ _ ?_ k0_pay103 (fun _ _ => rfl) _ ?_ ?_) $$ [He Hc]
  rfl; rfl; rfl; rfl
  · isplitl [He]; · iexact He
    iexact Hc
  iintro ⟨He, Hc, Hs⟩
  iapply (send_rs c P 9 6 1 2 rfl _ (dev13_eq c) _ _ ?_ ?_ _ _ ?_ ?_) $$ [He Hs]
  rfl; rfl; rfl; rfl
  · isplitl [He]; · iexact He
    iexact Hs
  iintro He
  simp only [wp_ret]
  imodintro
  iapply Hk
  isplitl [He]; · iexact He
  iexact Hc

/-- The third stream's second block received. -/
theorem part25 (v24 : BitVec 32) {Q : _ → sProp 𝕄} :
    iprop(Eng P c 10 6 ∗ ownC c 0 (P c (accC c 0 1)))
      ⊢ iprop(((Eng P c 10 7 ∗ ownC c 0 (P c (accC c 0 1)) ∗ own2 c (slotM 2 2) fullShare (rsV P 2 2 c)) -∗ Q ⟨⟩)
          -∗ WP c (app (k0_part25 (F := F)) v24) Q) := by
  simp only [app, k0_part25_eq_skeleton]; unfold k0_part25_skel
  simp only [Prog.lift, Prog.bind_op, Prog.bind_ret, Prog.pure_eq_ret]
  iintro ⟨He, Hc⟩ Hk
  iapply (step_wadd c P 10 6 2 1 0 rfl (by decide) _ ?_ _ _ _ ?_ k0_pay104 (fun _ _ => rfl) _ ?_ ?_) $$ [He Hc]
  rfl; rfl; rfl; rfl
  · isplitl [He]; · iexact He
    iexact Hc
  iintro ⟨He, Hc, Hs⟩
  simp only [wp_ret]
  imodintro
  iapply Hk
  isplitl [He]; · iexact He
  isplitl [Hc]; · iexact Hc
  iexact Hs

/-- The third stream's last hop; the fourth stream's second block received. -/
theorem part26 (v29 : BitVec 32) {Q : _ → sProp 𝕄} :
    iprop(Eng P c 10 7 ∗ own2 c (slotM 2 2) fullShare (rsV P 2 2 c) ∗ ownC c 1 (P c (accC c 1 1)))
      ⊢ iprop(((Eng P c 11 8 ∗ ownC c 1 (P c (accC c 1 1)) ∗ own2 c (slotM 3 2) fullShare (rsV P 3 2 c)) -∗ Q ⟨⟩)
          -∗ WP c (app (k0_part26 (F := F)) c v29) Q) := by
  simp only [app, k0_part26_eq_skeleton]; unfold k0_part26_skel
  simp only [Prog.lift, Prog.bind_op, Prog.bind_ret, Prog.pure_eq_ret]
  iintro ⟨He, Hu, Hc⟩ Hk
  iapply (send_rs c P 10 7 2 2 rfl _ (dev14_eq c) _ _ ?_ ?_ _ _ ?_ ?_) $$ [He Hu]
  rfl; rfl; rfl; rfl
  · isplitl [He]; · iexact He
    iexact Hu
  iintro He
  iapply (step_wadd c P 11 7 3 1 1 rfl (by decide) _ ?_ _ _ _ ?_ k0_pay105 (fun _ _ => rfl) _ ?_ ?_) $$ [He Hc]
  rfl; rfl; rfl; rfl
  · isplitl [He]; · iexact He
    iexact Hc
  iintro ⟨He, Hc, Hs⟩
  simp only [wp_ret]
  imodintro
  iapply Hk
  isplitl [He]; · iexact He
  isplitl [Hc]; · iexact Hc
  iexact Hs

/-- The first two streams' last sums. -/
theorem part32 (v19 v29 : BitVec 32) {Q : _ → sProp 𝕄} :
    iprop(Eng P c 12 9 ∗ ownC c 0 (P c (accC c 0 2)) ∗ ownC c 1 (P c (accC c 1 2)) ∗ own2 c (slotM 0 3) fullShare (rsV P 0 2 (pb 0 c)))
      ⊢ iprop(((Eng P c 12 10 ∗ ownC c 0 (P c (accC c 0 2)) ∗ ownC c 1 (P c (accC c 1 2)) ∗ own2 c (slotM 0 3) fullShare (rsV P 0 3 c) ∗ own2 c (slotM 1 3) fullShare (rsV P 1 3 c)) -∗ Q ⟨⟩)
          -∗ WP c (app (k0_part32 (F := F)) v19 v29) Q) := by
  simp only [app, k0_part32_eq_skeleton]; unfold k0_part32_skel
  simp only [Prog.lift, Prog.bind_op, Prog.bind_ret, Prog.pure_eq_ret]
  iintro ⟨He, Hc, Hd, Hs⟩ Hk
  iapply (step_add c 0 3 0 0 _ ?_ _ _ _ ?_ (P c (accC c 0 2)) (rsV P 0 2 (pb 0 c)) k0_pay138 fun _ _ => rfl) $$ [Hc Hs]
  rfl; rfl
  · isplitl [Hc] <;> iassumption
  iintro ⟨Hc, Hs⟩
  iapply (step_wadd c P 12 9 1 2 1 rfl (by decide) _ ?_ _ _ _ ?_ k0_pay139 (fun _ _ => rfl) _ ?_ ?_) $$ [He Hd]
  rfl; rfl; rfl; rfl
  · isplitl [He]; · iexact He
    iexact Hd
  iintro ⟨He, Hd, Ht⟩
  simp only [wp_ret]
  imodintro
  iapply Hk
  isplitl [He]; · iexact He
  isplitl [Hc]; · iexact Hc
  isplitl [Hd]; · iexact Hd
  isplitl [Hs]; · iexact Hs
  iexact Ht

/-- The device that the program computes here is the target of transfer `.z1 0`. -/
theorem dev16_eq : ∀ c : Dev nD, (⟨k0_dev16 c, k0_dev16_lt c⟩ : Dev nD) = tgt c (.z1 0) := by decide +kernel
/-- The place in the communication buffer of the sum sent to the mirror. -/
theorem off13_at : ∀ (c : Dev nD) (h : Fin 2), k0_off13 c (BitVec.ofNat 32 (2 * h.val)) = ![(awayI c h).val, 3, 0, 0] := by decide +kernel

/-- The first sum sent to the mirror; the third stream's last block received. -/
theorem part33 (v24 v31 : BitVec 32) {Q : _ → sProp 𝕄} :
    iprop(Eng P c 12 10 ∗ own2 c (slotM (awayI c 0) 3) fullShare (rsV P (awayI c 0) 3 c) ∗ ownC c 0 (P c (accC c 0 2)))
      ⊢ iprop(((Eng P c 13 11 ∗ ownC c 0 (P c (accC c 0 2)) ∗ own2 c (slotM 2 3) fullShare (rsV P 2 2 (pb 0 c))) -∗ Q (k0_pay140 (up (rsV P 2 2 (pb 0 c))) (half 1 (P c (accC c 0 2)))))
          -∗ WP c (app (k0_part33 (F := F)) c v24 v31) Q) := by
  simp only [app, k0_part33_eq_skeleton]; unfold k0_part33_skel
  simp only [Prog.lift, Prog.bind_op, Prog.bind_ret, Prog.pure_eq_ret]
  iintro ⟨He, Hs, Hc⟩ Hk
  iapply (step_send P c 12 10 (.z1 0) rfl _ (dev16_eq c) _ _ ?_ ?_ _ _ ?_ ?_) $$ [He Hs]
  · exact slot_of (awayI c 0) 3 _ (off13_at c 0) _
  rfl; rfl; rfl
  · isplitl [He]; · iexact He
    iexact Hs
  iintro He
  iapply (step_recv P c 13 10 (.rs 2 2) rfl (by decide) _ ?_ ?_) $$ He
  rfl; rfl
  iintro ⟨He, Hv⟩
  ihave Hv := (Entails.of_eq (show recvPay P c (.rs 2 2) = own2 c (slotM 2 3) fullShare (rsV P 2 2 (pb 0 c)) from rfl)) $$ Hv
  iapply (load_slot c 2 3 _ ?_ (rsV P 2 2 (pb 0 c))) $$ Hv
  rfl
  iintro Hv
  iapply (load_half c 0 1 _ ?_ (P c (accC c 0 2))) $$ Hc
  rfl
  iintro Hc
  iapply (load_slot c 2 3 _ ?_ (rsV P 2 2 (pb 0 c))) $$ Hv
  rfl
  iintro Hv
  simp only [wp_ret]
  imodintro
  iapply Hk
  isplitl [He]; · iexact He
  isplitl [Hc]; · iexact Hc
  iexact Hv

/-- The last two streams' last sums. -/
theorem part34 (v19 v29 v31 : BitVec 32) (v1225 : Blk F) {Q : _ → sProp 𝕄} :
    iprop(Eng P c 13 11 ∗ ownC c 1 (P c (accC c 1 2)) ∗ own2 c (slotM 2 3) fullShare (rsV P 2 2 (pb 0 c)))
      ⊢ iprop(((Eng P c 13 12 ∗ ownC c 1 (P c (accC c 1 2)) ∗ own2 c (slotM 2 3) fullShare v1225 ∗ own2 c (slotM 3 3) fullShare (rsV P 3 3 c)) -∗ Q ⟨⟩)
          -∗ WP c (app (k0_part34 (F := F)) v19 v29 v31 v1225) Q) := by
  simp only [app, k0_part34_eq_skeleton]; unfold k0_part34_skel
  simp only [Prog.lift, Prog.bind_op, Prog.bind_ret, Prog.pure_eq_ret]
  iintro ⟨He, Hd, Hv⟩ Hk
  iapply (store_slot c 2 3 _ ?_ (rsV P 2 2 (pb 0 c)) v1225) $$ Hv
  rfl
  iintro Hv
  iapply (step_wadd c P 13 11 3 2 1 rfl (by decide) _ ?_ _ _ _ ?_ k0_pay142 (fun _ _ => rfl) _ ?_ ?_) $$ [He Hd]
  rfl; rfl; rfl; rfl
  · isplitl [He]; · iexact He
    iexact Hd
  iintro ⟨He, Hd, Ht⟩
  simp only [wp_ret]
  imodintro
  iapply Hk
  isplitl [He]; · iexact He
  isplitl [Hd]; · iexact Hd
  isplitl [Hv]; · iexact Hv
  iexact Ht

/-- The third stream's last sum, as the program computes it. -/
theorem sum23 : (k0_pay140 (up (rsV P 2 2 (pb 0 c))) (half 1 (P c (accC c 0 2))) : Blk F) = rsV P 2 3 c := by
  show addB (down (up (rsV P 2 2 (pb 0 c)))) (half 1 (P c (accC c 0 2))) = _
  rw [down_up]; rfl

end Cert.Run

end
-- ==== Proof.Body4.lean ====
/-
The exchange with the mirror and the all-gather.
-/
module

public import proofs.«01_k».proof.Proof.Steps
public import Idealize.ShloMosaic.Lib.MemrefSat

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD)

/-- The device that the program computes here is the target of transfer `.z1 1`. -/
theorem dev17_eq : ∀ c : Dev nD, (⟨k0_dev17 c, k0_dev17_lt c⟩ : Dev nD) = tgt c (.z1 1) := by decide +kernel
/-- The device that the program computes here is the target of transfer `.z2 0`. -/
theorem dev18_eq : ∀ c : Dev nD, (⟨k0_dev18 c, k0_dev18_lt c⟩ : Dev nD) = tgt c (.z2 0) := by decide +kernel
/-- The device that the program computes here is the target of transfer `.z2 1`. -/
theorem dev19_eq : ∀ c : Dev nD, (⟨k0_dev19 c, k0_dev19_lt c⟩ : Dev nD) = tgt c (.z2 1) := by decide +kernel
/-- The device that the program computes here is the target of transfer `.ag 0 0`. -/
theorem dev20_eq : ∀ c : Dev nD, (⟨k0_dev20 c, k0_dev20_lt c⟩ : Dev nD) = tgt c (.ag 0 0) := by decide +kernel
/-- The device that the program computes here is the target of transfer `.ag 1 0`. -/
theorem dev21_eq : ∀ c : Dev nD, (⟨k0_dev21 c, k0_dev21_lt c⟩ : Dev nD) = tgt c (.ag 1 0) := by decide +kernel
/-- The device that the program computes here is the target of transfer `.ag 2 0`. -/
theorem dev22_eq : ∀ c : Dev nD, (⟨k0_dev22 c, k0_dev22_lt c⟩ : Dev nD) = tgt c (.ag 2 0) := by decide +kernel
/-- The device that the program computes here is the target of transfer `.ag 3 0`. -/
theorem dev23_eq : ∀ c : Dev nD, (⟨k0_dev23 c, k0_dev23_lt c⟩ : Dev nD) = tgt c (.ag 3 0) := by decide +kernel
/-- The device that the program computes here is the target of transfer `.ag 0 1`. -/
theorem dev24_eq : ∀ c : Dev nD, (⟨k0_dev24 c, k0_dev24_lt c⟩ : Dev nD) = tgt c (.ag 0 1) := by decide +kernel
/-- The device that the program computes here is the target of transfer `.ag 1 1`. -/
theorem dev25_eq : ∀ c : Dev nD, (⟨k0_dev25 c, k0_dev25_lt c⟩ : Dev nD) = tgt c (.ag 1 1) := by decide +kernel
/-- The device that the program computes here is the target of transfer `.ag 2 1`. -/
theorem dev26_eq : ∀ c : Dev nD, (⟨k0_dev26 c, k0_dev26_lt c⟩ : Dev nD) = tgt c (.ag 2 1) := by decide +kernel
/-- The device that the program computes here is the target of transfer `.ag 3 1`. -/
theorem dev27_eq : ∀ c : Dev nD, (⟨k0_dev27 c, k0_dev27_lt c⟩ : Dev nD) = tgt c (.ag 3 1) := by decide +kernel
/-- The device that the program computes here is the target of transfer `.ag 0 2`. -/
theorem dev28_eq : ∀ c : Dev nD, (⟨k0_dev28 c, k0_dev28_lt c⟩ : Dev nD) = tgt c (.ag 0 2) := by decide +kernel
/-- The device that the program computes here is the target of transfer `.ag 1 2`. -/
theorem dev29_eq : ∀ c : Dev nD, (⟨k0_dev29 c, k0_dev29_lt c⟩ : Dev nD) = tgt c (.ag 1 2) := by decide +kernel
/-- The device that the program computes here is the target of transfer `.ag 2 2`. -/
theorem dev30_eq : ∀ c : Dev nD, (⟨k0_dev30 c, k0_dev30_lt c⟩ : Dev nD) = tgt c (.ag 2 2) := by decide +kernel
/-- The device that the program computes here is the target of transfer `.ag 3 2`. -/
theorem dev31_eq : ∀ c : Dev nD, (⟨k0_dev31 c, k0_dev31_lt c⟩ : Dev nD) = tgt c (.ag 3 2) := by decide +kernel

/-- Where the slots and the pieces of the result lie. -/
theorem off13_one : ∀ c : Dev nD, k0_off13 c 2#32 = ![(awayI c 1).val, 3, 0, 0] := by decide +kernel
/-- The place in the communication buffer of the sum the device keeps. -/
theorem off14_at : ∀ (c : Dev nD) (h : Fin 2), k0_off14 c (BitVec.ofNat 32 (2 * h.val)) = ![(keepI c h).val, 3, 0, 0] := by decide +kernel
/-- The place of a device's own piece in the result. -/
theorem off15_at : ∀ (c : Dev nD) (h : Fin 2), k0_off15 c (BitVec.ofNat 32 (128 * h.val)) = ![128 * (ownR c h).val, 0] := by decide +kernel
/-- The place of a device's own piece in the result, as the exchange names it. -/
theorem off16_at : ∀ (c : Dev nD) (h : Fin 2), k0_off16 c (BitVec.ofNat 32 (128 * h.val)) = ![128 * (ownR c h).val, 0] := by decide +kernel
/-- The place of the piece that a gather stream running right sends on. -/
theorem off18_at : ∀ (c : Dev nD) (s : Fin 3) (h : Fin 2), k0_off18 c (BitVec.ofNat 32 s.val) (BitVec.ofNat 32 (128 * h.val))
    = ![128 * (agR c ⟨2 * h.val, by omega⟩ s).val, 0] := by decide +kernel
/-- The place of the piece that a gather stream running left sends on. -/
theorem off19_at : ∀ (c : Dev nD) (s : Fin 3) (h : Fin 2), k0_off19 c 1#32 (BitVec.ofNat 32 s.val) (BitVec.ofNat 32 (128 * h.val))
    = ![128 * (agR c ⟨2 * h.val + 1, by omega⟩ s).val, 0] := by decide +kernel

/-- What the mirror sends is what this device keeps, and the piece it finishes is this device's mirror piece. -/
theorem keepI_mirror : ∀ (c : Dev nD) (h : Fin 2), awayI (pb 2 c) h = keepI c h := by decide
/-- The piece that arrives from the mirror is the one the mirror finishes. -/
theorem mirR_eq : ∀ (c : Dev nD) (h : Fin 2), ownR (pb 2 c) h = mirR c h := by decide
/-- The piece passed on is the one received in the hop before. -/
theorem agR_next0 : ∀ (c : Dev nD) (i : Fin 4), agR (pb (dOf i) c) i 0 = agR c i 1 := by decide
/-- The piece that arrives at the second hop of a gather stream is the one sent on at the third. -/
theorem agR_next1 : ∀ (c : Dev nD) (i : Fin 4), agR (pb (dOf i) c) i 1 = agR c i 2 := by decide
/-- The first pieces passed on are the device's own and its mirror's. -/
theorem agR_zero : ∀ (c : Dev nD) (h : Fin 2), (agR c ⟨2 * h.val, by omega⟩ 0 = ownR c h ∧ agR c ⟨2 * h.val + 1, by omega⟩ 0 = mirR c h)
    ∨ (agR c ⟨2 * h.val, by omega⟩ 0 = mirR c h ∧ agR c ⟨2 * h.val + 1, by omega⟩ 0 = ownR c h) := by decide

/-- A piece of the result with its final value. -/
abbrev fin2 (r : Fin 16) (q : PosShare TreeShare) : sProp 𝕄 := own2 c (pieceM r) q (pieceV P r)

/-- What arrives from the mirror and along the streams, spelt out. -/
theorem recv_z1 (h : Fin 2) : recvPay P c (.z1 h) = own2 c (zbM h) fullShare (rsV P (keepI c h) 3 (nb 2 c)) := by
  rw [← keepI_mirror]; rfl
/-- What the mirror's finished piece hands over on landing. -/
theorem recv_z2 (h : Fin 2) : recvPay P c (.z2 h) = fin2 P c (mirR c h) fullShare := by
  rw [← mirR_eq]; rfl
/-- What the first hop of a gather stream hands over on landing: the piece sent on next. -/
theorem recv_ag0 (i : Fin 4) : recvPay P c (.ag i 0) = fin2 P c (agR c i 1) fullShare := by
  rw [← agR_next0]; rfl
/-- What the second hop of a gather stream hands over on landing: the piece sent on next. -/
theorem recv_ag1 (i : Fin 4) : recvPay P c (.ag i 1) = fin2 P c (agR c i 2) fullShare := by
  rw [← agR_next1]; rfl
/-- The last piece a stream brings. -/
def lastR (i : Fin 4) : Fin 16 := agR (pb (dOf i) c) i 2
/-- What the third hop of a gather stream hands over on landing: the last piece. -/
theorem recv_ag2 (i : Fin 4) : recvPay P c (.ag i 2) = fin2 P c (lastR c i) fullShare := rfl

/-- The two right shares the streams' first hops take. -/
theorem ag_pair (h : Fin 2) :
    iprop(fin2 P c (ownR c h) fullShare.right ∗ fin2 P c (mirR c h) fullShare.right)
      ⊢ iprop(fin2 P c (agR c ⟨2 * h.val, by omega⟩ 0) fullShare.right ∗ fin2 P c (agR c ⟨2 * h.val + 1, by omega⟩ 0) fullShare.right) := by
  rcases agR_zero c h with ⟨h₁, h₂⟩ | ⟨h₁, h₂⟩
  · rw [h₁, h₂]
  · rw [h₁, h₂]
    iintro ⟨H, K⟩
    isplitl [K]; · iexact K
    iexact H

/-- The finished piece, as the program computes it. -/
theorem own_sum (h : Fin 2) :
    (k0_pay143 (up (rsV P (keepI c h) 3 c)) (upz (rsV P (keepI c h) 3 (nb 2 c))) : Blk F) = pieceV P (ownR c h) := by
  rw [pieceV_ownR]
  show addB (down (up (rsV P (keepI c h) 3 c))) (downz (upz (rsV P (keepI c h) 3 (nb 2 c)))) = _
  rw [down_up, downz_upz]; rfl

/-- The second sum sent to the mirror, its first received, and the first piece finished. -/
theorem part35 (v19 v31 v536 : BitVec 32) {Q : _ → sProp 𝕄} :
    iprop(Eng P c 13 12 ∗ own2 c (slotM (awayI c 1) 3) fullShare (rsV P (awayI c 1) 3 c) ∗ own2 c (slotM (keepI c 0) 3) fullShare (rsV P (keepI c 0) 3 c) ∗ ∃ v : Blk F, own2 c (pieceM (ownR c 0)) fullShare v)
      ⊢ iprop((∀ v1279, (Eng P c 14 13 ∗ own2 c (slotM (keepI c 0) 3) fullShare (rsV P (keepI c 0) 3 c) ∗ own2 c (zbM 0) fullShare (rsV P (keepI c 0) 3 (nb 2 c)) ∗ fin2 P c (ownR c 0) fullShare) -∗ Q ⟨v1279, 0#32⟩)
          -∗ WP c (app (k0_part35 (F := F)) c v19 v31 v536) Q) := by
  simp only [app, k0_part35_eq_skeleton]; unfold k0_part35_skel
  simp only [Prog.lift, Prog.bind_op, Prog.bind_ret, Prog.pure_eq_ret]
  iintro ⟨He, Ha, Hs, ⟨%v, Ho⟩⟩ Hk
  iapply (step_send P c 13 12 (.z1 1) rfl _ (dev17_eq c) _ _ ?_ ?_ _ _ ?_ ?_) $$ [He Ha]
  · exact slot_of (awayI c 1) 3 _ (off13_one c) _
  · exact rfl
  rfl; rfl
  · isplitl [He]; · iexact He
    iexact Ha
  iintro He
  iapply (step_recv P c 14 12 (.z1 0) rfl (by decide) _ ?_ ?_) $$ He
  rfl; rfl
  iintro ⟨He, Hz⟩
  ihave Hz := (Entails.of_eq (recv_z1 P c 0)) $$ Hz
  iapply (load_slot c (keepI c 0) 3 _ ?_ (rsV P (keepI c 0) 3 c)) $$ Hs
  · exact off14_at c 0
  iintro Hs
  iapply (load_zb c 0 _ ?_ (rsV P (keepI c 0) 3 (nb 2 c))) $$ Hz
  rfl
  iintro Hz
  iapply (load_piece c (ownR c 0) _ ?_ v) $$ Ho
  · exact off15_at c 0
  iintro Ho
  iapply (store_piece c (ownR c 0) _ ?_ v (k0_pay143 (up (rsV P (keepI c 0) 3 c)) (upz (rsV P (keepI c 0) 3 (nb 2 c))))) $$ Ho
  · exact off15_at c 0
  iintro Ho
  ihave Ho := (Entails.of_eq (congrArg (own2 c (pieceM (ownR c 0)) fullShare) (own_sum P c 0))) $$ Ho
  simp only [wp_ret]
  imodintro
  iapply Hk
  isplitl [He]; · iexact He
  isplitl [Hs]; · iexact Hs
  isplitl [Hz]; · iexact Hz
  iexact Ho

/-- The first piece sent to the mirror, its second sum received. -/
theorem part36 (v19 v31 v536 v1279 w : BitVec 32) {Q : _ → sProp 𝕄} :
    iprop(Eng P c 14 13 ∗ fin2 P c (ownR c 0) fullShare.left ∗ own2 c (slotM (keepI c 1) 3) fullShare (rsV P (keepI c 1) 3 c) ∗ ∃ v : Blk F, own2 c (pieceM (ownR c 1)) fullShare v)
      ⊢ iprop((∀ v, (Eng P c 15 14 ∗ own2 c (slotM (keepI c 1) 3) fullShare (rsV P (keepI c 1) 3 c) ∗ own2 c (zbM 1) fullShare (rsV P (keepI c 1) 3 (nb 2 c)) ∗ own2 c (pieceM (ownR c 1)) fullShare v) -∗ Q (k0_pay144 (up (rsV P (keepI c 1) 3 c)) (upz (rsV P (keepI c 1) 3 (nb 2 c)))))
          -∗ WP c (app (k0_part36 (F := F)) c v19 v31 v536 v1279 w) Q) := by
  simp only [app, k0_part36_eq_skeleton]; unfold k0_part36_skel
  simp only [Prog.lift, Prog.bind_op, Prog.bind_ret, Prog.pure_eq_ret]
  iintro ⟨He, Ha, Hs, ⟨%v, Ho⟩⟩ Hk
  iapply (step_send P c 14 13 (.z2 0) rfl _ (dev18_eq c) _ _ ?_ ?_ _ _ ?_ ?_) $$ [He Ha]
  · exact piece_of (ownR c 0) _ (off16_at c 0) _
  · exact piece_of (ownR c 0) _ (off16_at c 0) _
  rfl; rfl
  · isplitl [He]; · iexact He
    iexact Ha
  iintro He
  iapply (step_recv P c 15 13 (.z1 1) rfl (by decide) _ ?_ ?_) $$ He
  rfl; rfl
  iintro ⟨He, Hz⟩
  ihave Hz := (Entails.of_eq (recv_z1 P c 1)) $$ Hz
  iapply (load_slot c (keepI c 1) 3 _ ?_ (rsV P (keepI c 1) 3 c)) $$ Hs
  · exact off14_at c 1
  iintro Hs
  iapply (load_zb c 1 _ ?_ (rsV P (keepI c 1) 3 (nb 2 c))) $$ Hz
  rfl
  iintro Hz
  iapply (load_piece c (ownR c 1) _ ?_ v) $$ Ho
  · exact off15_at c 1
  iintro Ho
  simp only [wp_ret]
  imodintro
  iapply Hk
  isplitl [He]; · iexact He
  isplitl [Hs]; · iexact Hs
  isplitl [Hz]; · iexact Hz
  iexact Ho

/-- The second piece finished and sent to the mirror, the mirror's first piece received. -/
theorem part37 (v20 v31 v536 v539 : BitVec 32) (v1305 v : Blk F) (h : v1305 = pieceV P (ownR c 1)) {Q : _ → sProp 𝕄} :
    iprop(Eng P c 15 14 ∗ own2 c (pieceM (ownR c 1)) fullShare v)
      ⊢ iprop(((Eng P c 16 15 ∗ fin2 P c (ownR c 1) fullShare.right ∗ fin2 P c (mirR c 0) fullShare) -∗ Q ⟨⟩)
          -∗ WP c (app (k0_part37 (F := F)) c v20 v31 v536 v539 v1305) Q) := by
  simp only [app, k0_part37_eq_skeleton]; unfold k0_part37_skel
  simp only [Prog.lift, Prog.bind_op, Prog.bind_ret, Prog.pure_eq_ret]
  iintro ⟨He, Ho⟩ Hk
  iapply (store_piece c (ownR c 1) _ ?_ v v1305) $$ Ho
  · exact off15_at c 1
  iintro Ho
  ihave Ho := (Entails.of_eq (congrArg (own2 c (pieceM (ownR c 1)) fullShare) h)) $$ Ho
  ihave ⟨Ha, Hb⟩ := (owns_halves (c : Thread nD τ) (pieceM (ownR c 1)) fullShare (pieceV P (ownR c 1))).1 $$ Ho
  iapply (step_send P c 15 14 (.z2 1) rfl _ (dev19_eq c) _ _ ?_ ?_ _ _ ?_ ?_) $$ [He Ha]
  · exact piece_of (ownR c 1) _ (off16_at c 1) _
  · exact piece_of (ownR c 1) _ (off16_at c 1) _
  rfl; rfl
  · isplitl [He]; · iexact He
    iexact Ha
  iintro He
  iapply (step_recv P c 16 14 (.z2 0) rfl (by decide) _ ?_ ?_) $$ He
  rfl; rfl
  iintro ⟨He, Hm⟩
  ihave Hm := (Entails.of_eq (recv_z2 P c 0)) $$ Hm
  simp only [wp_ret]
  imodintro
  iapply Hk
  isplitl [He]; · iexact He
  isplitl [Hb]; · iexact Hb
  iexact Hm

/-- The first two streams of the all-gather started. -/
theorem part38 (v20 v24 v29 v31 v539 : BitVec 32) {Q : _ → sProp 𝕄} :
    iprop(Eng P c 16 15 ∗ fin2 P c (agR c 0 0) fullShare.right ∗ fin2 P c (agR c 1 0) fullShare.right)
      ⊢ iprop((∀ v1366, (Eng P c 18 15) -∗ Q ⟨v1366, 0#32⟩)
          -∗ WP c (app (k0_part38 (F := F)) c v20 v24 v29 v31 v539) Q) := by
  simp only [app, k0_part38_eq_skeleton]; unfold k0_part38_skel
  simp only [Prog.lift, Prog.bind_op, Prog.bind_ret, Prog.pure_eq_ret]
  iintro ⟨He, Ha, Hb⟩ Hk
  iapply (step_send P c 16 15 (.ag 0 0) rfl _ (dev20_eq c) _ _ ?_ ?_ _ _ ?_ ?_) $$ [He Ha]
  · exact piece_of (agR c 0 0) _ (off18_at c 0 0) _
  · exact piece_of (agR c 0 0) _ (off18_at c 0 0) _
  rfl; rfl
  · isplitl [He]; · iexact He
    iexact Ha
  iintro He
  iapply (step_send P c 17 15 (.ag 1 0) rfl _ (dev21_eq c) _ _ ?_ ?_ _ _ ?_ ?_) $$ [He Hb]
  · exact piece_of (agR c 1 0) _ (off19_at c 0 0) _
  · exact piece_of (agR c 1 0) _ (off19_at c 0 0) _
  rfl; rfl
  · isplitl [He]; · iexact He
    iexact Hb
  iintro He
  simp only [wp_ret]
  imodintro
  iapply Hk
  iexact He

/-- The mirror's second piece received, the third stream started. -/
theorem part39 (v20 v24 v29 v1366 w : BitVec 32) {Q : _ → sProp 𝕄} :
    iprop(Eng P c 18 15 ∗ fin2 P c (ownR c 1) fullShare.right)
      ⊢ iprop((∀ v1394, (Eng P c 19 16 ∗ fin2 P c (agR c 3 0) fullShare.right ∗ fin2 P c (mirR c 1) fullShare.left) -∗ Q ⟨v1394, 0#32⟩)
          -∗ WP c (app (k0_part39 (F := F)) c v20 v24 v29 v1366 w) Q) := by
  simp only [app, k0_part39_eq_skeleton]; unfold k0_part39_skel
  simp only [Prog.lift, Prog.bind_op, Prog.bind_ret, Prog.pure_eq_ret]
  iintro ⟨He, Ho⟩ Hk
  iapply (step_recv P c 18 15 (.z2 1) rfl (by decide) _ ?_ ?_) $$ He
  rfl; rfl
  iintro ⟨He, Hm⟩
  ihave Hm := (Entails.of_eq (recv_z2 P c 1)) $$ Hm
  ihave ⟨Hl, Hr⟩ := (owns_halves (c : Thread nD τ) (pieceM (mirR c 1)) fullShare (pieceV P (mirR c 1))).1 $$ Hm
  ihave ⟨Hx, Hy⟩ := (ag_pair P c 1) $$ [Ho Hr]
  · isplitl [Ho]; · iexact Ho
    iexact Hr
  iapply (step_send P c 18 16 (.ag 2 0) rfl _ (dev22_eq c) _ _ ?_ ?_ _ _ ?_ ?_) $$ [He Hx]
  · exact piece_of (agR c 2 0) _ (off18_at c 0 1) _
  · exact piece_of (agR c 2 0) _ (off18_at c 0 1) _
  rfl; rfl
  · isplitl [He]; · iexact He
    iexact Hx
  iintro He
  simp only [wp_ret]
  imodintro
  iapply Hk
  isplitl [He]; · iexact He
  isplitl [Hy]; · iexact Hy
  iexact Hl

/-- Hop 1 of stream 3 started, hop 1 of stream 0 received. -/
theorem part40 (v20 v24 v1394 w : BitVec 32) {Q : _ → sProp 𝕄} :
    iprop(Eng P c 19 16 ∗ fin2 P c (agR c 3 0) fullShare.right)
      ⊢ iprop(((Eng P c 20 17 ∗ fin2 P c (agR c 0 1) fullShare) -∗ Q ⟨⟩)
          -∗ WP c (app (k0_part40 (F := F)) c v20 v24 v1394 w) Q) := by
  simp only [app, k0_part40_eq_skeleton]; unfold k0_part40_skel
  simp only [Prog.lift, Prog.bind_op, Prog.bind_ret, Prog.pure_eq_ret]
  iintro ⟨He, Ha⟩ Hk
  iapply (step_send P c 19 16 (.ag 3 0) rfl _ (dev23_eq c) _ _ ?_ ?_ _ _ ?_ ?_) $$ [He Ha]
  · exact piece_of (agR c 3 0) _ (off19_at c 0 1) _
  · exact piece_of (agR c 3 0) _ (off19_at c 0 1) _
  rfl; rfl
  · isplitl [He]; · iexact He
    iexact Ha
  iintro He
  iapply (step_recv P c 20 16 (.ag 0 0) rfl (by decide) _ ?_ ?_) $$ He
  rfl; rfl
  iintro ⟨He, Hb⟩
  ihave Hb := (Entails.of_eq (recv_ag0 P c 0)) $$ Hb
  simp only [wp_ret]
  imodintro
  iapply Hk
  isplitl [He]; · iexact He
  iexact Hb

/-- Hop 2 of stream 0 started, hop 1 of stream 1 received. -/
theorem part41 (v20 v29 : BitVec 32) {Q : _ → sProp 𝕄} :
    iprop(Eng P c 20 17 ∗ fin2 P c (agR c 0 1) fullShare)
      ⊢ iprop(((Eng P c 21 18 ∗ fin2 P c (agR c 1 1) fullShare) -∗ Q ⟨⟩)
          -∗ WP c (app (k0_part41 (F := F)) c v20 v29) Q) := by
  simp only [app, k0_part41_eq_skeleton]; unfold k0_part41_skel
  simp only [Prog.lift, Prog.bind_op, Prog.bind_ret, Prog.pure_eq_ret]
  iintro ⟨He, Ha⟩ Hk
  iapply (step_send P c 20 17 (.ag 0 1) rfl _ (dev24_eq c) _ _ ?_ ?_ _ _ ?_ ?_) $$ [He Ha]
  · exact piece_of (agR c 0 1) _ (off18_at c 1 0) _
  · exact piece_of (agR c 0 1) _ (off18_at c 1 0) _
  rfl; rfl
  · isplitl [He]; · iexact He
    iexact Ha
  iintro He
  iapply (step_recv P c 21 17 (.ag 1 0) rfl (by decide) _ ?_ ?_) $$ He
  rfl; rfl
  iintro ⟨He, Hb⟩
  ihave Hb := (Entails.of_eq (recv_ag0 P c 1)) $$ Hb
  simp only [wp_ret]
  imodintro
  iapply Hk
  isplitl [He]; · iexact He
  iexact Hb

/-- Hop 2 of stream 1 started, hop 1 of stream 2 received. -/
theorem part42 (v20 v24 : BitVec 32) {Q : _ → sProp 𝕄} :
    iprop(Eng P c 21 18 ∗ fin2 P c (agR c 1 1) fullShare)
      ⊢ iprop(((Eng P c 22 19 ∗ fin2 P c (agR c 2 1) fullShare) -∗ Q ⟨⟩)
          -∗ WP c (app (k0_part42 (F := F)) c v20 v24) Q) := by
  simp only [app, k0_part42_eq_skeleton]; unfold k0_part42_skel
  simp only [Prog.lift, Prog.bind_op, Prog.bind_ret, Prog.pure_eq_ret]
  iintro ⟨He, Ha⟩ Hk
  iapply (step_send P c 21 18 (.ag 1 1) rfl _ (dev25_eq c) _ _ ?_ ?_ _ _ ?_ ?_) $$ [He Ha]
  · exact piece_of (agR c 1 1) _ (off19_at c 1 0) _
  · exact piece_of (agR c 1 1) _ (off19_at c 1 0) _
  rfl; rfl
  · isplitl [He]; · iexact He
    iexact Ha
  iintro He
  iapply (step_recv P c 22 18 (.ag 2 0) rfl (by decide) _ ?_ ?_) $$ He
  rfl; rfl
  iintro ⟨He, Hb⟩
  ihave Hb := (Entails.of_eq (recv_ag0 P c 2)) $$ Hb
  simp only [wp_ret]
  imodintro
  iapply Hk
  isplitl [He]; · iexact He
  iexact Hb

/-- Hop 2 of stream 2 started, hop 1 of stream 3 received. -/
theorem part43 (v20 v29 : BitVec 32) {Q : _ → sProp 𝕄} :
    iprop(Eng P c 22 19 ∗ fin2 P c (agR c 2 1) fullShare)
      ⊢ iprop(((Eng P c 23 20 ∗ fin2 P c (agR c 3 1) fullShare) -∗ Q ⟨⟩)
          -∗ WP c (app (k0_part43 (F := F)) c v20 v29) Q) := by
  simp only [app, k0_part43_eq_skeleton]; unfold k0_part43_skel
  simp only [Prog.lift, Prog.bind_op, Prog.bind_ret, Prog.pure_eq_ret]
  iintro ⟨He, Ha⟩ Hk
  iapply (step_send P c 22 19 (.ag 2 1) rfl _ (dev26_eq c) _ _ ?_ ?_ _ _ ?_ ?_) $$ [He Ha]
  · exact piece_of (agR c 2 1) _ (off18_at c 1 1) _
  · exact piece_of (agR c 2 1) _ (off18_at c 1 1) _
  rfl; rfl
  · isplitl [He]; · iexact He
    iexact Ha
  iintro He
  iapply (step_recv P c 23 19 (.ag 3 0) rfl (by decide) _ ?_ ?_) $$ He
  rfl; rfl
  iintro ⟨He, Hb⟩
  ihave Hb := (Entails.of_eq (recv_ag0 P c 3)) $$ Hb
  simp only [wp_ret]
  imodintro
  iapply Hk
  isplitl [He]; · iexact He
  iexact Hb

/-- Hop 2 of stream 3 started, hop 2 of stream 0 received. -/
theorem part44 (v20 v24 : BitVec 32) {Q : _ → sProp 𝕄} :
    iprop(Eng P c 23 20 ∗ fin2 P c (agR c 3 1) fullShare)
      ⊢ iprop(((Eng P c 24 21 ∗ fin2 P c (agR c 0 2) fullShare) -∗ Q ⟨⟩)
          -∗ WP c (app (k0_part44 (F := F)) c v20 v24) Q) := by
  simp only [app, k0_part44_eq_skeleton]; unfold k0_part44_skel
  simp only [Prog.lift, Prog.bind_op, Prog.bind_ret, Prog.pure_eq_ret]
  iintro ⟨He, Ha⟩ Hk
  iapply (step_send P c 23 20 (.ag 3 1) rfl _ (dev27_eq c) _ _ ?_ ?_ _ _ ?_ ?_) $$ [He Ha]
  · exact piece_of (agR c 3 1) _ (off19_at c 1 1) _
  · exact piece_of (agR c 3 1) _ (off19_at c 1 1) _
  rfl; rfl
  · isplitl [He]; · iexact He
    iexact Ha
  iintro He
  iapply (step_recv P c 24 20 (.ag 0 1) rfl (by decide) _ ?_ ?_) $$ He
  rfl; rfl
  iintro ⟨He, Hb⟩
  ihave Hb := (Entails.of_eq (recv_ag1 P c 0)) $$ Hb
  simp only [wp_ret]
  imodintro
  iapply Hk
  isplitl [He]; · iexact He
  iexact Hb

/-- Hop 3 of stream 0 started, hop 2 of stream 1 received. -/
theorem part45 (v20 v29 : BitVec 32) {Q : _ → sProp 𝕄} :
    iprop(Eng P c 24 21 ∗ fin2 P c (agR c 0 2) fullShare)
      ⊢ iprop(((Eng P c 25 22 ∗ fin2 P c (agR c 1 2) fullShare) -∗ Q ⟨⟩)
          -∗ WP c (app (k0_part45 (F := F)) c v20 v29) Q) := by
  simp only [app, k0_part45_eq_skeleton]; unfold k0_part45_skel
  simp only [Prog.lift, Prog.bind_op, Prog.bind_ret, Prog.pure_eq_ret]
  iintro ⟨He, Ha⟩ Hk
  iapply (step_send P c 24 21 (.ag 0 2) rfl _ (dev28_eq c) _ _ ?_ ?_ _ _ ?_ ?_) $$ [He Ha]
  · exact piece_of (agR c 0 2) _ (off18_at c 2 0) _
  · exact piece_of (agR c 0 2) _ (off18_at c 2 0) _
  rfl; rfl
  · isplitl [He]; · iexact He
    iexact Ha
  iintro He
  iapply (step_recv P c 25 21 (.ag 1 1) rfl (by decide) _ ?_ ?_) $$ He
  rfl; rfl
  iintro ⟨He, Hb⟩
  ihave Hb := (Entails.of_eq (recv_ag1 P c 1)) $$ Hb
  simp only [wp_ret]
  imodintro
  iapply Hk
  isplitl [He]; · iexact He
  iexact Hb

/-- Hop 3 of stream 1 started, hop 2 of stream 2 received. -/
theorem part46 (v20 v24 : BitVec 32) {Q : _ → sProp 𝕄} :
    iprop(Eng P c 25 22 ∗ fin2 P c (agR c 1 2) fullShare)
      ⊢ iprop(((Eng P c 26 23 ∗ fin2 P c (agR c 2 2) fullShare) -∗ Q ⟨⟩)
          -∗ WP c (app (k0_part46 (F := F)) c v20 v24) Q) := by
  simp only [app, k0_part46_eq_skeleton]; unfold k0_part46_skel
  simp only [Prog.lift, Prog.bind_op, Prog.bind_ret, Prog.pure_eq_ret]
  iintro ⟨He, Ha⟩ Hk
  iapply (step_send P c 25 22 (.ag 1 2) rfl _ (dev29_eq c) _ _ ?_ ?_ _ _ ?_ ?_) $$ [He Ha]
  · exact piece_of (agR c 1 2) _ (off19_at c 2 0) _
  · exact piece_of (agR c 1 2) _ (off19_at c 2 0) _
  rfl; rfl
  · isplitl [He]; · iexact He
    iexact Ha
  iintro He
  iapply (step_recv P c 26 22 (.ag 2 1) rfl (by decide) _ ?_ ?_) $$ He
  rfl; rfl
  iintro ⟨He, Hb⟩
  ihave Hb := (Entails.of_eq (recv_ag1 P c 2)) $$ Hb
  simp only [wp_ret]
  imodintro
  iapply Hk
  isplitl [He]; · iexact He
  iexact Hb

/-- Hop 3 of stream 2 started, hop 2 of stream 3 received. -/
theorem part47 (v20 v29 : BitVec 32) {Q : _ → sProp 𝕄} :
    iprop(Eng P c 26 23 ∗ fin2 P c (agR c 2 2) fullShare)
      ⊢ iprop(((Eng P c 27 24 ∗ fin2 P c (agR c 3 2) fullShare) -∗ Q ⟨⟩)
          -∗ WP c (app (k0_part47 (F := F)) c v20 v29) Q) := by
  simp only [app, k0_part47_eq_skeleton]; unfold k0_part47_skel
  simp only [Prog.lift, Prog.bind_op, Prog.bind_ret, Prog.pure_eq_ret]
  iintro ⟨He, Ha⟩ Hk
  iapply (step_send P c 26 23 (.ag 2 2) rfl _ (dev30_eq c) _ _ ?_ ?_ _ _ ?_ ?_) $$ [He Ha]
  · exact piece_of (agR c 2 2) _ (off18_at c 2 1) _
  · exact piece_of (agR c 2 2) _ (off18_at c 2 1) _
  rfl; rfl
  · isplitl [He]; · iexact He
    iexact Ha
  iintro He
  iapply (step_recv P c 27 23 (.ag 3 1) rfl (by decide) _ ?_ ?_) $$ He
  rfl; rfl
  iintro ⟨He, Hb⟩
  ihave Hb := (Entails.of_eq (recv_ag1 P c 3)) $$ Hb
  simp only [wp_ret]
  imodintro
  iapply Hk
  isplitl [He]; · iexact He
  iexact Hb

/-- The last hop started; the last blocks of the first two streams received. -/
theorem part48 (v20 v24 v29 : BitVec 32) {Q : _ → sProp 𝕄} :
    iprop(Eng P c 27 24 ∗ fin2 P c (agR c 3 2) fullShare)
      ⊢ iprop((∀ v1647, (Eng P c 28 26 ∗ fin2 P c (lastR c 0) fullShare ∗ fin2 P c (lastR c 1) fullShare) -∗ Q v1647)
          -∗ WP c (app (k0_part48 (F := F)) c v20 v24 v29) Q) := by
  simp only [app, k0_part48_eq_skeleton]; unfold k0_part48_skel
  simp only [Prog.lift, Prog.bind_op, Prog.bind_ret, Prog.pure_eq_ret]
  iintro ⟨He, Ha⟩ Hk
  iapply (step_send P c 27 24 (.ag 3 2) rfl _ (dev31_eq c) _ _ ?_ ?_ _ _ ?_ ?_) $$ [He Ha]
  · exact piece_of (agR c 3 2) _ (off19_at c 2 1) _
  · exact piece_of (agR c 3 2) _ (off19_at c 2 1) _
  rfl; rfl
  · isplitl [He]; · iexact He
    iexact Ha
  iintro He
  iapply (step_recv P c 28 24 (.ag 0 2) rfl (by decide) _ ?_ ?_) $$ He
  rfl; rfl
  iintro ⟨He, Hb⟩
  ihave Hb := (Entails.of_eq (recv_ag2 P c 0)) $$ Hb
  iapply (step_recv P c 28 25 (.ag 1 2) rfl (by decide) _ ?_ ?_) $$ He
  rfl; rfl
  iintro ⟨He, Hc⟩
  ihave Hc := (Entails.of_eq (recv_ag2 P c 1)) $$ Hc
  simp only [wp_ret]
  imodintro
  iapply Hk
  isplitl [He]; · iexact He
  isplitl [Hb]; · iexact Hb
  iexact Hc

/-- The last blocks of the other two streams received. -/
theorem part49 (v20 v24 v29 v1647 : BitVec 32) {Q : _ → sProp 𝕄} :
    iprop(Eng P c 28 26)
      ⊢ iprop(((Eng P c 28 28 ∗ fin2 P c (lastR c 2) fullShare ∗ fin2 P c (lastR c 3) fullShare) -∗ Q ⟨⟩)
          -∗ WP c (app (k0_part49 (F := F)) c v20 v24 v29 v1647) Q) := by
  simp only [app, k0_part49_eq_skeleton]; unfold k0_part49_skel
  simp only [Prog.lift, Prog.bind_op, Prog.bind_ret, Prog.pure_eq_ret]
  iintro He Hk
  iapply (step_recv P c 28 26 (.ag 2 2) rfl (by decide) _ ?_ ?_) $$ He
  rfl; rfl
  iintro ⟨He, Hb⟩
  ihave Hb := (Entails.of_eq (recv_ag2 P c 2)) $$ Hb
  iapply (step_recv P c 28 27 (.ag 3 2) rfl (by decide) _ ?_ ?_) $$ He
  rfl; rfl
  iintro ⟨He, Hc⟩
  ihave Hc := (Entails.of_eq (recv_ag2 P c 3)) $$ Hc
  simp only [wp_ret]
  imodintro
  iapply Hk
  isplitl [He]; · iexact He
  isplitl [Hb]; · iexact Hb
  iexact Hc

end Cert.Run

end
-- ==== Proof.Body5.lean ====
/-
The last parts of the program: every device waits for its own transfers.
-/
module

public import proofs.«01_k».proof.Proof.Steps

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD)

/-- The waits for transfers 0 to 2 in the order of the waits. -/
theorem part50 (v20 : BitVec 32) {Q : _ → sProp 𝕄} :
    Fin_ P c 0 ⊢ iprop((Fin_ P c 3 -∗ Q ⟨⟩)
          -∗ WP c (app (k0_part50 (F := F)) c v20) Q) := by
  simp only [app, k0_part50_eq_skeleton]; unfold k0_part50_skel
  simp only [Prog.lift, Prog.bind_op, Prog.bind_ret, Prog.pure_eq_ret]
  iintro H Hk
  iapply (step_done P c 0 (.rs 0 0) rfl _ ?_ ?_) $$ H
  rfl; rfl
  iintro H
  iapply (step_done P c 1 (.ag 0 0) rfl _ ?_ ?_) $$ H
  rfl; rfl
  iintro H
  iapply (step_done P c 2 (.rs 0 1) rfl _ ?_ ?_) $$ H
  rfl; rfl
  iintro H
  simp only [wp_ret]
  imodintro
  iapply Hk
  iexact H

/-- The waits for transfers 3 to 4 in the order of the waits. -/
theorem part51 (v20 : BitVec 32) {Q : _ → sProp 𝕄} :
    Fin_ P c 3 ⊢ iprop((Fin_ P c 5 -∗ Q ⟨⟩)
          -∗ WP c (app (k0_part51 (F := F)) c v20) Q) := by
  simp only [app, k0_part51_eq_skeleton]; unfold k0_part51_skel
  simp only [Prog.lift, Prog.bind_op, Prog.bind_ret, Prog.pure_eq_ret]
  iintro H Hk
  iapply (step_done P c 3 (.ag 0 1) rfl _ ?_ ?_) $$ H
  rfl; rfl
  iintro H
  iapply (step_done P c 4 (.rs 0 2) rfl _ ?_ ?_) $$ H
  rfl; rfl
  iintro H
  simp only [wp_ret]
  imodintro
  iapply Hk
  iexact H

/-- The waits for transfers 5 to 7 in the order of the waits. -/
theorem part52 (v20 : BitVec 32) {Q : _ → sProp 𝕄} :
    Fin_ P c 5 ⊢ iprop((Fin_ P c 8 -∗ Q ⟨⟩)
          -∗ WP c (app (k0_part52 (F := F)) c v20) Q) := by
  simp only [app, k0_part52_eq_skeleton]; unfold k0_part52_skel
  simp only [Prog.lift, Prog.bind_op, Prog.bind_ret, Prog.pure_eq_ret]
  iintro H Hk
  iapply (step_done P c 5 (.ag 0 2) rfl _ ?_ ?_) $$ H
  rfl; rfl
  iintro H
  iapply (step_done P c 6 (.rs 1 0) rfl _ ?_ ?_) $$ H
  rfl; rfl
  iintro H
  iapply (step_done P c 7 (.ag 1 0) rfl _ ?_ ?_) $$ H
  rfl; rfl
  iintro H
  simp only [wp_ret]
  imodintro
  iapply Hk
  iexact H

/-- The waits for transfers 8 to 9 in the order of the waits. -/
theorem part53 (v20 : BitVec 32) {Q : _ → sProp 𝕄} :
    Fin_ P c 8 ⊢ iprop((Fin_ P c 10 -∗ Q ⟨⟩)
          -∗ WP c (app (k0_part53 (F := F)) c v20) Q) := by
  simp only [app, k0_part53_eq_skeleton]; unfold k0_part53_skel
  simp only [Prog.lift, Prog.bind_op, Prog.bind_ret, Prog.pure_eq_ret]
  iintro H Hk
  iapply (step_done P c 8 (.rs 1 1) rfl _ ?_ ?_) $$ H
  rfl; rfl
  iintro H
  iapply (step_done P c 9 (.ag 1 1) rfl _ ?_ ?_) $$ H
  rfl; rfl
  iintro H
  simp only [wp_ret]
  imodintro
  iapply Hk
  iexact H

/-- The waits for transfers 10 to 12 in the order of the waits. -/
theorem part54 (v20 : BitVec 32) {Q : _ → sProp 𝕄} :
    Fin_ P c 10 ⊢ iprop((∀ v1784, Fin_ P c 13 -∗ Q v1784)
          -∗ WP c (app (k0_part54 (F := F)) c v20) Q) := by
  simp only [app, k0_part54_eq_skeleton]; unfold k0_part54_skel
  simp only [Prog.lift, Prog.bind_op, Prog.bind_ret, Prog.pure_eq_ret]
  iintro H Hk
  iapply (step_done P c 10 (.rs 1 2) rfl _ ?_ ?_) $$ H
  rfl; rfl
  iintro H
  iapply (step_done P c 11 (.ag 1 2) rfl _ ?_ ?_) $$ H
  rfl; rfl
  iintro H
  iapply (step_done P c 12 (.rs 2 0) rfl _ ?_ ?_) $$ H
  rfl; rfl
  iintro H
  simp only [wp_ret]
  imodintro
  iapply Hk
  iexact H

/-- The waits for transfers 13 to 14 in the order of the waits. -/
theorem part55 (v20 v1784 : BitVec 32) {Q : _ → sProp 𝕄} :
    Fin_ P c 13 ⊢ iprop((Fin_ P c 15 -∗ Q ⟨⟩)
          -∗ WP c (app (k0_part55 (F := F)) c v20 v1784) Q) := by
  simp only [app, k0_part55_eq_skeleton]; unfold k0_part55_skel
  simp only [Prog.lift, Prog.bind_op, Prog.bind_ret, Prog.pure_eq_ret]
  iintro H Hk
  iapply (step_done P c 13 (.ag 2 0) rfl _ ?_ ?_) $$ H
  rfl; rfl
  iintro H
  iapply (step_done P c 14 (.rs 2 1) rfl _ ?_ ?_) $$ H
  rfl; rfl
  iintro H
  simp only [wp_ret]
  imodintro
  iapply Hk
  iexact H

/-- The waits for transfers 15 to 17 in the order of the waits. -/
theorem part56 (v20 : BitVec 32) {Q : _ → sProp 𝕄} :
    Fin_ P c 15 ⊢ iprop((Fin_ P c 18 -∗ Q ⟨⟩)
          -∗ WP c (app (k0_part56 (F := F)) c v20) Q) := by
  simp only [app, k0_part56_eq_skeleton]; unfold k0_part56_skel
  simp only [Prog.lift, Prog.bind_op, Prog.bind_ret, Prog.pure_eq_ret]
  iintro H Hk
  iapply (step_done P c 15 (.ag 2 1) rfl _ ?_ ?_) $$ H
  rfl; rfl
  iintro H
  iapply (step_done P c 16 (.rs 2 2) rfl _ ?_ ?_) $$ H
  rfl; rfl
  iintro H
  iapply (step_done P c 17 (.ag 2 2) rfl _ ?_ ?_) $$ H
  rfl; rfl
  iintro H
  simp only [wp_ret]
  imodintro
  iapply Hk
  iexact H

/-- The waits for transfers 18 to 20 in the order of the waits. -/
theorem part57 (v20 : BitVec 32) {Q : _ → sProp 𝕄} :
    Fin_ P c 18 ⊢ iprop((∀ v1850, Fin_ P c 21 -∗ Q v1850)
          -∗ WP c (app (k0_part57 (F := F)) c v20) Q) := by
  simp only [app, k0_part57_eq_skeleton]; unfold k0_part57_skel
  simp only [Prog.lift, Prog.bind_op, Prog.bind_ret, Prog.pure_eq_ret]
  iintro H Hk
  iapply (step_done P c 18 (.rs 3 0) rfl _ ?_ ?_) $$ H
  rfl; rfl
  iintro H
  iapply (step_done P c 19 (.ag 3 0) rfl _ ?_ ?_) $$ H
  rfl; rfl
  iintro H
  iapply (step_done P c 20 (.rs 3 1) rfl _ ?_ ?_) $$ H
  rfl; rfl
  iintro H
  simp only [wp_ret]
  imodintro
  iapply Hk
  iexact H

/-- The waits for transfers 21 to 22 in the order of the waits. -/
theorem part58 (v20 v1850 : BitVec 32) {Q : _ → sProp 𝕄} :
    Fin_ P c 21 ⊢ iprop((Fin_ P c 23 -∗ Q ⟨⟩)
          -∗ WP c (app (k0_part58 (F := F)) c v20 v1850) Q) := by
  simp only [app, k0_part58_eq_skeleton]; unfold k0_part58_skel
  simp only [Prog.lift, Prog.bind_op, Prog.bind_ret, Prog.pure_eq_ret]
  iintro H Hk
  iapply (step_done P c 21 (.ag 3 1) rfl _ ?_ ?_) $$ H
  rfl; rfl
  iintro H
  iapply (step_done P c 22 (.rs 3 2) rfl _ ?_ ?_) $$ H
  rfl; rfl
  iintro H
  simp only [wp_ret]
  imodintro
  iapply Hk
  iexact H

/-- The waits for transfers 23 to 25 in the order of the waits. -/
theorem part59 (v19 v536 : BitVec 32) {Q : _ → sProp 𝕄} :
    Fin_ P c 23 ⊢ iprop((Fin_ P c 26 -∗ Q ⟨⟩)
          -∗ WP c (app (k0_part59 (F := F)) c v19 v536) Q) := by
  simp only [app, k0_part59_eq_skeleton]; unfold k0_part59_skel
  simp only [Prog.lift, Prog.bind_op, Prog.bind_ret, Prog.pure_eq_ret]
  iintro H Hk
  iapply (step_done P c 23 (.ag 3 2) rfl _ ?_ ?_) $$ H
  rfl; rfl
  iintro H
  iapply (step_done P c 24 (.z1 0) rfl _ ?_ ?_) $$ H
  rfl; rfl
  iintro H
  iapply (step_done P c 25 (.z2 0) rfl _ ?_ ?_) $$ H
  rfl; rfl
  iintro H
  simp only [wp_ret]
  imodintro
  iapply Hk
  iexact H

end Cert.Run

end
-- ==== Proof.Chain.lean ====
/-
The whole program of a device: its parts, one after the other.
-/
module

public import proofs.«01_k».proof.Proof.Body1
public import proofs.«01_k».proof.Proof.Body2
public import proofs.«01_k».proof.Proof.Body3
public import proofs.«01_k».proof.Proof.Body4
public import proofs.«01_k».proof.Proof.Body5

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

/-- The kept and the sent slot of each half are the last slots of its two streams. -/
theorem streams_of : ∀ (c : Dev nD) (h : Fin 2), (awayI c h = ⟨2 * h.val, by omega⟩ ∧ keepI c h = ⟨2 * h.val + 1, by omega⟩)
    ∨ (awayI c h = ⟨2 * h.val + 1, by omega⟩ ∧ keepI c h = ⟨2 * h.val, by omega⟩) := by decide

/-- The last slots of the two streams of a half: the one to send away, and the one to keep. -/
theorem away_keep (P : Parts F) (h : Fin 2) :
    iprop(own2 c (slotM ⟨2 * h.val, by omega⟩ 3) fullShare (rsV P ⟨2 * h.val, by omega⟩ 3 c) ∗ own2 c (slotM ⟨2 * h.val + 1, by omega⟩ 3) fullShare (rsV P ⟨2 * h.val + 1, by omega⟩ 3 c))
      ⊢ iprop(own2 c (slotM (awayI c h) 3) fullShare (rsV P (awayI c h) 3 c) ∗ own2 c (slotM (keepI c h) 3) fullShare (rsV P (keepI c h) 3 c)) := by
  rcases streams_of c h with ⟨h₁, h₂⟩ | ⟨h₁, h₂⟩
  · rw [h₁, h₂]
  · rw [h₁, h₂]
    iintro ⟨H, K⟩
    isplitl [K]; · iexact K
    iexact H

/-- A block, with whatever it holds. -/
abbrev some2 (M : Mem2) : sProp 𝕄 := iprop(∃ v : Blk F, own2 c M fullShare v)

/-- What a device holds when its program starts. -/
def Entry (f : Vec F S2048x32 .f32) (Y₀ Y₁ : Chk F) : sProp 𝕄 :=
  iprop(Pre (parts I) c 0 ∗ barPay (F := F) (pb 0 c) 0 ∗ barPay (F := F) (pb 1 c) 1 ∗ barPay (F := F) (pb 2 c) 2 ∗ Inp I c f
    ∗ ownC c 0 Y₀ ∗ ownC c 1 Y₁ ∗ some2 (F := F) c (slotM 0 0) ∗ some2 (F := F) c (slotM 1 0) ∗ some2 (F := F) c (slotM 2 0) ∗ some2 (F := F) c (slotM 3 0)
    ∗ some2 (F := F) c (pieceM (ownR c 0)) ∗ some2 (F := F) c (pieceM (ownR c 1)))

/-- What it holds when its program ends. -/
def Exit : sProp 𝕄 :=
  iprop(Fin_ (parts I) c 28 ∗ Inp I c (scores I c)
    ∗ ownC c 0 (parts I c (accC c 0 2)) ∗ ownC c 1 (parts I c (accC c 1 2))
    ∗ own2 c (slotM (keepI c 0) 3) fullShare (rsV (parts I) (keepI c 0) 3 c) ∗ own2 c (slotM (keepI c 1) 3) fullShare (rsV (parts I) (keepI c 1) 3 c)
    ∗ own2 c (zbM 0) fullShare (rsV (parts I) (keepI c 0) 3 (nb 2 c)) ∗ own2 c (zbM 1) fullShare (rsV (parts I) (keepI c 1) 3 (nb 2 c))
    ∗ fin2 (parts I) c (mirR c 0) fullShare.left ∗ fin2 (parts I) c (mirR c 1) fullShare.left
    ∗ fin2 (parts I) c (lastR c 0) fullShare ∗ fin2 (parts I) c (lastR c 1) fullShare ∗ fin2 (parts I) c (lastR c 2) fullShare ∗ fin2 (parts I) c (lastR c 3) fullShare)

/-- The program up to its last two waits. -/
theorem part60 (f : Vec F S2048x32 .f32) (Y₀ Y₁ : Chk F) {Q : _ → sProp 𝕄} :
    Entry I c f Y₀ Y₁ ⊢ iprop((∀ v536, iprop(Fin_ (parts I) c 26 ∗ Inp I c (scores I c)
    ∗ ownC c 0 (parts I c (accC c 0 2)) ∗ ownC c 1 (parts I c (accC c 1 2))
    ∗ own2 c (slotM (keepI c 0) 3) fullShare (rsV (parts I) (keepI c 0) 3 c) ∗ own2 c (slotM (keepI c 1) 3) fullShare (rsV (parts I) (keepI c 1) 3 c)
    ∗ own2 c (zbM 0) fullShare (rsV (parts I) (keepI c 0) 3 (nb 2 c)) ∗ own2 c (zbM 1) fullShare (rsV (parts I) (keepI c 1) 3 (nb 2 c))
    ∗ fin2 (parts I) c (mirR c 0) fullShare.left ∗ fin2 (parts I) c (mirR c 1) fullShare.left
    ∗ fin2 (parts I) c (lastR c 0) fullShare ∗ fin2 (parts I) c (lastR c 1) fullShare ∗ fin2 (parts I) c (lastR c 2) fullShare ∗ fin2 (parts I) c (lastR c 3) fullShare) -∗ Q ⟨c, v536⟩) -∗ WP c (app (k0_part60 (F := F))) Q) := by
  unfold Entry
  iintro ⟨He, Hb0, Hb1, Hb2, Hin, Hc0, Hc1, Hs0, Hs1, Hs2, Hs3, Hp0, Hp1⟩ Hk
  simp only [app, k0_part60_eq_skeleton]; unfold k0_part60_skel
  simp only [wp_bind]
  iapply (part1 I c) $$ [He Hb0]
  · isplitl [He]; · iexact He
    iexact Hb0
  iintro %v19 %v20 %v24 %v29 %v31 He
  try dsimp only
  iapply (part2 I c _ _ _ f) $$ [He Hb1 Hb2 Hin]
  · isplitl [He]; · iexact He
    isplitl [Hb1]; · iexact Hb1
    isplitl [Hb2]; · iexact Hb2
    iexact Hin
  iintro %v54 %v55 ⟨He, Hin⟩
  try dsimp only
  iapply (part3 I c _ _ _ _ _ _) $$ Hin
  iintro Hin
  try dsimp only
  iapply (part4 I c _ _ _ _ _ _ _ _ ?_ _) $$ [Hc0 Hs0]
  · rfl
  · isplitl [Hc0]; · iexact Hc0
    iexact Hs0
  iintro ⟨Hc0, Hs0⟩
  try dsimp only
  iapply (part5 I c _) $$ [He Hs0 Hc0 Hs2]
  · isplitl [He]; · iexact He
    isplitl [Hs0]; · iexact Hs0
    isplitl [Hc0]; · iexact Hc0
    iexact Hs2
  iintro ⟨He, Hc0, Hs2⟩
  try dsimp only
  iapply (part6 I c _) $$ [He Hs2 Hin]
  · isplitl [He]; · iexact He
    isplitl [Hs2]; · iexact Hs2
    iexact Hin
  iintro ⟨He, Hin⟩
  try dsimp only
  iapply (part7 c _ _ _ _ _ _ _)
  try dsimp only
  iapply (part8 I c _ _ _ ?_) $$ [He Hc1 Hs1 Hs3]
  · rfl
  · isplitl [He]; · iexact He
    isplitl [Hc1]; · iexact Hc1
    isplitl [Hs1]; · iexact Hs1
    iexact Hs3
  iintro ⟨He, Hc1, Hs3⟩
  try dsimp only
  iapply (part9 I c _ _ _) $$ [He Hs3 Hin]
  · isplitl [He]; · iexact He
    isplitl [Hs3]; · iexact Hs3
    iexact Hin
  iintro %v322 ⟨He, Hin⟩
  try dsimp only
  iapply (part10 I c _ _ _ _ _ _) $$ Hin
  iintro Hin
  try dsimp only
  iapply (part11 I c _ _ _ _ _ _ _ _ _ _ ?_ _) $$ [Hc0 Hin]
  · rfl
  · isplitl [Hc0]; · iexact Hc0
    iexact Hin
  iintro %v430 ⟨Hc0, Hin⟩
  try dsimp only
  iapply (part12 I c _ _ _ _ _ _ _) $$ Hin
  iintro Hin
  try dsimp only
  iapply (part13 I c _ _ _ _ _ _ _ _ _ _ _ ?_ _) $$ Hc1
  · rfl
  iintro %v536 %v539 Hc1
  try dsimp only
  iapply (part14 (parts I) c _) $$ [He Hc0]
  · isplitl [He]; · iexact He
    iexact Hc0
  iintro ⟨He, Hc0⟩
  try dsimp only
  iapply (part15 (parts I) c _) $$ [He Hc1]
  · isplitl [He]; · iexact He
    iexact Hc1
  iintro ⟨He, Hc1, Hs1⟩
  try dsimp only
  iapply (part16 (parts I) c _) $$ [He Hs1 Hc0]
  · isplitl [He]; · iexact He
    isplitl [Hs1]; · iexact Hs1
    iexact Hc0
  iintro ⟨He, Hc0, Hs2⟩
  try dsimp only
  iapply (part17 (parts I) c _) $$ [He Hs2 Hc1]
  · isplitl [He]; · iexact He
    isplitl [Hs2]; · iexact Hs2
    iexact Hc1
  iintro ⟨He, Hc1, Hs3⟩
  try dsimp only
  iapply (part18 I c _ _) $$ [He Hs3 Hin]
  · isplitl [He]; · iexact He
    isplitl [Hs3]; · iexact Hs3
    iexact Hin
  iintro %v645 ⟨He, Hin⟩
  try dsimp only
  iapply (part19 I c _ _ _ _ _) $$ Hin
  iintro Hin
  try dsimp only
  iapply (part20 I c _ _ _ _ _ _ _ _ _ _ ?_ _) $$ [Hc0 Hin]
  · rfl
  · isplitl [Hc0]; · iexact Hc0
    iexact Hin
  iintro %v753 ⟨Hc0, Hin⟩
  try dsimp only
  iapply (part21 I c _ _ _ _ _ _) $$ Hin
  iintro Hin
  try dsimp only
  iapply (part22 I c _ _ _ _ _ _ _ _ _ _ ?_ _) $$ Hc1
  · rfl
  iintro Hc1
  try dsimp only
  iapply (part23 (parts I) c _ _) $$ [He Hc0]
  · isplitl [He]; · iexact He
    iexact Hc0
  iintro %v881 ⟨He, Hc0⟩
  try dsimp only
  iapply (part24 (parts I) c _ _) $$ [He Hc1]
  · isplitl [He]; · iexact He
    iexact Hc1
  iintro ⟨He, Hc1⟩
  try dsimp only
  iapply (part25 (parts I) c _) $$ [He Hc0]
  · isplitl [He]; · iexact He
    iexact Hc0
  iintro ⟨He, Hc0, Hs2⟩
  try dsimp only
  iapply (part26 (parts I) c _) $$ [He Hs2 Hc1]
  · isplitl [He]; · iexact He
    isplitl [Hs2]; · iexact Hs2
    iexact Hc1
  iintro ⟨He, Hc1, Hs3⟩
  try dsimp only
  iapply (part27 I c _) $$ [He Hs3 Hin]
  · isplitl [He]; · iexact He
    isplitl [Hs3]; · iexact Hs3
    iexact Hin
  iintro ⟨He, Hin⟩
  try dsimp only
  iapply (part28 c _ _ _ _ _ _)
  try dsimp only
  iapply (part29 I c _ _ _ _ _ _ _ _ _ _ _ ?_ _) $$ [Hc0 Hin]
  · rfl
  · isplitl [Hc0]; · iexact Hc0
    iexact Hin
  iintro %v1069 ⟨Hc0, Hin⟩
  try dsimp only
  iapply (part30 I c _ _ _ _ _ _) $$ Hin
  iintro Hin
  try dsimp only
  iapply (part31 I c _ _ _ _ _ _ _ _ _ _ _ ?_ _) $$ [He Hc1]
  · rfl
  · isplitl [He]; · iexact He
    iexact Hc1
  iintro ⟨He, Hc1, Hs0⟩
  try dsimp only
  iapply (part32 (parts I) c _ _) $$ [He Hc0 Hc1 Hs0]
  · isplitl [He]; · iexact He
    isplitl [Hc0]; · iexact Hc0
    isplitl [Hc1]; · iexact Hc1
    iexact Hs0
  iintro ⟨He, Hc0, Hc1, Hs0, Hs1⟩
  try dsimp only
  ihave ⟨Ha, Hr0⟩ := (away_keep c (parts I) 0) $$ [Hs0 Hs1]
  · isplitl [Hs0]; · iexact Hs0
    iexact Hs1
  iapply (part33 (parts I) c _ _) $$ [He Ha Hc0]
  · isplitl [He]; · iexact He
    isplitl [Ha]; · iexact Ha
    iexact Hc0
  iintro ⟨He, Hc0, Hs2⟩
  try dsimp only
  iapply (part34 (parts I) c _ _ _ _) $$ [He Hc1 Hs2]
  · isplitl [He]; · iexact He
    isplitl [Hc1]; · iexact Hc1
    iexact Hs2
  iintro ⟨He, Hc1, Hs2, Hs3⟩
  try dsimp only
  ihave Hs2 := (Entails.of_eq (congrArg (own2 c (slotM 2 3) fullShare) (sum23 (parts I) c))) $$ Hs2
  ihave ⟨Ha, Hr1⟩ := (away_keep c (parts I) 1) $$ [Hs2 Hs3]
  · isplitl [Hs2]; · iexact Hs2
    iexact Hs3
  iapply (part35 (parts I) c _ _ _) $$ [He Ha Hr0 Hp0]
  · isplitl [He]; · iexact He
    isplitl [Ha]; · iexact Ha
    isplitl [Hr0]; · iexact Hr0
    iexact Hp0
  iintro %v1279 ⟨He, Hr0, Hz0, Hp0⟩
  try dsimp only
  ihave ⟨Hp0, Ho0⟩ := (owns_halves (c : Thread nD τ) (pieceM (ownR c 0)) fullShare (pieceV (parts I) (ownR c 0))).1 $$ Hp0
  iapply (part36 (parts I) c _ _ _ _ _) $$ [He Hp0 Hr1 Hp1]
  · isplitl [He]; · iexact He
    isplitl [Hp0]; · iexact Hp0
    isplitl [Hr1]; · iexact Hr1
    iexact Hp1
  iintro %v ⟨He, Hr1, Hz1, Hp1⟩
  try dsimp only
  iapply (part37 (parts I) c _ _ _ _ _ _ ?_) $$ [He Hp1]
  · exact own_sum (parts I) c 1
  · isplitl [He]; · iexact He
    iexact Hp1
  iintro ⟨He, Ho1, Hm0⟩
  try dsimp only
  ihave ⟨Hm0, Hx⟩ := (owns_halves (c : Thread nD τ) (pieceM (mirR c 0)) fullShare (pieceV (parts I) (mirR c 0))).1 $$ Hm0
  ihave ⟨Hx, Hy⟩ := (ag_pair (parts I) c 0) $$ [Ho0 Hx]
  · isplitl [Ho0]; · iexact Ho0
    iexact Hx
  iapply (part38 (parts I) c _ _ _ _ _) $$ [He Hx Hy]
  · isplitl [He]; · iexact He
    isplitl [Hx]; · iexact Hx
    iexact Hy
  iintro %v1366 He
  try dsimp only
  iapply (part39 (parts I) c _ _ _ _ _) $$ [He Ho1]
  · isplitl [He]; · iexact He
    iexact Ho1
  iintro %v1394 ⟨He, Hy, Hm1⟩
  try dsimp only
  iapply (part40 (parts I) c _ _ _ _) $$ [He Hy]
  · isplitl [He]; · iexact He
    iexact Hy
  iintro ⟨He, G0⟩
  try dsimp only
  iapply (part41 (parts I) c _ _) $$ [He G0]
  · isplitl [He]; · iexact He
    iexact G0
  iintro ⟨He, G1⟩
  try dsimp only
  iapply (part42 (parts I) c _ _) $$ [He G1]
  · isplitl [He]; · iexact He
    iexact G1
  iintro ⟨He, G2⟩
  try dsimp only
  iapply (part43 (parts I) c _ _) $$ [He G2]
  · isplitl [He]; · iexact He
    iexact G2
  iintro ⟨He, G3⟩
  try dsimp only
  iapply (part44 (parts I) c _ _) $$ [He G3]
  · isplitl [He]; · iexact He
    iexact G3
  iintro ⟨He, G0⟩
  try dsimp only
  iapply (part45 (parts I) c _ _) $$ [He G0]
  · isplitl [He]; · iexact He
    iexact G0
  iintro ⟨He, G1⟩
  try dsimp only
  iapply (part46 (parts I) c _ _) $$ [He G1]
  · isplitl [He]; · iexact He
    iexact G1
  iintro ⟨He, G2⟩
  try dsimp only
  iapply (part47 (parts I) c _ _) $$ [He G2]
  · isplitl [He]; · iexact He
    iexact G2
  iintro ⟨He, G3⟩
  try dsimp only
  iapply (part48 (parts I) c _ _ _) $$ [He G3]
  · isplitl [He]; · iexact He
    iexact G3
  iintro %v1647 ⟨He, G0, G1⟩
  try dsimp only
  iapply (part49 (parts I) c _ _ _ _) $$ He
  iintro ⟨He, G2, G3⟩
  try dsimp only
  ihave He := (eng_done (parts I) c) $$ He
  iapply (part50 (parts I) c _) $$ He
  iintro He
  try dsimp only
  iapply (part51 (parts I) c _) $$ He
  iintro He
  try dsimp only
  iapply (part52 (parts I) c _) $$ He
  iintro He
  try dsimp only
  iapply (part53 (parts I) c _) $$ He
  iintro He
  try dsimp only
  iapply (part54 (parts I) c _) $$ He
  iintro %v1784 He
  try dsimp only
  iapply (part55 (parts I) c _ _) $$ He
  iintro He
  try dsimp only
  iapply (part56 (parts I) c _) $$ He
  iintro He
  try dsimp only
  iapply (part57 (parts I) c _) $$ He
  iintro %v1850 He
  try dsimp only
  iapply (part58 (parts I) c _ _) $$ He
  iintro He
  try dsimp only
  iapply (part59 (parts I) c _ _) $$ He
  iintro He
  try dsimp only
  simp only [Prog.pure_eq_ret, wp_ret]
  imodintro
  iapply Hk
  isplitl [He]; · iexact He
  isplitl [Hin]; · iexact Hin
  isplitl [Hc0]; · iexact Hc0
  isplitl [Hc1]; · iexact Hc1
  isplitl [Hr0]; · iexact Hr0
  isplitl [Hr1]; · iexact Hr1
  isplitl [Hz0]; · iexact Hz0
  isplitl [Hz1]; · iexact Hz1
  isplitl [Hm0]; · iexact Hm0
  isplitl [Hm1]; · iexact Hm1
  isplitl [G0]; · iexact G0
  isplitl [G1]; · iexact G1
  isplitl [G2]; · iexact G2
  iexact G3

/-- The whole program of a device. -/
theorem body_run (f : Vec F S2048x32 .f32) (Y₀ Y₁ : Chk F) {Q : PUnit → sProp 𝕄} :
    Entry I c f Y₀ Y₁ ⊢ iprop((Exit I c -∗ Q ⟨⟩) -∗ WP c (app (cc0_body (F := F))) Q) := by
  iintro H Hk
  simp only [app, cc0_body_eq_skeleton]; unfold cc0_body_skel
  simp only [Prog.lift, Prog.bind_op, Prog.bind_ret, Prog.pure_eq_ret]
  simp only [wp_bind]
  iapply (part60 I c f Y₀ Y₁) $$ H
  iintro %v536 ⟨He, Hin, Hc0, Hc1, Hr0, Hr1, Hz0, Hz1, Hm0, Hm1, G0, G1, G2, G3⟩
  dsimp only
  iapply (step_done (parts I) c 26 (.z1 1) rfl _ ?_ ?_) $$ He
  rfl; rfl
  iintro He
  iapply (step_done (parts I) c 27 (.z2 1) rfl _ ?_ ?_) $$ He
  rfl; rfl
  iintro He
  simp only [wp_ret]
  imodintro
  iapply Hk
  unfold Exit
  isplitl [He]; · iexact He
  isplitl [Hin]; · iexact Hin
  isplitl [Hc0]; · iexact Hc0
  isplitl [Hc1]; · iexact Hc1
  isplitl [Hr0]; · iexact Hr0
  isplitl [Hr1]; · iexact Hr1
  isplitl [Hz0]; · iexact Hz0
  isplitl [Hz1]; · iexact Hz1
  isplitl [Hm0]; · iexact Hm0
  isplitl [Hm1]; · iexact Hm1
  isplitl [G0]; · iexact G0
  isplitl [G1]; · iexact G1
  isplitl [G2]; · iexact G2
  iexact G3

end Cert.Run

end
-- ==== Proof.Split.lean ====
/-
The buffers a device holds whole, as the blocks its program works on, and back.
-/
module

public import proofs.«01_k».proof.Proof.Chain

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (c : Dev nD)

/-! ## A buffer and a family of blocks that covers it -/

section Family

variable {sh : Shape} {e : EltTy} (m : Memref sig .tc .vmem sh e) {T : Type} [Fintype T] [DecidableEq T] (r : T → Rect sh)
  (hr : ∀ t a, (r t).stride a = 1) (hd : ∀ t t', t ≠ t' → Disjoint (r t).set (r t').set)
  (hcov : (Finset.univ : Finset T).biUnion (fun t => (r t).set) = Finset.univ)

include hd hcov

/-- A buffer with any contents is its blocks with any contents. -/
theorem split_any : iprop(∃ X, owns (c : Thread nD τ) m fullShare X)
    ⊢ (bigSep Finset.univ fun t => iprop(∃ v, owns (c : Thread nD τ) (m.slice (r t) (hr t)) fullShare v) : sProp 𝕄) := by
  iintro ⟨%X, H⟩
  iapply ((owns_rects (c : Thread nD τ) m fullShare r hr hd hcov X).trans (bigSep_mono fun t _ =>
    (show owns (c : Thread nD τ) (m.slice (r t) (hr t)) fullShare (fun j => X ((r t).emb j)) ⊢ iprop(∃ v, owns (c : Thread nD τ) (m.slice (r t) (hr t)) fullShare v) from by
      iintro H; iexists _; iexact H)))
  iexact H

/-- Blocks with known contents are the buffer with these contents put together. -/
theorem join_known (Xs : (t : T) → (r t).shape.Idx → Elt F e) :
    (bigSep Finset.univ fun t => owns (c : Thread nD τ) (m.slice (r t) (hr t)) fullShare (Xs t) : sProp 𝕄)
      ⊢ owns (c : Thread nD τ) m fullShare (Rect.glue r hcov Xs) := by
  have hg (t : T) : (fun j => Rect.glue r hcov Xs ((r t).emb j)) = Xs t := funext fun y => Rect.glue_emb r hcov hd Xs t y
  refine (Entails.of_eq ?_).trans (owns_of_rects (c : Thread nD τ) m fullShare r hr hd hcov (Rect.glue r hcov Xs))
  exact bigSep_congr fun t _ => by rw [hg]

/-- Blocks with any contents are the buffer with some contents. -/
theorem join_any : (bigSep Finset.univ fun t => iprop(∃ v, owns (c : Thread nD τ) (m.slice (r t) (hr t)) fullShare v) : sProp 𝕄)
    ⊢ iprop(∃ X, owns (c : Thread nD τ) m fullShare X) := by
  refine (BI.bigSep_exists_pi Finset.univ (fun t X => owns (c : Thread nD τ) (m.slice (r t) (hr t)) fullShare X)).trans ?_
  iintro ⟨%Xs, H⟩
  iexists (Rect.glue r hcov Xs)
  iapply (join_known c m r hr hd hcov Xs)
  iexact H

end Family

/-! ## The four buffers -/

abbrev slotRs (t : Fin 4 × Fin 4) : Rect S4x4x128x1024 := slotR t.1 t.2

/-- Two slots do not meet. -/
theorem slots_disjoint (t t' : Fin 4 × Fin 4) (h : t ≠ t') : Disjoint (slotRs t).set (slotRs t').set := by
  have : t.1.val ≠ t'.1.val ∨ t.2.val ≠ t'.2.val := by
    by_contra hn
    rw [not_or, not_not, not_not] at hn
    exact h (Prod.ext (Fin.ext hn.1) (Fin.ext hn.2))
  rcases this with h | h
  · exact Rect.unit_disjoint (0 : Fin 4) (by show t.1.val + 1 ≤ t'.1.val ∨ t'.1.val + 1 ≤ t.1.val; omega)
  · exact Rect.unit_disjoint (1 : Fin 4) (by show t.2.val + 1 ≤ t'.2.val ∨ t'.2.val + 1 ≤ t.2.val; omega)
/-- The slots make up their buffer. -/
theorem slots_cover : (Finset.univ : Finset (Fin 4 × Fin 4)).biUnion (fun t => (slotRs t).set) = Finset.univ := by
  refine Finset.eq_univ_iff_forall.mpr fun i => Finset.mem_biUnion.mpr ⟨(⟨(i 0).val, (i 0).isLt⟩, ⟨(i 1).val, (i 1).isLt⟩), Finset.mem_univ _, ?_⟩
  have h2 : (i 2).val < 128 := (i 2).isLt
  have h3 : (i 3).val < 1024 := (i 3).isLt
  rw [Rect.mem_set_unit]
  intro a
  fin_cases a
  · show (i 0).val ≤ (i 0).val ∧ (i 0).val < (i 0).val + 1; omega
  · show (i 1).val ≤ (i 1).val ∧ (i 1).val < (i 1).val + 1; omega
  · show 0 ≤ (i 2).val ∧ (i 2).val < 0 + 128; omega
  · show 0 ≤ (i 3).val ∧ (i 3).val < 0 + 1024; omega

/-- The halves of the mirror's buffer do not meet. -/
theorem zbs_disjoint (t t' : Fin 2) (h : t ≠ t') : Disjoint (zbR t).set (zbR t').set :=
  Rect.unit_disjoint (0 : Fin 3) (by have : t.val ≠ t'.val := fun e => h (Fin.ext e); show t.val + 1 ≤ t'.val ∨ t'.val + 1 ≤ t.val; omega)
/-- The halves make up the mirror's buffer. -/
theorem zbs_cover : (Finset.univ : Finset (Fin 2)).biUnion (fun t => (zbR t).set) = Finset.univ := by
  refine Finset.eq_univ_iff_forall.mpr fun i => Finset.mem_biUnion.mpr ⟨⟨(i 0).val, (i 0).isLt⟩, Finset.mem_univ _, ?_⟩
  have h2 : (i 1).val < 128 := (i 1).isLt
  have h3 : (i 2).val < 1024 := (i 2).isLt
  rw [Rect.mem_set_unit]
  intro a
  fin_cases a
  · show (i 0).val ≤ (i 0).val ∧ (i 0).val < (i 0).val + 1; omega
  · show 0 ≤ (i 1).val ∧ (i 1).val < 0 + 128; omega
  · show 0 ≤ (i 2).val ∧ (i 2).val < 0 + 1024; omega

/-- Two pieces do not meet. -/
theorem pieces_disjoint (t t' : Fin 16) (h : t ≠ t') : Disjoint (pieceR t).set (pieceR t').set :=
  Rect.unit_disjoint (0 : Fin 2) (by have : t.val ≠ t'.val := fun e => h (Fin.ext e); show 128 * t.val + 128 ≤ 128 * t'.val ∨ 128 * t'.val + 128 ≤ 128 * t.val; omega)
/-- The pieces make up the result. -/
theorem pieces_cover : (Finset.univ : Finset (Fin 16)).biUnion (fun t => (pieceR t).set) = Finset.univ := by
  refine Finset.eq_univ_iff_forall.mpr fun i => ?_
  have h0 : (i 0).val < 2048 := (i 0).isLt
  have h1 : (i 1).val < 1024 := (i 1).isLt
  refine Finset.mem_biUnion.mpr ⟨⟨(i 0).val / 128, by omega⟩, Finset.mem_univ _, ?_⟩
  rw [Rect.mem_set_unit]
  intro a
  fin_cases a
  · show 128 * ((i 0).val / 128) ≤ (i 0).val ∧ (i 0).val < 128 * ((i 0).val / 128) + 128; omega
  · show 0 ≤ (i 1).val ∧ (i 1).val < 0 + 1024; omega

abbrev cbR (d : Fin 2) : Rect S512x1024 := Rect.unit (s := S512x1024) ![256 * d.val, 0] S256x1024.size (cb_inb d)
/-- The halves of the chunk buffer do not meet. -/
theorem cbs_disjoint (t t' : Fin 2) (h : t ≠ t') : Disjoint (cbR t).set (cbR t').set :=
  Rect.unit_disjoint (0 : Fin 2) (by have : t.val ≠ t'.val := fun e => h (Fin.ext e); show 256 * t.val + 256 ≤ 256 * t'.val ∨ 256 * t'.val + 256 ≤ 256 * t.val; omega)
/-- The halves make up the chunk buffer. -/
theorem cbs_cover : (Finset.univ : Finset (Fin 2)).biUnion (fun t => (cbR t).set) = Finset.univ := by
  refine Finset.eq_univ_iff_forall.mpr fun i => ?_
  have h0 : (i 0).val < 512 := (i 0).isLt
  have h1 : (i 1).val < 1024 := (i 1).isLt
  refine Finset.mem_biUnion.mpr ⟨⟨(i 0).val / 256, by omega⟩, Finset.mem_univ _, ?_⟩
  rw [Rect.mem_set_unit]
  intro a
  fin_cases a
  · show 256 * ((i 0).val / 256) ≤ (i 0).val ∧ (i 0).val < 256 * ((i 0).val / 256) + 256; omega
  · show 0 ≤ (i 1).val ∧ (i 1).val < 0 + 1024; omega

/-- A whole buffer with any contents. -/
abbrev anyPt (b : Ref sig .tc) : sProp 𝕄 := iprop(∃ f : b.ty.Contents (Elt F), pt c b f)

/-- Two resources that give one another are one. -/
theorem both {A B : sProp 𝕄} (h : A ⊢ B) (k : B ⊢ A) : A = B := BI.equiv_iff.mp ⟨h, k⟩

/-- The whole buffer of slots is its sixteen slots. -/
theorem slots_eq : (bigSep Finset.univ fun t : Fin 4 × Fin 4 => some2 (F := F) c (slotM t.1 t.2) : sProp 𝕄)
    = bigSep Finset.univ fun t : Fin 4 × Fin 4 => iprop(∃ v, owns (c : Thread nD τ) ((Memref.whole cc0_scratch2).slice (slotRs t) (fun _ => rfl)) fullShare v) := by
  refine bigSep_congr fun t _ => both ?_ ?_
  · iintro ⟨%v, H⟩
    iexists (up v)
    iapply (Entails.of_eq (slot_eq c t.1 t.2 fullShare v)) $$ H
  · iintro ⟨%v, H⟩
    iexists (down v)
    iapply (Entails.of_eq (slot_eq c t.1 t.2 fullShare (down v)).symm)
    rw [show up (down v) = v from by funext j; show v _ = v j; rw [Shape.reshapeEquiv_reshapeEquiv, Shape.reshapeEquiv_self]]
    iexact H
/-- The whole of the mirror's buffer is its two halves. -/
theorem zbs_eq : (bigSep Finset.univ fun t : Fin 2 => some2 (F := F) c (zbM t) : sProp 𝕄)
    = bigSep Finset.univ fun t : Fin 2 => iprop(∃ v, owns (c : Thread nD τ) ((Memref.whole cc0_scratch3).slice (zbR t) (fun _ => rfl)) fullShare v) := by
  refine bigSep_congr fun t _ => both ?_ ?_
  · iintro ⟨%v, H⟩
    iexists (upz v)
    iapply (Entails.of_eq (zb_eq c t fullShare v)) $$ H
  · iintro ⟨%v, H⟩
    iexists (downz v)
    iapply (Entails.of_eq (zb_eq c t fullShare (downz v)).symm)
    rw [show upz (downz v) = v from by funext j; show v _ = v j; rw [Shape.reshapeEquiv_reshapeEquiv, Shape.reshapeEquiv_self]]
    iexact H

/-- A whole buffer with any contents, as a memref. -/
theorem any_eq (b : Ref sig .tc) : (anyPt (F := F) c b : sProp 𝕄) = iprop(∃ X, owns (c : Thread nD τ) (Memref.whole b) fullShare X) :=
  congrArg _ (funext fun X => (owns_whole (c : Thread nD τ) b fullShare X).symm)

/-- The communication buffer comes apart into its slots. -/
theorem slots_split : (anyPt (F := F) c cc0_scratch2 : sProp 𝕄) ⊢ bigSep Finset.univ fun t : Fin 4 × Fin 4 => some2 (F := F) c (slotM t.1 t.2) := by
  rw [slots_eq, any_eq]
  exact split_any c (Memref.whole cc0_scratch2) slotRs (fun _ _ => rfl) slots_disjoint slots_cover
/-- The slots are put together again. -/
theorem slots_join : (bigSep Finset.univ fun t : Fin 4 × Fin 4 => some2 (F := F) c (slotM t.1 t.2) : sProp 𝕄) ⊢ anyPt (F := F) c cc0_scratch2 := by
  rw [slots_eq, any_eq]
  exact join_any c (Memref.whole cc0_scratch2) slotRs (fun _ _ => rfl) slots_disjoint slots_cover
/-- The mirror's buffer comes apart into its halves. -/
theorem zbs_split : (anyPt (F := F) c cc0_scratch3 : sProp 𝕄) ⊢ bigSep Finset.univ fun t : Fin 2 => some2 (F := F) c (zbM t) := by
  rw [zbs_eq, any_eq]
  exact split_any c (Memref.whole cc0_scratch3) (fun t => zbR t) (fun _ _ => rfl) zbs_disjoint zbs_cover
/-- The halves of the mirror's buffer are put together again. -/
theorem zbs_join : (bigSep Finset.univ fun t : Fin 2 => some2 (F := F) c (zbM t) : sProp 𝕄) ⊢ anyPt (F := F) c cc0_scratch3 := by
  rw [zbs_eq, any_eq]
  exact join_any c (Memref.whole cc0_scratch3) (fun t => zbR t) (fun _ _ => rfl) zbs_disjoint zbs_cover
/-- The chunk buffer comes apart into its halves. -/
theorem cbs_split : (anyPt (F := F) c cc0_scratch1 : sProp 𝕄) ⊢ bigSep Finset.univ fun t : Fin 2 => iprop(∃ Y, ownC c t Y) := by
  rw [any_eq]
  exact split_any c (Memref.whole cc0_scratch1) cbR (fun _ _ => rfl) cbs_disjoint cbs_cover
/-- The halves of the chunk buffer are put together again. -/
theorem cbs_join : (bigSep Finset.univ fun t : Fin 2 => iprop(∃ Y, ownC c t Y) : sProp 𝕄) ⊢ anyPt (F := F) c cc0_scratch1 := by
  rw [any_eq]
  exact join_any c (Memref.whole cc0_scratch1) cbR (fun _ _ => rfl) cbs_disjoint cbs_cover
/-- The result's buffer comes apart into its pieces. -/
theorem pieces_split : (anyPt (F := F) c cc0_stg4_0 : sProp 𝕄) ⊢ bigSep Finset.univ fun t : Fin 16 => some2 (F := F) c (pieceM t) := by
  rw [any_eq]
  exact split_any c (Memref.whole cc0_stg4_0) (fun t => pieceR t) (fun _ _ => rfl) pieces_disjoint pieces_cover

/-- The result: the sixteen pieces put together. -/
def outV (P : Parts F) : Vec F S2048x1024 .bf16 := Rect.glue (fun t : Fin 16 => pieceR t) pieces_cover (pieceV P)
/-- An element of the result is the element of its piece. -/
theorem outV_emb (P : Parts F) (t : Fin 16) (y : S128x1024.Idx) : outV P ((pieceR t).emb y) = pieceV P t y :=
  Rect.glue_emb (fun t : Fin 16 => pieceR t) pieces_cover pieces_disjoint (pieceV P) t y

/-- The finished pieces are put together to the result. -/
theorem pieces_join (P : Parts F) : (bigSep Finset.univ fun t : Fin 16 => fin2 P c t fullShare : sProp 𝕄) ⊢ pt c cc0_stg4_0 (outV P) :=
  (join_known c (Memref.whole cc0_stg4_0) (fun t => pieceR t) (fun _ _ => rfl) pieces_disjoint pieces_cover (pieceV P)).trans
    (Entails.of_eq (owns_whole (c : Thread nD τ) cc0_stg4_0 fullShare (outV P)))

/-! ## The order in which a device's blocks come -/

/-- The slots: the streams' first ones, and those its transfers land in. -/
def slotL : List (Fin 4 × Fin 4) := [(0, 0), (1, 0), (2, 0), (3, 0), (0, 1), (2, 1), (1, 1), (3, 1), (0, 2), (1, 2), (2, 2), (3, 2), (0, 3), (1, 3), (2, 3), (3, 3)]
/-- The slots as they come back. -/
def slotE : List (Fin 4 × Fin 4) := [(0, 0), (2, 0), (1, 0), (3, 0), (0, 1), (1, 1), (2, 1), (3, 1), (0, 2), (1, 2), (2, 2), (3, 2), (awayI c 0, 3), (awayI c 1, 3), (keepI c 0, 3), (keepI c 1, 3)]
/-- The list of the slots names each once. -/
theorem slotL_perm : slotL.Nodup ∧ ∀ t, t ∈ slotL := by decide
/-- The list of the slots at the program's end names each once. -/
theorem slotE_perm : ∀ c : Dev nD, (slotE c).Nodup ∧ ∀ t, t ∈ slotE c := by decide +kernel

/-- The pieces: its own, its mirror's, and those the streams bring. -/
def pieceL : List (Fin 16) := [ownR c 0, ownR c 1, mirR c 0, mirR c 1, agR c 0 1, agR c 1 1, agR c 2 1, agR c 3 1, agR c 0 2, agR c 1 2, agR c 2 2, agR c 3 2, lastR c 0, lastR c 1, lastR c 2, lastR c 3]
/-- The list of the pieces names each once. -/
theorem pieceL_perm : ∀ c : Dev nD, (pieceL c).Nodup ∧ ∀ t, t ∈ pieceL c := by decide +kernel

/-! ## Entry -/

/-- What the three neighbours of a device hand it at the barrier would, were it handed to the device, be the blocks
    its incoming transfers land in. -/
theorem landings : (bigSep Finset.univ fun x : X => some2 (F := F) c (dstM (org c x) x) : sProp 𝕄)
    ⊢ iprop(barPay (F := F) (pb 0 c) 0 ∗ barPay (F := F) (pb 1 c) 1 ∗ barPay (F := F) (pb 2 c) 2) := by
  have h := bigSep_biUnion_eq (Finset.univ : Finset (Fin 3)) (fun j => Finset.univ.filter fun x : X => dir x = j) (fun x => (some2 (F := F) c (dstM (org c x) x) : sProp 𝕄))
    (fun i _ j _ hij => Finset.disjoint_left.mpr fun x hx hy => hij ((Finset.mem_filter.mp hx).2.symm.trans (Finset.mem_filter.mp hy).2))
  have hu : (Finset.univ : Finset (Fin 3)).biUnion (fun j => Finset.univ.filter fun x : X => dir x = j) = Finset.univ :=
    Finset.eq_univ_iff_forall.mpr fun x => Finset.mem_biUnion.mpr ⟨dir x, Finset.mem_univ _, Finset.mem_filter.mpr ⟨Finset.mem_univ _, rfl⟩⟩
  have hj : ∀ j : Fin 3, (bigSep (Finset.univ.filter fun x : X => dir x = j) fun x => (some2 (F := F) c (dstM (org c x) x) : sProp 𝕄)) = barPay (F := F) (pb j c) j := by
    intro j
    unfold barPay
    refine bigSep_congr fun x hx => ?_
    have hx' : dir x = j := (Finset.mem_filter.mp hx).2
    subst hx'
    show _ = landing (F := F) (org c x) x
    unfold landing
    rw [tgt_org]
  rw [hu] at h
  rw [h, bigSep_congr fun j _ => hj j]
  exact Entails.of_eq (bigSep_univ_eq_bigSepL [0, 1, 2] (by decide) (by decide) _)

/-- A family of resources over a finite type, listed. -/
theorem listed {A : Type} [DecidableEq A] [Fintype A] (Φ : A → sProp 𝕄) (l : List A) (h : l.Nodup ∧ ∀ a, a ∈ l) :
    bigSep Finset.univ Φ ⊢ stars Φ l := Entails.of_eq (stars_perm Φ l h.1 h.2).symm
/-- A list of everything gives the family over the type. -/
theorem unlisted {A : Type} [DecidableEq A] [Fintype A] (Φ : A → sProp 𝕄) (l : List A) (h : l.Nodup ∧ ∀ a, a ∈ l) :
    stars Φ l ⊢ bigSep Finset.univ Φ := Entails.of_eq (stars_perm Φ l h.1 h.2)

/-- The buffers a device starts with are the blocks it hands over at the barrier and the ones it keeps. -/
theorem entry_blocks : iprop(anyPt (F := F) c cc0_scratch2 ∗ anyPt (F := F) c cc0_scratch3 ∗ anyPt (F := F) c cc0_stg4_0)
    ⊢ (iprop((barPay (F := F) (pb 0 c) 0 ∗ barPay (F := F) (pb 1 c) 1 ∗ barPay (F := F) (pb 2 c) 2)
      ∗ some2 (F := F) c (slotM 0 0) ∗ some2 (F := F) c (slotM 1 0) ∗ some2 (F := F) c (slotM 2 0) ∗ some2 (F := F) c (slotM 3 0)
      ∗ some2 (F := F) c (pieceM (ownR c 0)) ∗ some2 (F := F) c (pieceM (ownR c 1))) : sProp 𝕄) := by
  iintro ⟨H2, H3, H4⟩
  ihave Hs := ((slots_split c).trans (listed _ slotL slotL_perm)) $$ H2
  ihave Hz := ((zbs_split c).trans (listed _ [0, 1] (by decide))) $$ H3
  ihave Hp := ((pieces_split c).trans (listed _ (pieceL c) (pieceL_perm c))) $$ H4
  unfold slotL pieceL
  simp only [stars_cons]
  icases Hs with ⟨S0, S1, S2, S3, T01, T21, T11, T31, T02, T12, T22, T32, T03, T13, T23, T33, -⟩
  icases Hz with ⟨Z0, Z1, -⟩
  icases Hp with ⟨P0, P1, M0, M1, G00, G10, G20, G30, G01, G11, G21, G31, G02, G12, G22, G32, -⟩
  isplitr [S0 S1 S2 S3 P0 P1]
  · iapply ((unlisted (fun x : X => (some2 (F := F) c (dstM (org c x) x) : sProp 𝕄)) order ⟨order_nodup, mem_order⟩).trans (landings c))
    unfold order
    simp only [stars_cons]
    isplitl [T01]; · iexact T01
    isplitl [T21]; · iexact T21
    isplitl [T11]; · iexact T11
    isplitl [T31]; · iexact T31
    isplitl [T02]; · iexact T02
    isplitl [T12]; · iexact T12
    isplitl [T22]; · iexact T22
    isplitl [T32]; · iexact T32
    isplitl [T03]; · iexact T03
    isplitl [T13]; · iexact T13
    isplitl [T23]; · iexact T23
    isplitl [T33]; · iexact T33
    isplitl [Z0]; · iexact Z0
    isplitl [Z1]; · iexact Z1
    isplitl [M0]; · iapply (Entails.of_eq (congrArg (fun r => (some2 (F := F) c (pieceM r) : sProp 𝕄)) (mirR_eq c 0).symm)) $$ M0
    isplitl [M1]; · iapply (Entails.of_eq (congrArg (fun r => (some2 (F := F) c (pieceM r) : sProp 𝕄)) (mirR_eq c 1).symm)) $$ M1
    isplitl [G00]; · iapply (Entails.of_eq (congrArg (fun r => (some2 (F := F) c (pieceM r) : sProp 𝕄)) (agR_next0 c 0).symm)) $$ G00
    isplitl [G10]; · iapply (Entails.of_eq (congrArg (fun r => (some2 (F := F) c (pieceM r) : sProp 𝕄)) (agR_next0 c 1).symm)) $$ G10
    isplitl [G20]; · iapply (Entails.of_eq (congrArg (fun r => (some2 (F := F) c (pieceM r) : sProp 𝕄)) (agR_next0 c 2).symm)) $$ G20
    isplitl [G30]; · iapply (Entails.of_eq (congrArg (fun r => (some2 (F := F) c (pieceM r) : sProp 𝕄)) (agR_next0 c 3).symm)) $$ G30
    isplitl [G01]; · iapply (Entails.of_eq (congrArg (fun r => (some2 (F := F) c (pieceM r) : sProp 𝕄)) (agR_next1 c 0).symm)) $$ G01
    isplitl [G11]; · iapply (Entails.of_eq (congrArg (fun r => (some2 (F := F) c (pieceM r) : sProp 𝕄)) (agR_next1 c 1).symm)) $$ G11
    isplitl [G21]; · iapply (Entails.of_eq (congrArg (fun r => (some2 (F := F) c (pieceM r) : sProp 𝕄)) (agR_next1 c 2).symm)) $$ G21
    isplitl [G31]; · iapply (Entails.of_eq (congrArg (fun r => (some2 (F := F) c (pieceM r) : sProp 𝕄)) (agR_next1 c 3).symm)) $$ G31
    isplitl [G02]; · iexact G02
    isplitl [G12]; · iexact G12
    isplitl [G22]; · iexact G22
    isplitl [G32]; · iexact G32
    iempintro
  isplitl [S0]; · iexact S0
  isplitl [S1]; · iexact S1
  isplitl [S2]; · iexact S2
  isplitl [S3]; · iexact S3
  isplitl [P0]; · iexact P0
  iexact P1

/-! ## Exit -/

/-- The two right shares the streams' first hops give back. -/
theorem ag_back (P : Parts F) (h : Fin 2) :
    iprop(fin2 P c (agR c ⟨2 * h.val, by omega⟩ 0) fullShare.right ∗ fin2 P c (agR c ⟨2 * h.val + 1, by omega⟩ 0) fullShare.right)
      ⊢ iprop(fin2 P c (ownR c h) fullShare.right ∗ fin2 P c (mirR c h) fullShare.right) := by
  rcases agR_zero c h with ⟨h₁, h₂⟩ | ⟨h₁, h₂⟩
  · rw [h₁, h₂]
  · rw [h₁, h₂]
    iintro ⟨H, K⟩
    isplitl [K]; · iexact K
    iexact H

/-- Two halves of a piece are the piece. -/
theorem whole2 (P : Parts F) (r : Fin 16) : iprop(fin2 P c r fullShare.left ∗ fin2 P c r fullShare.right) ⊢ fin2 P c r fullShare :=
  (owns_halves (c : Thread nD τ) (pieceM r) fullShare (pieceV P r)).2

/-- What the transfers give back, spelt out. -/
theorem send_rs0 (P : Parts F) (i : Fin 4) : sendPay P c (.rs i 0) = own2 c (slotM i 0) fullShare (rsV P i 0 c) := rfl
/-- What the second hop of a scatter stream hands back: its source slot. -/
theorem send_rs1 (P : Parts F) (i : Fin 4) : sendPay P c (.rs i 1) = own2 c (slotM i 1) fullShare (rsV P i 1 c) := rfl
/-- What the third hop of a scatter stream hands back: its source slot. -/
theorem send_rs2 (P : Parts F) (i : Fin 4) : sendPay P c (.rs i 2) = own2 c (slotM i 2) fullShare (rsV P i 2 c) := rfl
/-- What the exchange of the rings' sums hands back: its source slot. -/
theorem send_z1 (P : Parts F) (h : Fin 2) : sendPay P c (.z1 h) = own2 c (slotM (awayI c h) 3) fullShare (rsV P (awayI c h) 3 c) := rfl
/-- What the exchange of the finished pieces hands back: one half of the share of its source. -/
theorem send_z2 (P : Parts F) (h : Fin 2) : sendPay P c (.z2 h) = fin2 P c (ownR c h) fullShare.left := rfl
/-- What the first hop of a gather stream hands back: the other half of the share of its source. -/
theorem send_ag0 (P : Parts F) (i : Fin 4) : sendPay P c (.ag i 0) = fin2 P c (agR c i 0) fullShare.right := rfl
/-- What the second hop of a gather stream hands back: its source. -/
theorem send_ag1 (P : Parts F) (i : Fin 4) : sendPay P c (.ag i 1) = fin2 P c (agR c i 1) fullShare := rfl
/-- What the third hop of a gather stream hands back: its source. -/
theorem send_ag2 (P : Parts F) (i : Fin 4) : sendPay P c (.ag i 2) = fin2 P c (agR c i 2) fullShare := rfl

/-- What the transfers give back, and what is held besides, is the buffers again, the result complete. -/
theorem exit_blocks (P : Parts F) : iprop(stars (sendPay P c) order
    ∗ own2 c (slotM (keepI c 0) 3) fullShare (rsV P (keepI c 0) 3 c) ∗ own2 c (slotM (keepI c 1) 3) fullShare (rsV P (keepI c 1) 3 c)
    ∗ own2 c (zbM 0) fullShare (rsV P (keepI c 0) 3 (nb 2 c)) ∗ own2 c (zbM 1) fullShare (rsV P (keepI c 1) 3 (nb 2 c))
    ∗ fin2 P c (mirR c 0) fullShare.left ∗ fin2 P c (mirR c 1) fullShare.left
    ∗ fin2 P c (lastR c 0) fullShare ∗ fin2 P c (lastR c 1) fullShare ∗ fin2 P c (lastR c 2) fullShare ∗ fin2 P c (lastR c 3) fullShare)
    ⊢ iprop(anyPt (F := F) c cc0_scratch2 ∗ anyPt (F := F) c cc0_scratch3 ∗ pt c cc0_stg4_0 (outV P)) := by
  unfold order
  simp only [stars_cons, send_rs0, send_rs1, send_rs2, send_z1, send_z2, send_ag0, send_ag1, send_ag2]
  iintro ⟨⟨S00, S20, S10, S30, S01, S11, S21, S31, S02, S12, S22, S32, W0, W1, OL0, OL1, A00, A10, A20, A30, A01, A11, A21, A31, A02, A12, A22, A32, -⟩, K0, K1, Z0, Z1, ML0, ML1, L0, L1, L2, L3⟩
  ihave R0 := (ag_back c P 0) $$ [A00 A10]
  · isplitl [A00]; · iexact A00
    iexact A10
  ihave R1 := (ag_back c P 1) $$ [A20 A30]
  · isplitl [A20]; · iexact A20
    iexact A30
  icases R0 with ⟨OR0, MR0⟩
  icases R1 with ⟨OR1, MR1⟩
  isplitl [S00 S20 S10 S30 S01 S11 S21 S31 S02 S12 S22 S32 W0 W1 K0 K1]
  · iapply ((unlisted (fun t : Fin 4 × Fin 4 => (some2 (F := F) c (slotM t.1 t.2) : sProp 𝕄)) (slotE c) (slotE_perm c)).trans (slots_join c))
    unfold slotE
    simp only [stars_cons]
    isplitl [S00]; · iexists _; iexact S00
    isplitl [S20]; · iexists _; iexact S20
    isplitl [S10]; · iexists _; iexact S10
    isplitl [S30]; · iexists _; iexact S30
    isplitl [S01]; · iexists _; iexact S01
    isplitl [S11]; · iexists _; iexact S11
    isplitl [S21]; · iexists _; iexact S21
    isplitl [S31]; · iexists _; iexact S31
    isplitl [S02]; · iexists _; iexact S02
    isplitl [S12]; · iexists _; iexact S12
    isplitl [S22]; · iexists _; iexact S22
    isplitl [S32]; · iexists _; iexact S32
    isplitl [W0]; · iexists _; iexact W0
    isplitl [W1]; · iexists _; iexact W1
    isplitl [K0]; · iexists _; iexact K0
    isplitl [K1]; · iexists _; iexact K1
    iempintro
  isplitl [Z0 Z1]
  · iapply ((unlisted (fun t : Fin 2 => (some2 (F := F) c (zbM t) : sProp 𝕄)) [0, 1] (by decide)).trans (zbs_join c))
    simp only [stars_cons]
    isplitl [Z0]; · iexists _; iexact Z0
    isplitl [Z1]; · iexists _; iexact Z1
    iempintro
  iapply ((unlisted (fun t : Fin 16 => fin2 P c t fullShare) (pieceL c) (pieceL_perm c)).trans (pieces_join c P))
  unfold pieceL
  simp only [stars_cons]
  isplitl [OL0 OR0]
  · iapply (whole2 c P (ownR c 0))
    isplitl [OL0]; · iexact OL0
    iexact OR0
  isplitl [OL1 OR1]
  · iapply (whole2 c P (ownR c 1))
    isplitl [OL1]; · iexact OL1
    iexact OR1
  isplitl [ML0 MR0]
  · iapply (whole2 c P (mirR c 0))
    isplitl [ML0]; · iexact ML0
    iexact MR0
  isplitl [ML1 MR1]
  · iapply (whole2 c P (mirR c 1))
    isplitl [ML1]; · iexact ML1
    iexact MR1
  isplitl [A01]; · iexact A01
  isplitl [A11]; · iexact A11
  isplitl [A21]; · iexact A21
  isplitl [A31]; · iexact A31
  isplitl [A02]; · iexact A02
  isplitl [A12]; · iexact A12
  isplitl [A22]; · iexact A22
  isplitl [A32]; · iexact A32
  isplitl [L0]; · iexact L0
  isplitl [L1]; · iexact L1
  isplitl [L2]; · iexact L2
  isplitl [L3]; · iexact L3
  iempintro

end Cert.Run

end
-- ==== Proof.Deal.lean ====
/-
The launch: how the semaphores and the books of all devices are set up and dealt out.
-/
module

public import proofs.«01_k».proof.Proof.Split

@[expose] public section

noncomputable section

namespace Cert.Run

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD)

/-! ## The semaphores -/

/-- The transfers' semaphores are the call's own: scoped, distinct, and none of the pipeline's. -/
theorem ownSemFacts : Pipeline.OwnSemFacts cfg0.spec semOf where
  isScoped := by decide +kernel
  inj := semOf_injective
  disj := by decide +kernel

/-- The cells of all the devices are distinct. -/
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The cells, and the duties minted for each device's own cells. -/
def allCells : Finset (GSem nD τ sig) := Finset.univ.map ⟨kcell, kcell_injective⟩
abbrev tokOf (cj : Dev nD × (Fin 3 ⊕ (X × Bool))) : GSem nD τ sig × ℕ × Fin 3 := match cj.2 with
  | .inl j => (barCell cj.1, 0, j)
  | .inr xb => (cell cj.1 xb.1 xb.2, 0, 0)
/-- The duties minted for all the devices are distinct. -/
theorem tokOf_injective : Function.Injective tokOf := by
  rintro ⟨c, j | xb⟩ ⟨c', j' | xb'⟩ h
  · have h1 : c = c' := congrArg (fun x : GSem nD τ sig × ℕ × Fin 3 => x.1.1.1) h
    have h2 : j = j' := congrArg (fun x : GSem nD τ sig × ℕ × Fin 3 => x.2.2) h
    rw [h1, h2]
  · exact absurd (congrArg (fun x : GSem nD τ sig × ℕ × Fin 3 => x.1.2) h).symm (semOf_ne_bar xb')
  · exact absurd (congrArg (fun x : GSem nD τ sig × ℕ × Fin 3 => x.1.2) h) (semOf_ne_bar xb)
  · have h1 : c = c' := congrArg (fun x : GSem nD τ sig × ℕ × Fin 3 => x.1.1.1) h
    have h2 : xb = xb' := semOf_injective (congrArg (fun x : GSem nD τ sig × ℕ × Fin 3 => x.1.2) h)
    rw [h1, h2]
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- A family over a device's cells: the barrier's, and two for each transfer. -/
theorem bigSep_CI (Φ : CI → sProp 𝕄) : bigSep Finset.univ Φ
    = iprop(Φ none ∗ bigSep Finset.univ fun xb : X × Bool => Φ (some xb)) := by
  have hu : (Finset.univ : Finset CI) = insert none (Finset.univ.map Function.Embedding.some) := by
    ext a; cases a <;> simp
  rw [hu, bigSep_insert (by simp), bigSep_map]
  rfl
/-- Resources over the transfers' semaphores: those of the senders and those of the receivers. -/
theorem bigSep_XB (Φ : X × Bool → sProp 𝕄) : bigSep Finset.univ Φ
    = iprop(bigSep Finset.univ (fun x : X => Φ (x, false)) ∗ bigSep Finset.univ (fun x : X => Φ (x, true))) := by
  rw [bigSep_univ_prod, ← bigSep_sep']
  exact bigSep_congr fun x _ => bigSep_univ_eq_bigSepL [false, true] (by decide) (by decide) _

/-! ## What is minted, and what a device starts from -/

/-- The duties of device `c`'s own cells. -/
def toks : sProp 𝕄 :=
  iprop((bigSep Finset.univ fun j : Fin 3 => dutyTok ER (barCell c) 0 j)
    ∗ (bigSep Finset.univ fun x : X => dutyTok ER (cell c x false) 0 0) ∗ (bigSep Finset.univ fun x : X => dutyTok ER (cell c x true) 0 0))
/-- The duties device `c` pays. -/
def payToks : sProp 𝕄 :=
  iprop((bigSep Finset.univ fun j : Fin 3 => dutyTok ER (barCell (pb j c)) 0 j)
    ∗ (bigSep Finset.univ fun x : X => dutyTok ER (cell c x false) 0 0) ∗ (bigSep Finset.univ fun x : X => dutyTok ER (cell (tgt c x) x true) 0 0))

/-- What the launch deals device `c`, and what all devices together make of it. -/
def G : sProp 𝕄 :=
  iprop((bigSep Finset.univ fun k : CI => roundState ER (Rd P) (kcell (c, k)) 0)
    ∗ (bigSep Finset.univ fun k : CI => iprop(atPos ER (kcell (c, k)) 0 ∅ 0 ∗ reached ER (kcell (c, k)) 0)) ∗ toks (F := F) c)
def linear : sProp 𝕄 := iprop((bigSep Finset.univ fun k : CI => atPos ER (kcell (c, k)) 0 ∅ 0) ∗ payToks (F := F) c)
def G' : sProp 𝕄 := iprop((∃ K, records P K) ∗ linear (F := F) c)

/-- What is minted at the start is dealt out to the devices. -/
theorem fund_all : BI.own (ER (initOf allCells allToks)) ⊢ (|==> bigSep Finset.univ (G P) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    rw [bigSep_univ_sum]
    unfold toks
    exact congrArg _ (bigSep_XB _)
  iintro HX
  imod (Rounds.fund ER (Rd P) allCells allToks) $$ HX with ⟨Hst, Hr, Hat, Htok⟩
  imodintro
  ihave Hst' := (Entails.of_eq (hX fun g => roundState ER (Rd P) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The one semaphore that outlives the call is the barrier's, at zero. -/
theorem unscopedSems0_eq : (unscopedSems0 c : sProp 𝕄) = semVal (barCell c) 0 := by
  unfold unscopedSems0; rw [bigSep_eq_bigSepL_of_eq [SemLoc.reg barS] (by decide +kernel) (by decide)]; rfl
/-- The call's own semaphores are the transfers', at zero. -/
theorem ownSems0_eq : (Pipeline.ownSems0 semOf c : sProp 𝕄) = bigSep Finset.univ fun xb : X × Bool => semVal ((c : Thread nD τ), semOf xb) 0 := rfl

/-- All of a device's cells are at zero. -/
theorem sems0_eq : iprop(Pipeline.ownSems0 semOf c ∗ unscopedSems0 c) ⊢ (bigSep Finset.univ fun k : CI => semVal (kcell (c, k)) 0 : sProp 𝕄) := by
  rw [ownSems0_eq, unscopedSems0_eq, bigSep_CI]
  iintro ⟨HS, HB⟩
  isplitl [HB]; · iexact HB
  iexact HS

/-- A device's counters at zero and its rounds make the invariants of its cells. -/
theorem core_alloc : iprop(Pipeline.ownSems0 semOf c ∗ unscopedSems0 c ∗ G P c)
      ⊢ (|={Set.univ}=> iprop((bigSep Finset.univ fun k : CI => iprop(∃ κ : ℕ, cellInv ER (Rd P) κ (kcell (c, k))))
          ∗ (bigSep Finset.univ fun k : CI => iprop(atPos ER (kcell (c, k)) 0 ∅ 0 ∗ reached ER (kcell (c, k)) 0)) ∗ toks (F := F) c) : sProp 𝕄) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd P) (kcell (c, k)) 0)
      ⊢ (|={Set.univ}=> bigSep Finset.univ fun k : CI => iprop(∃ κ : ℕ, cellInv ER (Rd P) κ (kcell (c, k))) : sProp 𝕄) from by
        rw [← bigSep_sep']
        exact (bigSep_mono fun k _ => (Rounds.body_intro ER (Rd P) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over the devices and a second index, read at a neighbour that depends on the second index. -/
theorem around {A : Type} [Fintype A] (d : A → Fin 3) (Φ : Dev nD → A → sProp 𝕄) :
    (bigSep Finset.univ fun c : Dev nD => bigSep Finset.univ fun a : A => Φ c a)
      = bigSep Finset.univ fun c : Dev nD => bigSep Finset.univ fun a : A => Φ (nb (d a) c) a := by
  have hc := bigSep_univ_prod (fun x : Dev nD × A => Φ x.1 x.2)
  have hc' := bigSep_univ_prod (fun x : Dev nD × A => Φ (nb (d x.2) x.1) x.2)
  rw [← hc, ← hc', bigSep_univ_equiv (⟨fun x => (nb (d x.2) x.1, x.2), fun x => (pb (d x.2) x.1, x.2),
    fun x => Prod.ext (pb_nb _ _) rfl, fun x => Prod.ext (nb_pb _ _) rfl⟩ : Dev nD × A ≃ Dev nD × A) (fun x : Dev nD × A => Φ x.1 x.2)]
  rfl
/-- A family over devices, each member read at the device one step back in its direction. -/
theorem around' {A : Type} [Fintype A] (d : A → Fin 3) (Φ : Dev nD → A → sProp 𝕄) :
    (bigSep Finset.univ fun c : Dev nD => bigSep Finset.univ fun a : A => Φ c a)
      = bigSep Finset.univ fun c : Dev nD => bigSep Finset.univ fun a : A => Φ (pb (d a) c) a := by
  rw [around d fun c a => Φ (pb (d a) c) a]
  simp only [pb_nb]

/-- The duties go to the devices that pay them. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep', around' id (fun c j => (dutyTok ER (barCell c) 0 j : sProp 𝕄)),
    around dir (fun c x => (dutyTok ER (cell c x true) 0 0 : sProp 𝕄))]
  exact .rfl

/-- What the devices made of their parts, regrouped: the shared record of the invariants, and to each device its places and the duties it pays. -/
theorem regroup :
    (bigSep Finset.univ fun c : Dev nD => iprop((bigSep Finset.univ fun k : CI => iprop(∃ κ : ℕ, cellInv ER (Rd P) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' P) := by
  rw [bigSep_sep', bigSep_sep', ← bigSep_univ_prod (fun ck : Dev nD × CI => iprop(∃ κ : ℕ, cellInv ER (Rd P) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd P) κ (kcell ck) : sProp 𝕄))) $$ HI
  icases HK with ⟨%K, #HI⟩
  ihave Htk := (toks_around (F := F)) $$ Htok
  iapply (show iprop((∃ K, records P K) ∗ bigSep Finset.univ (fun c : Dev nD => linear (F := F) c)) ⊢ (bigSep Finset.univ (G' P) : sProp 𝕄) from
    (sep_mono_left (BI.bigSep_of_persistent Finset.univ _)).trans (by rw [← bigSep_sep']; exact .rfl))
  isplitr
  · iexists K
    unfold records; simp only [bigSep_sep']
    isplitl; · iexact HI
    iexact HR
  · unfold linear; simp only [bigSep_sep']
    isplitl [Hat]; · iexact Hat
    iexact Htk

/-- All the devices' semaphores at once. -/
theorem glob : (bigSep Finset.univ fun c => iprop(Pipeline.ownSems0 semOf c ∗ unscopedSems0 c ∗ G P c) : sProp 𝕄)
    ⊢ |={Set.univ}=> bigSep Finset.univ (G' P) :=
  ((bigSep_mono fun c _ => core_alloc P c).trans (bigSep_fupd _ _)).trans (BI.fupd_mono (regroup P))

/-! ## The credit -/

/-- Where what is owed to a device is paid. -/
def homeCell : Due → GSem nD τ sig
  | .inl _ => barCell c
  | .inr x => cell c x true

/-- The credit a device starts with is what the others owe it, due by due. -/
theorem creds_of : ∀ l : List Due, (Pipeline.launchCred (fun d => ow d l) c : sProp 𝕄) ⊢ stars (fun y => cred (tallyAt (homeCell c y) () (dueAmt y))) l
  | [] => Entails.of_eq (Pipeline.launchCred_zero c)
  | y :: l => by
    show (Pipeline.launchCred (fun d => ow d l + tallyAt (dueCell d y) () (dueAmt y)) c : sProp 𝕄) ⊢ _
    rw [Pipeline.launchCred_add, stars_cons]
    iintro ⟨H, K⟩
    isplitl [K]
    · rcases y with j | x
      · iapply (Pipeline.launchCred_tallyAt (SemLoc.reg barS) (pb j) (nb j) (pb_nb j) (nb_pb j) () 1 c); iexact K
      · iapply (Pipeline.launchCred_tallyAt (semOf (x, true)) (fun d => tgt d x) (fun d => org d x) (fun d => tgt_org d x) (fun d => org_tgt d x) () N c); iexact K
    · iapply (creds_of l); iexact H

/-- The resources of a mapped list. -/
theorem stars_map {A B : Type} (f : A → B) (Φ : B → sProp 𝕄) : ∀ l : List A, stars Φ (l.map f) = stars (fun a => Φ (f a)) l
  | [] => rfl
  | a :: l => by rw [List.map_cons, stars_cons, stars_cons, stars_map f Φ l]

/-- The credit a device starts with: three arrivals, and the landings. -/
theorem creds : (Pipeline.launchCred (fun d => ow d allDues) c : sProp 𝕄)
    ⊢ iprop(cred (tallyAt (barCell c) () 3) ∗ bigSep Finset.univ fun x : X => cred (tallyAt (cell c x true) () N)) := by
  refine (creds_of c allDues).trans ?_
  show stars _ ((Sum.inl 0 : Due) :: (Sum.inl 1 : Due) :: (Sum.inl 2 : Due) :: order.map (Sum.inr : X → Due)) ⊢ _
  rw [stars_cons, stars_cons, stars_cons, stars_map, stars_perm _ order order_nodup mem_order]
  iintro ⟨H0, H1, H2, H⟩
  isplitr [H]
  · iapply (show iprop(cred (tallyAt (barCell c) () 1) ∗ cred (tallyAt (barCell c) () 1) ∗ cred (tallyAt (barCell c) () 1)) ⊢ (cred (tallyAt (barCell c) () 3) : sProp 𝕄) from by
      have h : tallyAt (barCell c) () 3 = tallyAt (barCell c) () 1 + (tallyAt (barCell c) () 1 + tallyAt (barCell c) () 1) := by
        rw [tallyAt_add, tallyAt_add]
      rw [h]
      exact (sep_mono_right (cred_add _ _).2).trans (cred_add _ _).2)
    isplitl [H0]; · iexact H0
    isplitl [H1]; · iexact H1
    iexact H2
  · iexact H

/-! ## What a device's program starts from -/

/-- Everything of `Pre` but the record of what is owed. -/
def start : sProp 𝕄 :=
  iprop(ctx P ∗ stars (fun j => dutyTok ER (barCell (pb j c)) 0 j) (sigOrder.drop 0)
    ∗ atPos ER (barCell c) 0 ∅ 0 ∗ cred (tallyAt (barCell c) () 3)
    ∗ stars (tokR (F := F) c) order ∗ stars (recvR (F := F) c) rorder)

/-- The list of the landings names every transfer once. -/
theorem rorder_perm : rorder.Nodup ∧ ∀ x, x ∈ rorder := by
  refine ⟨by decide, fun x => ?_⟩
  rcases x with ⟨i, s⟩ | ⟨h⟩ | ⟨h⟩ | ⟨i, s⟩
  · revert i s; decide
  · revert h; decide
  · revert h; decide
  · revert i s; decide
/-- The list of the last waits names every transfer once. -/
theorem worder_perm : worder.Nodup ∧ ∀ x, x ∈ worder := by
  refine ⟨by decide, fun x => ?_⟩
  rcases x with ⟨i, s⟩ | ⟨h⟩ | ⟨h⟩ | ⟨i, s⟩
  · revert i s; decide
  · revert h; decide
  · revert h; decide
  · revert i s; decide

/-- What the launch leaves a device with is what its program starts from. -/
theorem start_of : iprop(levAts L lv ∗ Pipeline.launchCred (fun d => ow d allDues) c ∗ G' P c) ⊢ start P c := by
  iintro ⟨Hl, Hc, HG⟩
  ihave Hc' := (creds (F := F) c) $$ Hc
  icases Hc' with ⟨HcB, HcX⟩
  unfold G' linear payToks start ctx
  icases HG with ⟨HK, Hat, HtB, HtS, HtV⟩
  ihave Hat' := (Entails.of_eq ((bigSep_CI fun k : CI => (atPos ER (kcell (c, k)) 0 ∅ 0 : sProp 𝕄)).trans (congrArg _ (bigSep_XB _)))) $$ Hat
  icases Hat' with ⟨HaB, HaS, HaV⟩
  isplitl [HK Hl]
  · isplitl [HK]; · iexact HK
    iexact Hl
  isplitl [HtB]
  · iapply (listed (fun j : Fin 3 => (dutyTok ER (barCell (pb j c)) 0 j : sProp 𝕄)) [0, 1, 2] (by decide)); iexact HtB
  isplitl [HaB]; · iexact HaB
  isplitl [HcB]; · iexact HcB
  isplitl [HaS HtS HtV]
  · iapply (listed (tokR (F := F) c) order ⟨order_nodup, mem_order⟩)
    unfold tokR; simp only [bigSep_sep']
    isplitl [HaS]; · iexact HaS
    isplitl [HtS]; · iexact HtS
    iexact HtV
  · iapply (listed (recvR (F := F) c) rorder rorder_perm)
    unfold recvR; simp only [bigSep_sep']
    isplitl [HaV]; · iexact HaV
    iexact HcX

end Cert.Run

end
-- ==== Proof.Launch.lean ====
/-
The run of the whole mesh, for any float values: every device's program launched at once.
-/
module

public import proofs.«01_k».proof.Proof.Deal
public import proofs.«01_k».proof.Proof.Gen.KernelIdeal.Points
public import Idealize.ShloMosaic.Lib.Pipeline.CollectiveSegs

@[expose] public section

noncomputable section

namespace Cert.Run

open Cert.KernelIdeal Cert.KernelIdeal.Gen
open Idealize.ShloMosaic.Pipeline (Dat BodyObligation Grid)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The starting state: the given memory, every counter at zero. -/
def s₀ : MemSt nD τ sig (Elt F) := ⟨m, fun _ => 0, ρ⟩

abbrev t₀ : Fin cfg0.N := t0_0

/-- What the devices' inputs are. -/
def ins : Ins F where
  x c := (win0_0.blk t₀).view.read (Elt F) ((s₀ m ρ).mem ((c : Thread nD τ).loc main_arg0))
  r c := (win0_1.blk t₀).view.read (Elt F) ((s₀ m ρ).mem ((c : Thread nD τ).loc main_arg1))
  ix c := (win0_2.blk t₀).view.read (Elt F) ((s₀ m ρ).mem ((c : Thread nD τ).loc main_arg2))
  w c := (win0_3.blk t₀).view.read (Elt F) ((s₀ m ρ).mem ((c : Thread nD τ).loc main_arg3))

/-- The sums the devices compute, of which the result is made. -/
abbrev prt : Parts F := parts (ins m ρ)

/-- Before the program and after it. -/
def Φ₀ (c : Dev nD) : sProp 𝕄 :=
  iprop(start (prt m ρ) c ∗ anyPt (F := F) c cc0_scratch0 ∗ anyPt (F := F) c cc0_scratch1 ∗ anyPt (F := F) c cc0_scratch2 ∗ anyPt (F := F) c cc0_scratch3)
def Φ₁ (c : Dev nD) : sProp 𝕄 :=
  iprop(semVal (barCell c) 0 ∗ (bigSep Finset.univ fun xb : X × Bool => semVal ((c : Thread nD τ), semOf xb) 0)
    ∗ anyPt (F := F) c cc0_scratch0 ∗ anyPt (F := F) c cc0_scratch1 ∗ anyPt (F := F) c cc0_scratch2 ∗ anyPt (F := F) c cc0_scratch3)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (ins m ρ).x c
    | ⟨1, _⟩ => (ins m ρ).r c
    | ⟨2, _⟩ => (ins m ρ).ix c
    | ⟨3, _⟩ => (ins m ρ).w c
    | ⟨4, _⟩ => outV (prt m ρ)
  Φ t := match t with
    | ⟨0, _⟩ => Φ₀ m ρ c
    | ⟨_ + 1, _⟩ => Φ₁ (F := F) c
  q _ := fullShare
  owed t := match t with
    | ⟨0, _⟩ => ow c allDues
    | ⟨_ + 1, _⟩ => 0

/-- Every window holds the whole of its buffer. -/
theorem share_eq (c : Dev nD) (w : Fin cfg0.W) : (dats m ρ 0 c).share w = fullShare := by unfold Dat.share; split <;> rfl

/-- A staging buffer at known contents. -/
abbrev stg (c : Dev nD) (b : Ref sig .tc) (X : Buf (Elt F) ((c : Thread nD τ).loc b)) : sProp 𝕄 :=
  iprop(∃ f : Buf (Elt F) ((c : Thread nD τ).loc b), ⌜f = X⌝ ∗ (((c : Thread nD τ).loc b) ↦{fullShare} f))

section Body

set_option maxRecDepth 100000

def bodyIn (c : Dev nD) : sProp 𝕄 :=
  iprop(Φ₀ m ρ c ∗ (dats m ρ 0 c).owesAt () t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyOut (c : Dev nD) : sProp 𝕄 :=
  iprop(Φ₁ (F := F) c ∗ (dats m ρ 0 c).owesAt () t₀.succ
    ∗ stg c cc0_stg0_0 ((ins m ρ).x c) ∗ stg c cc0_stg1_0 ((ins m ρ).r c) ∗ stg c cc0_stg2_0 ((ins m ρ).ix c) ∗ stg c cc0_stg3_0 ((ins m ρ).w c)
    ∗ stg c cc0_stg4_0 (outV (prt m ρ)))

/-- What the program of device `c` gives back: the counters at zero, the buffers whole, the result in place. -/
theorem exit_out (c : Dev nD) : Exit (ins m ρ) c ⊢ bodyOut m ρ c := by
  unfold Exit Fin_ bodyOut Φ₁ Dat.owesAt Pipeline.owesWithin
  rw [show worder.drop 28 = [] from rfl, show worder.take 28 = worder from rfl,
    stars_perm _ worder.reverse (List.nodup_reverse.mpr worder_perm.1) (fun x => List.mem_reverse.mpr (worder_perm.2 x)),
    stars_perm _ rorder.reverse (List.nodup_reverse.mpr rorder_perm.1) (fun x => List.mem_reverse.mpr (rorder_perm.2 x)),
    bigSep_sep', show (dats m ρ 0 c).owed t₀.succ = 0 from rfl]
  unfold zeroR Inp pt
  iintro ⟨⟨-, HB, ⟨%W, HO⟩, -, ⟨HzS, Hpay⟩, HzV⟩, ⟨Hx, Hr, Hix, Hw, Hf⟩, HY0, HY1, K0, K1, Z0, Z1, M0, M1, L0, L1, L2, L3⟩
  ihave Hp := (listed (sendPay (prt m ρ) c) order ⟨order_nodup, mem_order⟩) $$ Hpay
  ihave Hblk := (exit_blocks c (prt m ρ)) $$ [Hp K0 K1 Z0 Z1 M0 M1 L0 L1 L2 L3]
  · isplitl [Hp]; · iexact Hp
    isplitl [K0]; · iexact K0
    isplitl [K1]; · iexact K1
    isplitl [Z0]; · iexact Z0
    isplitl [Z1]; · iexact Z1
    isplitl [M0]; · iexact M0
    isplitl [M1]; · iexact M1
    isplitl [L0]; · iexact L0
    isplitl [L1]; · iexact L1
    isplitl [L2]; · iexact L2
    iexact L3
  icases Hblk with ⟨H2, H3, H4⟩
  isplitl [HB HzS HzV Hf HY0 HY1 H2 H3]
  · isplitl [HB]; · iexact HB
    isplitl [HzS HzV]
    · rw [bigSep_XB]
      isplitl [HzS]; · iexact HzS
      iexact HzV
    isplitl [Hf]; · unfold anyPt pt; iexists _; iexact Hf
    isplitl [HY0 HY1]
    · iapply ((unlisted _ [0, 1] (by decide)).trans (cbs_join (F := F) c))
      simp only [stars_cons]
      isplitl [HY0]; · iexists _; iexact HY0
      isplitl [HY1]; · iexists _; iexact HY1
      iempintro
    isplitl [H2]; · iexact H2
    iexact H3
  isplitl [HO]
  · iexists W
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hix]
  · iexists _; isplitr; · (ipureintro; rfl)
    iexact Hix
  isplitl [Hw]
  · iexists _; isplitr; · (ipureintro; rfl)
    iexact Hw
  iexists _; isplitr; · (ipureintro; rfl)
  unfold pt; iexact H4

/-- What the program of device `c` is given. -/
theorem enter_in (c : Dev nD) : bodyIn m ρ c ⊢ iprop(∃ f Y₀ Y₁, Entry (ins m ρ) c f Y₀ Y₁) := by
  unfold bodyIn Φ₀ start Entry Pre Inp pt Dat.owesAt Pipeline.owesWithin
  rw [show (dats m ρ 0 c).owed t₀.castSucc = ow c (allDues.drop 0) from rfl]
  iintro ⟨⟨⟨Hctx, HtB, HaB, HcB, Htk, Hrv⟩, ⟨%f, Hf⟩, H1, H2, H3⟩, ⟨%W, %hW, HO⟩, ⟨%d0, %g0, %hg0, Hx⟩, ⟨%d1, %g1, %hg1, Hr⟩, ⟨%d2, %g2, %hg2, Hix⟩, ⟨%d3, %g3, %hg3, Hw⟩, ⟨%d4, %g4, %hg4, Ho⟩⟩
  have h0 : g0 = (ins m ρ).x c := by rw [hg0]; unfold Dat.before; rw [if_pos (fetch0_0 t₀)]; rfl
  have h1 : g1 = (ins m ρ).r c := by rw [hg1]; unfold Dat.before; rw [if_pos (fetch0_1 t₀)]; rfl
  have h2 : g2 = (ins m ρ).ix c := by rw [hg2]; unfold Dat.before; rw [if_pos (fetch0_2 t₀)]; rfl
  have h3 : g3 = (ins m ρ).w c := by rw [hg3]; unfold Dat.before; rw [if_pos (fetch0_3 t₀)]; rfl
  subst h0 h1 h2 h3
  ihave Hblk := (entry_blocks (F := F) c) $$ [H2 H3 Ho]
  · isplitl [H2]; · iexact H2
    isplitl [H3]; · iexact H3
    unfold anyPt pt; iexists g4; iexact Ho
  icases Hblk with ⟨⟨B0, B1, B2⟩, S0, S1, S2, S3, P0, P1⟩
  ihave HY := ((cbs_split (F := F) c).trans (listed _ [0, 1] (by decide))) $$ H1
  simp only [stars_cons]
  icases HY with ⟨⟨%Y₀, HY0⟩, ⟨%Y₁, HY1⟩, -⟩
  iexists f; iexists Y₀; iexists Y₁
  isplitl [Hctx HO HtB HaB HcB Htk Hrv]
  · isplitl [Hctx]; · iexact Hctx
    isplitl [HO]; · iexists W; iexact HO
    isplitl [HtB]; · iexact HtB
    isplitl [HaB]; · iexact HaB
    isplitl [HcB]; · iexact HcB
    isplitl [Htk]; · iexact Htk
    iexact Hrv
  isplitl [B0]; · iexact B0
  isplitl [B1]; · iexact B1
  isplitl [B2]; · iexact B2
  isplitl [Hx Hr Hix Hw Hf]
  · isplitl [Hx]; · iexact Hx
    isplitl [Hr]; · iexact Hr
    isplitl [Hix]; · iexact Hix
    isplitl [Hw]; · iexact Hw
    iexact Hf
  isplitl [HY0]; · iexact HY0
  isplitl [HY1]; · iexact HY1
  isplitl [S0]; · iexact S0
  isplitl [S1]; · iexact S1
  isplitl [S2]; · iexact S2
  isplitl [S3]; · iexact S3
  isplitl [P0]; · iexact P0
  iexact P1

/-- The library's obligation on the body of device `c`. -/
theorem body_obligation (c : Dev nD) : BodyObligation (dats (F := F) m ρ 0 c) (defs₀ (F := F)) 𝒱₀ () Set.univ := fun t => by
  rw [fin_N0 t, bigSep_W0, bigSep_W0]
  simp only [owns_whole_eq]
  show bodyIn m ρ c ⊢ wp frame (wpE (defs₀ (F := F)) 𝒱₀ c none) Set.univ (app (cc0_body (F := F))) (fun _ => bodyOut m ρ c)
  refine (enter_in m ρ c).trans ?_
  iintro ⟨%f, %Y₀, %Y₁, H⟩
  iapply (body_run (ins m ρ) c f Y₀ Y₁ (Q := fun _ => bodyOut m ρ c)) $$ H
  iintro H
  iapply (exit_out m ρ c); iexact H

end Body

/-! ## The launch's side conditions -/

/-- From the launch's resources to what a device's program starts from. -/
theorem start_intro (c : Dev nD) :
    iprop(Pipeline.unscopedRestP Pipeline.Prefetch.none cfg0.spec c (fun b => m ((c : Thread nD τ).loc b)) ∗ levAts L lv
        ∗ Pipeline.launchCred (fun d => ow d allDues) c ∗ prngReg c (ρ c) ∗ G' (prt m ρ) c)
      ⊢ |={Set.univ}=> iprop(start (prt m ρ) c ∗ emp) := by
  iintro ⟨-, Hl, Hc, -, HG⟩
  imodintro
  isplitl
  · iapply (start_of (prt m ρ) c)
    isplitl [Hl]; · iexact Hl
    isplitl [Hc]; · iexact Hc
    iexact HG
  · iempintro

/-- What a device starts from and its scratch buffers are what its body needs. -/
theorem phi0_intro (c : Dev nD) :
    iprop(start (prt m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ anyPt pt
  iintro ⟨Hs, -, Hr⟩
  isplitl [Hs]; · iexact Hs
  iexact Hr

/-- What the body leaves gives the semaphores and scratch buffers back. -/
theorem phi1_exit (c : Dev nD) :
    (dats m ρ 0 c).Φ (Fin.last cfg0.N) ⊢ iprop(unscopedSems0 c ∗ Pipeline.ownSems0 semOf c ∗ Pipeline.scopedRest cfg0.spec c) := by
  rw [show (dats m ρ 0 c).Φ (Fin.last cfg0.N) = Φ₁ (F := F) c from rfl, scopedRest0_eq, ownSems0_eq, unscopedSems0_eq]
  exact .rfl

/-- A semaphore that is no transfer's has no role. -/
theorem not_semOf {sm : SemLoc sig} (h : ∀ xb, semOf xb ≠ sm) : roleOf sm = none := dif_neg fun ⟨xb, hx⟩ => h xb hx

/-- The pipeline's own waits are allowed below what a device owes. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · refine mayWait_below c _ 0 (le_of_eq ?_) allDues (by decide)
      unfold lv
      rw [if_neg (by intro h; cases h), not_semOf fun xb => ownSemFacts.disj xb w s]
      rfl
    · show (levAts L lv : sProp 𝕄) ⊢ MayWait _ _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- From any memory with zero counters, for any float values: every fair execution of the program on the whole mesh ends,
    with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => ow d allDues) (howed₀ := fun _ => rfl) (howedN := fun _ => rfl)
    (L := L) (lv := lv) (hL := L_of_ne) (hwaits := waits m ρ)
    (G := G (prt m ρ)) (G' := G' (prt m ρ)) (u₀ := u₀)
    (hu₀ := by
      unfold u₀
      iintro Hu
      ihave H := (ownU_pair _ _) $$ Hu
      icases H with ⟨HP, HX⟩
      imod (fund_all (prt m ρ)) $$ HX with HG
      imodintro
      isplitl [HP] <;> iassumption)
    (hglob := glob (prt m ρ)) (hA := fun _ _ => rfl) (hpf := fun _ k => k.elim0)
    (X := start (prt m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the run says of the arrays -/

/-- The inputs end as they were. -/
theorem kept {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨(h c 0).trans ((dats m ρ 0 c).arrAt_in 0 rfl _), (h c 1).trans ((dats m ρ 0 c).arrAt_in 1 rfl _),
    (h c 2).trans ((dats m ρ 0 c).arrAt_in 2 rfl _), (h c 3).trans ((dats m ρ 0 c).arrAt_in 3 rfl _)⟩

end Cert.Run

end
-- ==== Proof.Values.lean ====
/-
What the kernel computes, element by element: a device's part of a chunk, and the sum of the eight devices' parts.
-/
module

public import proofs.«01_k».proof.Proof.Arith
public import proofs.«01_k».proof.Proof.Launch

@[expose] public section

set_option maxRecDepth 16384

noncomputable section

namespace Cert.Run

open Cert.KernelIdeal Cert.KernelIdeal.Gen

open Idealize.ShloMosaic
open Idealize.ShloMosaic.TcCoe

/-! ## One device's part of one chunk -/

/-- Two words below 32 are equal where the numbers are. -/
theorem word_eq (p q : Fin 32) : IntOp.cmpi CmpIPredicate.eq (BitVec.ofNat 32 p.val) (BitVec.ofNat 32 q.val) = if p = q then 1#1 else 0#1 := by
  revert p q; decide +kernel

/-- A choice is the word of a device's expert where it is that expert. -/
theorem word_hit (c : Dev nD) (l : Fin 4) (q : Fin 32) :
    IntOp.cmpi CmpIPredicate.eq (BitVec.ofNat 32 q.val) (Scalar.addi (Scalar.muli (wd c) 4#32) (BitVec.ofNat 32 l.val))
      = if q = finProdFinEquiv (m := 8) (n := 4) (c, l) then 1#1 else 0#1 := by
  revert c l q; decide +kernel

section
variable (s : Vec Ideal S256x32 .f32) (ix : Vec Ideal S256x2 .i32) (w : Vec Ideal S4x512x1024 .bf16) (x : Vec Ideal S256x512 .bf16)

/-- The masked sum picks the score of the named expert. -/
theorem pick_apply (e : IVec S256x1 32) (t : Fin 256) (a : Fin 32) (ha : e (ix2 t 0) = BitVec.ofNat 32 a.val) : pick s e (ix2 t 0) = s (ix2 t a) := by
  pointwise [pick]
  rw [ha]
  have h : ∀ q : Fin 32, Scalar.select (IntOp.cmpi CmpIPredicate.eq (BitVec.ofNat 32 q.val) (BitVec.ofNat 32 a.val)) (s (ix2 t q)) 0 = if q = a then s (ix2 t q) else 0 := by
    intro q
    rw [word_eq]
    split <;> rfl
  simp only [h]
  rw [Finset.sum_ite_eq']
  simp

/-- The indicator of the named expert being expert `l` of device `c`. -/
theorem hit_apply (c : Dev nD) (l : Fin 4) (e : IVec S256x1 32) (t : Fin 256) (a : Fin 32) (ha : e (ix2 t 0) = BitVec.ofNat 32 a.val) :
    hit (F := Ideal) (wd c) (BitVec.ofNat 32 l.val) e (ix2 t 0) = if a = finProdFinEquiv (m := 8) (n := 4) (c, l) then 1 else 0 := by
  pointwise [hit]
  rw [ha, word_hit]
  split
  · show (((BitVec.setWidth 32 1#1).toInt : ℝ) : EReal) = 1
    have : (BitVec.setWidth 32 1#1).toInt = 1 := by decide
    rw [this]; norm_num
  · show (((BitVec.setWidth 32 0#1).toInt : ℝ) : EReal) = 0
    have : (BitVec.setWidth 32 0#1).toInt = 0 := by decide
    rw [this]; norm_num

/-- The two weights, where the two scores are real numbers. -/
theorem w_apply (t : Fin 256) (a b : Fin 32) (ha : ix (ix2 t 0) = BitVec.ofNat 32 a.val) (hb : ix (ix2 t 1) = BitVec.ofNat 32 b.val)
    (p q : ℝ) (hp : s (ix2 t a) = (p : EReal)) (hq : s (ix2 t b) = (q : EReal)) :
    w0 s ix (ix2 t 0) = (share p q : EReal) ∧ w1 s ix (ix2 t 0) = (share q p : EReal) := by
  have h0 : pick s (e0 ix) (ix2 t 0) = (p : EReal) := (pick_apply s _ t a (by pointwise [e0]; exact ha)).trans hp
  have h1 : pick s (e1 ix) (ix2 t 0) = (q : EReal) := (pick_apply s _ t b (by pointwise [e1]; exact hb)).trans hq
  have hm : max (p : EReal) (q : EReal) = ((max p q : ℝ) : EReal) := (EReal.coe_strictMono.monotone.map_max (a := p) (b := q)).symm
  constructor
  · pointwise [w0, g0, g1, top]
    rw [h0, h1, hm, share_shift]
  · pointwise [w1, g0, g1, top]
    rw [h0, h1, hm, add_comm, share_shift]

/-- The tokens scaled for expert `l` of device `c`. -/
theorem scaled_apply (c : Dev nD) (l : Fin 4) (t : Fin 256) (a b : Fin 32) (ha : ix (ix2 t 0) = BitVec.ofNat 32 a.val) (hb : ix (ix2 t 1) = BitVec.ofNat 32 b.val)
    (p q : ℝ) (hp : s (ix2 t a) = (p : EReal)) (hq : s (ix2 t b) = (q : EReal)) (d : Fin 512) :
    scaled s ix (wd c) (BitVec.ofNat 32 l.val) x (ix2 t d) = x (ix2 t d) * ((share p q : EReal) * (if a = finProdFinEquiv (m := 8) (n := 4) (c, l) then 1 else 0)
      + (share q p : EReal) * (if b = finProdFinEquiv (m := 8) (n := 4) (c, l) then 1 else 0)) := by
  pointwise [scaled, gate]
  rw [(w_apply s ix t a b ha hb p q hp hq).1, (w_apply s ix t a b ha hb p q hp hq).2, hit_apply c l (e0 ix) t a (by pointwise [e0]; exact ha),
    hit_apply c l (e1 ix) t b (by pointwise [e1]; exact hb)]

/-- A chunk's part at one element: over the device's four experts, the scaled token times the expert's column. -/
theorem chunkV_apply (v : BitVec 32) (t : Fin 256) (h : Fin 1024) :
    chunkV s ix v w x (ix2 t h) = ∑ l : Fin 4, ∑ d : Fin 512, scaled s ix v (BitVec.ofNat 32 l.val) x (ix2 t d) * w (ix3 l d h) := by
  pointwise [chunkV]
  refine (sum_quot_rem 4 512 _).trans (Finset.sum_congr rfl fun l _ => Finset.sum_congr rfl fun d _ => ?_)
  have hv : (finProdFinEquiv (l, d)).val = d.val + 512 * l.val := rfl
  have hd := d.isLt
  have h1 : (⟨(finProdFinEquiv (l, d)).val / 512, by have := (finProdFinEquiv (l, d)).isLt; omega⟩ : Fin 4) = l := Fin.ext (by show _ / 512 = _; rw [hv]; omega)
  have h2 : (⟨(finProdFinEquiv (l, d)).val % 512, Nat.mod_lt _ (by decide)⟩ : Fin 512) = d := Fin.ext (by show _ % 512 = _; rw [hv]; omega)
  rw [h1, h2]
  congr 1
  have go : ∀ (n : BitVec 32) (q : ℕ) (hq : q < 512), n = BitVec.ofNat 32 l.val → q = d.val →
      scaled s ix v n x (ix2 t ⟨q, hq⟩) = scaled s ix v (BitVec.ofNat 32 l.val) x (ix2 t d) := by
    rintro n q hq rfl rfl; rfl
  have hl := l.isLt
  have e : ∀ n, l.val = n → BitVec.ofNat 32 n = BitVec.ofNat 32 l.val := fun n hn => by rw [hn]
  by_cases g1 : (finProdFinEquiv (l, d)).val < 512
  · rw [dif_pos g1]
    exact go _ _ _ (e 0 (by omega)) (by omega)
  rw [dif_neg g1]
  by_cases g2 : (finProdFinEquiv (l, d)).val - 512 < 512
  · rw [dif_pos g2]
    exact go _ _ _ (e 1 (by omega)) (by omega)
  rw [dif_neg g2]
  by_cases g3 : (finProdFinEquiv (l, d)).val - 512 - 512 < 512
  · rw [dif_pos g3]
    exact go _ _ _ (e 2 (by omega)) (by omega)
  rw [dif_neg g3]
  exact go _ _ _ (e 3 (by omega)) (by omega)
end

/-- The row of token `t` of chunk `k`. -/
def rowOf (k : Fin 8) (t : Fin 256) : Fin 2048 := ⟨256 * k.val + t.val, by omega⟩

/-- A chunk's rows of the scores. -/
theorem rowsS_apply (f : Vec Ideal S2048x32 .f32) (k : Fin 8) (t : Fin 256) (e : Fin 32) : rowsS f k (ix2 t e) = f (ix2 (rowOf k t) e) := by
  show f _ = f _
  refine congrArg f (funext fun a => Fin.ext ?_)
  match a with
  | ⟨0, _⟩ => show 256 * k.val + 1 * t.val = 256 * k.val + t.val; omega
  | ⟨1, _⟩ => show 0 + 1 * e.val = e.val; omega
/-- A chunk's rows of the choices. -/
theorem rowsI_apply (f : Vec Ideal S2048x2 .i32) (k : Fin 8) (t : Fin 256) (e : Fin 2) : rowsI f k (ix2 t e) = f (ix2 (rowOf k t) e) := by
  show f _ = f _
  refine congrArg f (funext fun a => Fin.ext ?_)
  match a with
  | ⟨0, _⟩ => show 256 * k.val + 1 * t.val = 256 * k.val + t.val; omega
  | ⟨1, _⟩ => show 0 + 1 * e.val = e.val; omega
/-- A chunk's rows of the tokens. -/
theorem rowsX_apply (f : Vec Ideal S2048x512 .bf16) (k : Fin 8) (t : Fin 256) (e : Fin 512) : rowsX f k (ix2 t e) = f (ix2 (rowOf k t) e) := by
  show f _ = f _
  refine congrArg f (funext fun a => Fin.ext ?_)
  match a with
  | ⟨0, _⟩ => show 256 * k.val + 1 * t.val = 256 * k.val + t.val; omega
  | ⟨1, _⟩ => show 0 + 1 * e.val = e.val; omega

/-- A device's part of a chunk at one element. -/
theorem parts_apply (I : Ins Ideal) (c : Dev nD) (k : Fin 8) (t : Fin 256) (h : Fin 1024) (a b : Fin 32)
    (ha : I.ix c (ix2 (rowOf k t) 0) = BitVec.ofNat 32 a.val) (hb : I.ix c (ix2 (rowOf k t) 1) = BitVec.ofNat 32 b.val)
    (s : Fin 32 → ℝ) (hs : ∀ e, score (I.x c) (I.r c) (rowOf k t) e = (s e : EReal)) :
    parts I c k (ix2 t h) = ∑ l : Fin 4, ∑ d : Fin 512, I.x c (ix2 (rowOf k t) d)
      * ((share (s a) (s b) : EReal) * (if a = finProdFinEquiv (m := 8) (n := 4) (c, l) then 1 else 0)
        + (share (s b) (s a) : EReal) * (if b = finProdFinEquiv (m := 8) (n := 4) (c, l) then 1 else 0)) * I.w c (ix3 l d h) := by
  have hsc : ∀ e, rowsS (scores I c) k (ix2 t e) = (s e : EReal) := fun e => by
    rw [rowsS_apply]
    refine Eq.trans ?_ (hs e)
    pointwise [scores, k0_pay1, score]
  unfold parts
  rw [chunkV_apply]
  refine Finset.sum_congr rfl fun l _ => Finset.sum_congr rfl fun d _ => ?_
  rw [scaled_apply _ _ _ c l t a b (by rw [rowsI_apply]; exact ha) (by rw [rowsI_apply]; exact hb) (s a) (s b) (hsc a) (hsc b), rowsX_apply]

/-! ## The sum of the devices' parts -/

/-- The devices a piece's sum runs through, in the order they are added: the owner's ring, then the mirror's. -/
def path (t : Fin 16) : List (Dev nD) :=
  let c := ownerOf t
  let d := dOf (keepI c ⟨t.val % 2, Nat.mod_lt _ (by decide)⟩)
  let m := nb 2 c
  [pb d (pb d (pb d c)), pb d (pb d c), pb d c, c, pb d (pb d (pb d m)), pb d (pb d m), pb d m, m]

/-- A piece's sum runs through every device once. -/
theorem path_perm (t : Fin 16) : (path t).Perm (List.finRange 8) := by revert t; decide +kernel

/-- The chunk a piece lies in. -/
def chunkOf (t : Fin 16) : Fin 8 := ⟨t.val / 2, by omega⟩

/-- Every device on a piece's path adds its part of the same chunk, the same half of it. -/
theorem path_chunk (t : Fin 16) :
    let h : Fin 2 := ⟨t.val % 2, Nat.mod_lt _ (by decide)⟩
    let i := keepI (ownerOf t) h
    hOf i = h ∧ ∀ c : Dev nD, c = ownerOf t ∨ c = nb 2 (ownerOf t) →
      firstC (pb (dOf i) (pb (dOf i) (pb (dOf i) c))) (dOf i) = chunkOf t ∧ accC (pb (dOf i) (pb (dOf i) c)) (dOf i) 0 = chunkOf t
        ∧ accC (pb (dOf i) c) (dOf i) 1 = chunkOf t ∧ accC c (dOf i) 2 = chunkOf t := by
  revert t; decide +kernel

/-- A finished piece is the sum of the eight devices' parts. -/
theorem pieceV_sum (P : Parts Ideal) (t : Fin 16) (y : S128x1024.Idx) :
    pieceV P t y = ∑ c : Fin 8, P c (chunkOf t) ((halfR ⟨t.val % 2, Nat.mod_lt _ (by decide)⟩).emb y) := by
  obtain ⟨hh, hc⟩ := path_chunk t
  rw [Fin.sum_univ_def, ← ((path_perm t).map _).sum_eq]
  obtain ⟨a0, a1, a2, a3⟩ := hc _ (Or.inl rfl)
  obtain ⟨b0, b1, b2, b3⟩ := hc _ (Or.inr rfl)
  unfold pieceV ownV
  simp only [rsV, path, List.map_cons, List.map_nil, List.sum_cons, List.sum_nil, add_zero]
  rw [a0, a1, a2, a3, b0, b1, b2, b3, hh]
  simp only [addB, half, addf_apply, Ideal.addf_def, add_assoc]

/-- The result at one element: the sum of the eight devices' parts of the element's chunk. -/
theorem outV_apply (P : Parts Ideal) (k : Fin 8) (t : Fin 256) (h : Fin 1024) : outV P (ix2 (rowOf k t) h) = ∑ c : Fin 8, P c k (ix2 t h) := by
  let r : Fin 16 := ⟨2 * k.val + t.val / 128, by omega⟩
  let y : S128x1024.Idx := ix2 ⟨t.val % 128, Nat.mod_lt _ (by decide)⟩ h
  have hy : (pieceR r).emb y = ix2 (rowOf k t) h := funext fun a => Fin.ext (match a with
    | ⟨0, _⟩ => by show 128 * (2 * k.val + t.val / 128) + 1 * (t.val % 128) = 256 * k.val + t.val; omega
    | ⟨1, _⟩ => by show 0 + 1 * h.val = h.val; omega)
  rw [← hy, outV_emb, pieceV_sum]
  have hk : chunkOf r = k := Fin.ext (by show (2 * k.val + t.val / 128) / 2 = k.val; omega)
  have hx : (halfR ⟨r.val % 2, Nat.mod_lt _ (by decide)⟩).emb y = ix2 t h := funext fun a => Fin.ext (match a with
    | ⟨0, _⟩ => by show 128 * ((2 * k.val + t.val / 128) % 2) + 1 * (t.val % 128) = t.val; omega
    | ⟨1, _⟩ => by show 0 + 1 * h.val = h.val; omega)
  rw [hk, hx]

/-- The kernel's result at token `t` of chunk `k`, column `h`, every device given the same tokens, router's matrix and
    choices, and its four experts' matrices: the two chosen experts' products, each times its share between the two. -/
theorem out_apply (I : Ins Ideal) (X : Vec Ideal S2048x512 .bf16) (R : Vec Ideal S512x32 .bf16) (J : Vec Ideal S2048x2 .i32) (W : FVec Ideal (⟨3, ![32, 512, 1024]⟩ : Shape) .bf16)
    (hx : ∀ c, I.x c = X) (hr : ∀ c, I.r c = R) (hj : ∀ c, I.ix c = J)
    (hw : ∀ c l d h, I.w c (ix3 l d h) = W (ix3 (finProdFinEquiv (m := 8) (n := 4) (c, l)) d h))
    (k : Fin 8) (t : Fin 256) (h : Fin 1024) (a b : Fin 32)
    (ha : J (ix2 (rowOf k t) 0) = BitVec.ofNat 32 a.val) (hb : J (ix2 (rowOf k t) 1) = BitVec.ofNat 32 b.val)
    (s : Fin 32 → ℝ) (hs : ∀ e, score X R (rowOf k t) e = (s e : EReal)) :
    outV (parts I) (ix2 (rowOf k t) h) = (share (s a) (s b) : EReal) * (∑ d : Fin 512, X (ix2 (rowOf k t) d) * W (ix3 a d h))
      + (share (s b) (s a) : EReal) * (∑ d : Fin 512, X (ix2 (rowOf k t) d) * W (ix3 b d h)) := by
  rw [outV_apply, ← sum_gated _ _ (share_nonneg _ _) (share_nonneg _ _) a b (fun d => X (ix2 (rowOf k t) d)) (fun e d => W (ix3 e d h))]
  refine Eq.trans (Finset.sum_congr rfl fun c _ => ?_) (sum_quot_rem 8 4 _).symm
  rw [parts_apply I c k t h a b (by rw [hj]; exact ha) (by rw [hj]; exact hb) s (fun e => by rw [hx, hr]; exact hs e)]
  simp only [hx, hw]

end Cert.Run

end
-- ==== Proof.Reference.lean ====
/-
What the reference computes, element by element, for real tokens and a real router's matrix and chosen experts in range.
-/
module

public import proofs.«01_k».proof.Proof.Arith
public import proofs.«01_k».proof.Proof.Gen.ReferenceIdeal.Run

@[expose] public section

set_option maxRecDepth 16384

noncomputable section

namespace Cert.Run.Ref

open Cert.ReferenceIdeal Cert.ReferenceIdeal.Gen
open Idealize.ShloMosaic
open Idealize.ShloMosaic.TcCoe

/-! ## The reference's stages -/

section
variable (X : FVec Ideal S2048x512 .bf16) (R : FVec Ideal S512x32 .bf16) (I : IVec S2048x2 32) (W : FVec Ideal S32x512x1024 .bf16)

/-- The tokens' scores, less each token's largest one, exponentiated, and divided by their sum. -/
def scr : FVec Ideal S2048x32 .f32 :=
  Host.dotGeneral dot_S2048x512_S512x32_S2048x32_1_0_0_1_n_n none (extf .f32 X bitsLt_bf16_f32) (extf .f32 R bitsLt_bf16_f32)
def ups : FVec Ideal S2048x32 .f32 :=
  Host.exp (subf (scr X R) (broadcastInDim S2048x32 ![0, 1] bcast_S2048x1_S2048x32_0_1 (broadcastInDim S2048x1 ![0] bcast_S2048_S2048x1_0
    (Host.reduce FloatOps.maximumf (scr X R) (constant S_ .f32 0xFF800000#32) reducesTo_S2048x32_S2048_d1 h_S_))))
def probs : FVec Ideal S2048x32 .f32 :=
  Host.divf (ups X R) (broadcastInDim S2048x32 ![0, 1] bcast_S2048x1_S2048x32_0_1 (broadcastInDim S2048x1 ![0] bcast_S2048_S2048x1_0
    (Host.reduceAdd (ups X R) (constant S_ .f32 0x00000000#32) reducesTo_S2048x32_S2048_d1 h_S_)))

/-- A column of indices below zero counted from the end, as a column of one-entry rows. -/
def wrapped (n : BitVec 32) (e : IVec S2048 32) : IVec S2048x1 32 :=
  broadcastInDim S2048x1 ![0] bcast_S2048_S2048x1_0 (select (cmpi .slt e (broadcastInDim S2048 ![] bcast_S_S2048 (constantI S_ 32 0#32)))
    (addi e (broadcastInDim S2048 ![] bcast_S_S2048 (constantI S_ 32 n))) e)

/-- The two chosen experts of every token. -/
def c0 : IVec S2048 32 := shapeCast _ (extractStridedSlice S2048x1 ![0, 0] I slices_S2048x2_S2048x1_0_0) shapeCasts_S2048x1_S2048
def c1 : IVec S2048 32 := shapeCast _ (extractStridedSlice S2048x1 ![0, 1] I slices_S2048x2_S2048x1_0_1) shapeCasts_S2048x1_S2048

/-- The chosen expert's share of every token, and the chosen expert's product. -/
def got (e : IVec S2048 32) : FVec Ideal S2048 .f32 :=
  Host.gather gather_S2048x32_S2048x2_S2048_n_01_n_n_01_1_11 (probs X R)
    (concatenate S2048x2 1 [⟨S2048x1, wrapped 2048#32 (iotaInDim S2048 32 0)⟩, ⟨S2048x1, wrapped 32#32 e⟩] concatenates_S2048x1_S2048x1_S2048x2_d1)
def prodE (e : IVec S2048 32) : FVec Ideal S2048x1024 .f32 :=
  Host.dotGeneral dot_S2048x512_S2048x512x1024_S2048x1024_1_1_n_2_0_0 none (extf .f32 X bitsLt_bf16_f32)
    (Host.gather gather_S32x512x1024_S2048x1_S2048x512x1024_12_0_n_n_0_1_15121024 (extf .f32 W bitsLt_bf16_f32) (wrapped 32#32 e))
def wtd (e : IVec S2048 32) : FVec Ideal S2048x1024 .f32 :=
  mulf (broadcastInDim S2048x1024 ![0, 1] bcast_S2048x1_S2048x1024_0_1 (broadcastInDim S2048x1 ![0] bcast_S2048_S2048x1_0
    (Host.divf (got X R e) (addf (got X R (c0 I)) (got X R (c1 I)))))) (prodE X W e)
def res : FVec Ideal S2048x1024 .bf16 := truncf .bf16 (addf (wtd X R I W (c0 I)) (wtd X R I W (c1 I))) bitsLt_bf16_f32
end

/-- The reference's result is those stages. -/
theorem res_eq (m : (ℓ : Loc nD τ sig) → Buf (Elt Ideal) ℓ) (c : Dev nD) :
    Value.res_out0 m c = res (m ((c.tc : Thread nD τ).loc main_arg0)) (m ((c.tc : Thread nD τ).loc main_arg1))
      (m ((c.tc : Thread nD τ).loc main_arg2)) (m ((c.tc : Thread nD τ).loc main_arg3)) := rfl

variable (X : FVec Ideal S2048x512 .bf16) (R : FVec Ideal S512x32 .bf16) (I : IVec S2048x2 32) (W : FVec Ideal S32x512x1024 .bf16)

/-- A small word read signed is its number. -/
theorem toInt_word {a : ℕ} (ha : a < 2 ^ 31) : (BitVec.ofNat 32 a).toInt = a := by
  rw [BitVec.toInt_eq_toNat_cond, BitVec.toNat_ofNat, Nat.mod_eq_of_lt (by omega), if_pos (by omega)]

/-- A word below zero counted from the end: a word of the range is kept. -/
theorem wrap_word (N : ℕ) (hN : N ≤ 2 ^ 31) (n : BitVec 32) (a : ℕ) (ha : a < N) :
    Scalar.select (IntOp.cmpi .slt (BitVec.ofNat 32 a) 0#32) (IntOp.addi (BitVec.ofNat 32 a) n) (BitVec.ofNat 32 a) = BitVec.ofNat 32 a := by
  have h : IntOp.cmpi CmpIPredicate.slt (BitVec.ofNat 32 a) 0#32 = 0#1 := by
    have h0 : (BitVec.ofNat 32 a).slt 0#32 = false := by
      rw [BitVec.slt, toInt_word (by omega), decide_eq_false_iff_not]
      exact not_lt.mpr (Int.natCast_nonneg a)
    show BitVec.ofBool ((BitVec.ofNat 32 a).slt 0#32) = 0#1
    rw [h0]; rfl
  rw [h]; rfl

/-- A column of expert numbers, and of row numbers, comes through unchanged. -/
theorem wrapped_apply (N : ℕ) (hN : N ≤ 2 ^ 31) (n : BitVec 32) (e : IVec S2048 32) (a : Fin 2048 → Fin N)
    (he : ∀ t, e (ix1 t) = BitVec.ofNat 32 (a t).val) (t : Fin 2048) (z : Fin 1) : wrapped n e (ix2 t z) = BitVec.ofNat 32 (a t).val := by
  pointwise [wrapped]
  rw [he]
  exact wrap_word N hN n _ (a t).isLt

/-- A word that is a number below `N` is read as that number by a gather, which clamps to `N - 1`. -/
theorem toNat_word (N : ℕ) (hN : N ≤ 2 ^ 31) (a : Fin N) : min (BitVec.ofNat 32 a.val).toInt.toNat (N - 1) = a.val := by
  have := a.isLt
  rw [toInt_word (by omega)]; omega

/-- The share of the expert `a t` names for token `t`. -/
theorem got_apply (e : IVec S2048 32) (a : Fin 2048 → Fin 32) (he : ∀ t, e (ix1 t) = BitVec.ofNat 32 (a t).val) (t : Fin 2048) :
    got X R e (ix1 t) = probs X R (ix2 t (a t)) := by
  unfold got Host.gather
  refine congrArg (probs X R) (funext fun ax => Fin.ext ?_)
  have hw0 := wrapped_apply 2048 (by decide) 2048#32 (iotaInDim S2048 32 0) id (fun _ => rfl)
  have hw1 := wrapped_apply 32 (by decide) 32#32 e a he
  generalize hidx : concatenate S2048x2 1 [⟨S2048x1, wrapped 2048#32 (iotaInDim S2048 32 0)⟩, ⟨S2048x1, wrapped 32#32 e⟩] concatenates_S2048x1_S2048x1_S2048x2_d1 = idx
  have hi0 : idx (ix2 t 0) = BitVec.ofNat 32 t.val := by rw [← hidx]; pointwise; exact hw0 t 0
  have hi1 : idx (ix2 t 1) = BitVec.ofNat 32 (a t).val := by rw [← hidx]; pointwise; exact hw1 t 0
  have hs : ∀ z : Fin 2, (gather_S2048x32_S2048x2_S2048_n_01_n_n_01_1_11).siIdx (ix1 t) z = ix2 t z := fun z => funext fun b => match b with
    | ⟨0, _⟩ => rfl
    | ⟨1, _⟩ => rfl
  match ax with
  | ⟨0, _⟩ =>
    refine Eq.trans ?_ (toNat_word 2048 (by decide) t)
    rw [← hi0]
    exact congrArg (fun q => min (idx q).toInt.toNat 2047) (hs 0)
  | ⟨1, _⟩ =>
    refine Eq.trans ?_ (toNat_word 32 (by decide) (a t))
    rw [← hi1]
    exact congrArg (fun q => min (idx q).toInt.toNat 31) (hs 1)

/-- The product of token `t` with its expert's matrix. -/
theorem prodE_apply (e : IVec S2048 32) (a : Fin 2048 → Fin 32) (he : ∀ t, e (ix1 t) = BitVec.ofNat 32 (a t).val) (t : Fin 2048) (h : Fin 1024) :
    prodE X W e (ix2 t h) = ∑ d : Fin 512, X (ix2 t d) * W (ix3 (a t) d h) := by
  have hg : ∀ d : Fin 512, Host.gather gather_S32x512x1024_S2048x1_S2048x512x1024_12_0_n_n_0_1_15121024 (extf .f32 W bitsLt_bf16_f32)
      (wrapped 32#32 e) (ix3 t d h) = W (ix3 (a t) d h) := by
    intro d
    unfold Host.gather
    show W _ = W _
    refine congrArg W (funext fun ax => Fin.ext ?_)
    have hw1 := wrapped_apply 32 (by decide) 32#32 e a he
    match ax with
    | ⟨0, _⟩ =>
      refine Eq.trans ?_ (toNat_word 32 (by decide) (a t))
      rw [← hw1 t 0]
      exact congrArg (fun q => min (wrapped 32#32 e q).toInt.toNat 31) (funext fun b => match b with
        | ⟨0, _⟩ => rfl
        | ⟨1, _⟩ => rfl)
    | ⟨1, _⟩ => exact Nat.zero_add _
    | ⟨2, _⟩ => exact Nat.zero_add _
  pointwise [prodE]
  exact Finset.sum_congr rfl fun d _ => by rw [hg d]

/-- The reference's scores, one by one. -/
theorem scr_apply (t : Fin 2048) (e : Fin 32) : scr X R (ix2 t e) = score X R t e := by
  pointwise [scr, score]

/-- Where the scores of a token are real numbers, so are their shares' numerators, less one real number, and divisor. -/
theorem probs_apply (t : Fin 2048) (s : Fin 32 → ℝ) (hs : ∀ e, score X R t e = (s e : EReal)) :
    ∃ M Z : ℝ, 0 < Z ∧ ∀ e, probs X R (ix2 t e) = Ideal.div (Ideal.exp ((s e : EReal) - (M : EReal))) (Z : EReal) := by
  obtain ⟨M, hM⟩ := fold_max_real s
  have hu : ∀ e, ups X R (ix2 t e) = Ideal.exp ((s e : EReal) - (M : EReal)) := by
    intro e
    have hb : Ideal.ofBits FTy.f32 4286578688#32 = (⊥ : EReal) := by simp [Ideal.ofBits, Ideal.ieee]
    pointwise [ups]
    simp only [scr_apply, hs, hb, hM]
  refine ⟨M, ∑ e, Real.exp (s e - M), Finset.sum_pos (fun e _ => Real.exp_pos _) Finset.univ_nonempty, fun e => ?_⟩
  pointwise [probs]
  simp only [hu, ← EReal.coe_sub, exp_real, coe_sum]

/-- The reference's result at token `t`, column `h`: the two chosen experts' products, each times its share between the two. -/
theorem res_apply (a b : Fin 2048 → Fin 32) (ha : ∀ t, I (ix2 t 0) = BitVec.ofNat 32 (a t).val) (hb : ∀ t, I (ix2 t 1) = BitVec.ofNat 32 (b t).val)
    (t : Fin 2048) (s : Fin 32 → ℝ) (hs : ∀ e, score X R t e = (s e : EReal)) (h : Fin 1024) :
    res X R I W (ix2 t h) = (share (s (a t)) (s (b t)) : EReal) * (∑ d : Fin 512, X (ix2 t d) * W (ix3 (a t) d h))
      + (share (s (b t)) (s (a t)) : EReal) * (∑ d : Fin 512, X (ix2 t d) * W (ix3 (b t) d h)) := by
  obtain ⟨M, Z, hZ, hp⟩ := probs_apply X R t s hs
  have h0 : ∀ t, c0 I (ix1 t) = BitVec.ofNat 32 (a t).val := fun t => by pointwise [c0]; exact ha t
  have h1 : ∀ t, c1 I (ix1 t) = BitVec.ofNat 32 (b t).val := fun t => by pointwise [c1]; exact hb t
  pointwise [res, wtd]
  rw [got_apply X R _ a h0, got_apply X R _ b h1, prodE_apply X W _ a h0, prodE_apply X W _ b h1, hp, hp,
    share_normed _ _ M Z hZ, add_comm (Ideal.div (Ideal.exp ((s (a t) : EReal) - _)) _), share_normed _ _ M Z hZ]

end Cert.Run.Ref

end
-- ==== Proof.Frames.lean ====
/-
The frame of the kernel, from the run of the whole mesh: every execution ends, the arguments are kept, and every counter
ends at zero.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_finite_and_in_range_KernelIdeal
public import proofs.«01_k».proof.Proof.Gen.Pre_finite_and_in_range_ReferenceIdeal

@[expose] public section

noncomputable section

namespace Cert.Run

open Idealize.ShloMosaic Idealize.SL.Sem

/-- The frame over any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) :=
  (θ_run Cert.KernelIdeal.defs _ _).mono (fun _ h => ⟨fun c => kept m ρ h.1 c, h.2⟩) (run_main m ρ)

/-- The kernel over the extended reals. -/
theorem frame_ideal : Cert.quiescent_KernelIdeal := fun m ρ _ => frame_any m ρ

/-- The same, of inputs that satisfy the precondition. -/
theorem frame_ideal_pre : Cert.quiescent_KernelIdeal_pre_finite_and_in_range_KernelIdeal := fun m ρ _ => frame_any m ρ

/-- The two programs have one text, and so one table of bodies. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨_ | n, h⟩ := l
  · obtain ⟨t, s⟩ := a
    rfl
  · exact absurd h (Nat.not_lt.2 (Nat.le_add_left _ _))
/-- The two programs have the same definitions. -/
theorem defs_eq : Cert.Kernel.defs (F := Bits) = Cert.KernelIdeal.defs (F := Bits) :=
  congrArg (Pipeline.defs Cert.KernelIdeal.pcfgs) defs₀_eq

/-- The kernel over the machine's floats: the same run. -/
theorem frame_kernel : Cert.quiescent_Kernel := fun m ρ _ => by
  have h := frame_any (F := Bits) m ρ
  rw [← defs_eq] at h
  exact h

/-- The reference. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run m ρ)
/-- The reference under the precondition. -/
theorem frame_reference_pre : Cert.quiescent_ReferenceIdeal_pre_finite_and_in_range_ReferenceIdeal := fun m ρ _ =>
  frame_reference m ρ trivial

end Cert.Run

end
-- ==== Proof.Equation.lean ====
/-
The value equation: at the end every device's result is the reference's.
-/
module

public import proofs.«01_k».proof.Proof.Values
public import proofs.«01_k».proof.Proof.Reference
public import proofs.«01_k».proof.Proof.Frames
public import Idealize.ShloMosaic.Lib.Pipeline.ValueKit.Geometry
public import Idealize.ShloMosaic.Lib.ReduceAll
public import Idealize.ShloMosaic.Lib.Affine

@[expose] public section

set_option maxRecDepth 16384

noncomputable section

namespace Cert.Run

open Cert.KernelIdeal Cert.KernelIdeal.Gen

open Idealize.ShloMosaic
open Idealize.ShloMosaic.TcCoe

/-! ## What the precondition says -/

/-- A number of magnitude below infinity is real. -/
theorem real_of_lt (x : EReal) (h : Ideal.cmp .olt (max x (-x)) (Ideal.ofBits .bf16 0x7F80#16) = 1#1) : ∃ r : ℝ, x = (r : EReal) := by
  have ht : Ideal.ofBits .bf16 0x7F80#16 = (⊤ : EReal) := by simp [Ideal.ofBits, Ideal.ieee]
  rw [ht] at h
  induction x with
  | bot => simp [Ideal.cmp] at h
  | top => simp [Ideal.cmp] at h
  | coe r => exact ⟨r, rfl⟩

/-- A word from 0 to 31 is the word of such a number. -/
theorem word_of_range (x : BitVec 32) (h0 : IntOp.cmpi .sge x 0#32 = 1#1) (h1 : IntOp.cmpi .slt x 32#32 = 1#1) : ∃ a : Fin 32, x = BitVec.ofNat 32 a.val := by
  have h0' : (0#32 : BitVec 32).toInt ≤ x.toInt := (IntOp.cmpi_sge).1 h0
  have h1' : x.toInt < (32#32 : BitVec 32).toInt := (IntOp.cmpi_slt).1 h1
  have e0 : (0#32 : BitVec 32).toInt = 0 := by decide
  have e1 : (32#32 : BitVec 32).toInt = 32 := by decide
  have hx := BitVec.toInt_eq_toNat_cond x
  have hl := x.isLt
  have hn : x.toNat < 32 := by split at hx <;> omega
  exact ⟨⟨x.toNat, hn⟩, BitVec.eq_of_toNat_eq (by rw [BitVec.toNat_ofNat, Nat.mod_eq_of_lt hl])⟩

/-- The precondition: the tokens and the router's matrix are real numbers, and every choice is one of the 32 experts. -/
theorem pre_says (X : FVec Ideal S2048x512 .bf16) (R : FVec Ideal S512x32 .bf16) (J : IVec S2048x2 32) (W : FVec Ideal S4x512x1024 .bf16)
    (h : Cert.Pre_finite_and_in_range_KernelIdeal.fn (F := Ideal) X R J W = fun _ => 1#1) :
    (∀ j, ∃ r : ℝ, X j = (r : EReal)) ∧ (∀ j, ∃ r : ℝ, R j = (r : EReal)) ∧ ∀ j, ∃ a : Fin 32, J j = BitVec.ofNat 32 a.val := by
  have h := congrFun h ix0
  dsimp only [Cert.Pre_finite_and_in_range_KernelIdeal.fn, Cert.Pre_finite_and_in_range_KernelIdeal.fn_part1] at h
  obtain ⟨h, h3⟩ := IntOp.andi_eq_one.1 h
  obtain ⟨h, h2⟩ := IntOp.andi_eq_one.1 h
  obtain ⟨h0, h1⟩ := IntOp.andi_eq_one.1 h
  exact ⟨fun j => real_of_lt _ (Host.reduce_andi_all _ _ _ _ _ h0 j), fun j => real_of_lt _ (Host.reduce_andi_all _ _ _ _ _ h1 j),
    fun j => word_of_range _ (Host.reduce_andi_all _ _ _ _ _ h2 j) (Host.reduce_andi_all _ _ _ _ _ h3 j)⟩

/-! ## What the arrays hold -/

section
variable (m : (ℓ : Loc nD τ sig) → Buf (Elt Ideal) ℓ) (ρ : Dev nD → PrngReg)

/-- The inputs the devices compute from are the arguments' contents: a window's one block is its whole array. -/
theorem ins_x (c : Dev nD) : (ins m ρ).x c = m ((c : Thread nD τ).loc main_arg0) := by
  funext j
  show m ((c : Thread nD τ).loc main_arg0) _ = _
  refine congrArg (m ((c : Thread nD τ).loc main_arg0)) (funext fun a => Fin.ext ?_)
  exact Pipeline.Window.rect_emb_val_of_index_zero win0_0 t₀ (a := a) (by revert a; decide +kernel) j
/-- The same of the router's matrix. -/
theorem ins_r (c : Dev nD) : (ins m ρ).r c = m ((c : Thread nD τ).loc main_arg1) := by
  funext j
  show m ((c : Thread nD τ).loc main_arg1) _ = _
  refine congrArg (m ((c : Thread nD τ).loc main_arg1)) (funext fun a => Fin.ext ?_)
  exact Pipeline.Window.rect_emb_val_of_index_zero win0_1 t₀ (a := a) (by revert a; decide +kernel) j
/-- The same of the choices. -/
theorem ins_ix (c : Dev nD) : (ins m ρ).ix c = m ((c : Thread nD τ).loc main_arg2) := by
  funext j
  show m ((c : Thread nD τ).loc main_arg2) _ = _
  refine congrArg (m ((c : Thread nD τ).loc main_arg2)) (funext fun a => Fin.ext ?_)
  exact Pipeline.Window.rect_emb_val_of_index_zero win0_2 t₀ (a := a) (by revert a; decide +kernel) j
/-- The same of the experts' matrices. -/
theorem ins_w (c : Dev nD) : (ins m ρ).w c = m ((c : Thread nD τ).loc main_arg3) := by
  funext j
  show m ((c : Thread nD τ).loc main_arg3) _ = _
  refine congrArg (m ((c : Thread nD τ).loc main_arg3)) (funext fun a => Fin.ext ?_)
  exact Pipeline.Window.rect_emb_val_of_index_zero win0_3 t₀ (a := a) (by revert a; decide +kernel) j

/-- The result's array ends at the sums the devices formed. -/
theorem final_out (c : Dev nD) : finalA m ρ c 4 = outV (prt m ρ) :=
  (dats m ρ 0 c).arrAt_eq_of_after_last 4 t₀ (by decide +kernel) _ (fun j => rfl)

end

/-! ## The two results are one -/

/-- Token `t` is a token of a chunk. -/
theorem rowOf_split (t : Fin 2048) : ∃ (k : Fin 8) (q : Fin 256), t = rowOf k q :=
  ⟨⟨t.val / 256, by omega⟩, ⟨t.val % 256, Nat.mod_lt _ (by decide)⟩, Fin.ext (by show t.val = 256 * (t.val / 256) + t.val % 256; omega)⟩

/-- The kernel's result is the reference's, for real tokens and a real router's matrix and choices among the 32 experts. -/
theorem out_eq_ref (I : Ins Ideal) (X : Vec Ideal S2048x512 .bf16) (R : Vec Ideal S512x32 .bf16) (J : Vec Ideal S2048x2 .i32) (W : FVec Ideal (⟨3, ![32, 512, 1024]⟩ : Shape) .bf16)
    (hx : ∀ c, I.x c = X) (hr : ∀ c, I.r c = R) (hj : ∀ c, I.ix c = J)
    (hw : ∀ c l d h, I.w c (ix3 l d h) = W (ix3 (finProdFinEquiv (m := 8) (n := 4) (c, l)) d h))
    (hX : ∀ j, ∃ r : ℝ, X j = (r : EReal)) (hR : ∀ j, ∃ r : ℝ, R j = (r : EReal)) (hJ : ∀ j, ∃ a : Fin 32, J j = BitVec.ofNat 32 a.val) :
    outV (parts I) = Ref.res X R J W := by
  choose a ha using fun t : Fin 2048 => hJ (ix2 t 0)
  choose b hb using fun t : Fin 2048 => hJ (ix2 t 1)
  funext j
  obtain ⟨t, h, rfl⟩ : ∃ (t : Fin 2048) (h : Fin 1024), j = ix2 t h := ⟨j 0, j 1, eq_ix2 j⟩
  obtain ⟨k, q, rfl⟩ := rowOf_split t
  obtain ⟨s, hs⟩ := score_real X R hX hR (rowOf k q)
  rw [out_apply I X R J W hx hr hj hw k q h (a _) (b _) (ha _) (hb _) s hs]
  exact (Ref.res_apply X R J W a b ha hb (rowOf k q) s hs h).symm

/-- The value equation. -/
theorem algebraic : Cert.algebraic_KernelIdeal_ReferenceIdeal_pre_finite_and_in_range_KernelIdeal
    (hPre_finite_and_in_range_KernelIdeal := Cert.Pre_finite_and_in_range_KernelIdeal.Gen.facts) := by
  intro m g m' g' hpre hag
  refine ⟨Cert.ReferenceIdeal.Value.res_out0 m' 0, ?_, ?_⟩
  · refine (θ_run _ _ _).mono (fun r h c => ⟨?_, kept m g h.1 c⟩) (run_main m g)
    refine (h.1 c 4).trans ((final_out m g c).trans ?_)
    rw [Ref.res_eq]
    obtain ⟨hX, hR, hJ⟩ := pre_says _ _ _ _ (hpre 0)
    obtain ⟨e0, e1, e2, -⟩ := hag 0
    rw [e0] at hX
    rw [e1] at hR
    rw [e2] at hJ
    refine out_eq_ref (ins m g) _ _ _ _ (fun c => (ins_x m g c).trans (hag c).1) (fun c => (ins_r m g c).trans (hag c).2.1)
      (fun c => (ins_ix m g c).trans (hag c).2.2.1) (fun c l d h => ?_) hX hR hJ
    rw [ins_w, (hag c).2.2.2, Layout.block_apply]
    refine congrArg _ (funext fun a => Fin.ext ?_)
    match a with
    | ⟨0, _⟩ => show c.val * 4 + l.val = l.val + 4 * c.val; omega
    | ⟨1, _⟩ => rfl
    | ⟨2, _⟩ => rfl
  · exact (θ_run _ _ _).mono (fun r h => h 0) (Cert.ReferenceIdeal.Value.run m' g')

end Cert.Run

end
-- ==== Proof.lean ====
/- The proof of the claims. -/
module

public import proofs.«01_k».proof.Defs
public import proofs.«01_k».proof.Proof.Equation

@[expose] public section

noncomputable section

namespace Cert.Proof

open Idealize.ShloMosaic Idealize.SL.Sem

/-- The claims: the frames of the kernel, of its ideal program and of the reference, that the ideal program is the kernel
over the extended reals, and that kernel and reference compute the same. -/
theorem claim : Cert.Claim := ⟨Cert.Kernel.Gen.facts, Cert.KernelIdeal.Gen.facts, Cert.ReferenceIdeal.Gen.facts,
  Cert.Pre_finite_and_in_range_KernelIdeal.Gen.facts, Cert.Pre_finite_and_in_range_ReferenceIdeal.Gen.facts,
  Cert.Run.frame_kernel, Cert.Run.frame_ideal, Cert.Run.frame_ideal_pre, Cert.Run.frame_reference, Cert.Run.frame_reference_pre,
  trivial, Cert.Run.algebraic⟩

end Cert.Proof

end
